-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S1000000x64 : Shape := ⟨2, ![1000000, 64]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S1000000x64 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S1000000x64 : Shape := ⟨2, ![1000000, 64]⟩
abbrev S16384 : Shape := ⟨1, ![16384]⟩
abbrev S64x1000000 : Shape := ⟨2, ![64, 1000000]⟩
abbrev S8x8x1000000 : Shape := ⟨3, ![8, 8, 1000000]⟩
abbrev S_ : Shape := ⟨0, ![]⟩
abbrev S8x8x1000064 : Shape := ⟨3, ![8, 8, 1000064]⟩
abbrev S16384x64 : Shape := ⟨2, ![16384, 64]⟩
abbrev S512 : Shape := ⟨1, ![512]⟩
abbrev S16 : Shape := ⟨1, ![16]⟩
abbrev S16x4x8x128 : Shape := ⟨4, ![16, 4, 8, 128]⟩
abbrev S16x64 : Shape := ⟨2, ![16, 64]⟩
abbrev S1 : Shape := ⟨1, ![1]⟩
abbrev S1x4x8x128 : Shape := ⟨4, ![1, 4, 8, 128]⟩
abbrev S4x8x128 : Shape := ⟨3, ![4, 8, 128]⟩
abbrev S1x64 : Shape := ⟨2, ![1, 64]⟩
abbrev S64 : Shape := ⟨1, ![64]⟩
abbrev S1x16 : Shape := ⟨2, ![1, 16]⟩

abbrev nBuf : Table → Nat
  | .hbm => 11
  | .local .scVector .vmem => 5
  | _ => 0

abbrev bufTy : (tb : Table) → Fin (nBuf tb) → BufTy
  | .hbm, ⟨0, _⟩ => ⟨S1000000x64, .f32⟩
  | .hbm, ⟨1, _⟩ => ⟨S16384, .i32⟩
  | .hbm, ⟨2, _⟩ => ⟨S64x1000000, .f32⟩
  | .hbm, ⟨3, _⟩ => ⟨S8x8x1000000, .f32⟩
  | .hbm, ⟨4, _⟩ => ⟨S_, .i32⟩
  | .hbm, ⟨5, _⟩ => ⟨S_, .f32⟩
  | .hbm, ⟨6, _⟩ => ⟨S8x8x1000064, .f32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S16, .i32⟩
  | .local .scVector .vmem, ⟨3, _⟩ => ⟨S16x4x8x128, .f32⟩
  | .local .scVector .vmem, ⟨4, _⟩ => ⟨S16x64, .f32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v2_scv : Ref sig .scVector := ⟨.hbm, 6, rfl⟩
abbrev main_v4_0_scv : Ref sig .scVector := ⟨.hbm, 8, rfl⟩
abbrev main_v4_1_scv : Ref sig .scVector := ⟨.hbm, 9, rfl⟩
abbrev main_v5_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_2 : BitVec 32 := 0#32
  let c32_i32 : BitVec 32 := 32#32
  let v9 : BitVec 32 := Scalar.addi c0_i32_2 c32_i32
  let c1_i32_3 : BitVec 32 := 1#32
  ⟨c0_i32_2, v9, c1_i32_3⟩
def k0_mult1 (k0_t1 : Fin k0_t1_loop.trips) : BitVec 32 :=
  let c0_i32_2 : BitVec 32 := 0#32
  let c1_i32_3 : BitVec 32 := 1#32
  let arg13 : BitVec 32 := Scf.iv c0_i32_2 c1_i32_3 k0_t1
  let c16_i32 : BitVec 32 := 16#32
  let v138 : BitVec 32 := Scalar.muli arg13 c16_i32
  v138
def k0_off2 (k0_t1 : Fin k0_t1_loop.trips) : Fin 1 → Nat :=
  let c0_i32_2 : BitVec 32 := 0#32
  let c1_i32_3 : BitVec 32 := 1#32
  let arg13 : BitVec 32 := Scf.iv c0_i32_2 c1_i32_3 k0_t1
  let c16_i32 : BitVec 32 := 16#32
  let v138 : BitVec 32 := Scalar.muli arg13 c16_i32
  let v139 : BitVec 32 := v138
  let v140 : Index := Scalar.indexCast v139
  ![v140.toNat]

def k0_chk1 (v7 : IVec S16 32) : Prop :=
  (∀ a x, ((![v7] : Fin 1 → IVec S16 32) a x).toNat < S16.size a)
theorem k0_idx1_inb : ∀ (v7 : IVec S16 32) (k0_hw1 : k0_chk1 v7), ∀ a x, ((![v7] : Fin 1 → IVec S16 32) a x).toNat < S16.size a := fun v7 k0_hw1 => k0_hw1
def k0_mult2 (v1733 : BitVec 32) : BitVec 32 :=
  let c_m128_i32 : BitVec 32 := 4294967168#32
  let v1734 : BitVec 32 := Scalar.andi v1733 c_m128_i32
  v1734
def k0_cond1 (v162 : BitVec 32) : BitVec 1 :=
  let c0_i32_93 : BitVec 32 := 0#32
  let v163 : BitVec 1 := Scalar.cmpi .sgt v162 c0_i32_93
  let v164 : BitVec 32 := Scalar.extui v163
  let c0_i32_94 : BitVec 32 := 0#32
  let v165 : BitVec 1 := Scalar.cmpi .ne v164 c0_i32_94
  v165

def k0_off3 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk3 (v162 : BitVec 32) (v1737 : BitVec 32) : Prop :=
  (∀ (k0_h1 : k0_cond1 v162 = 1#1), ∀ a, (k0_off3 v1737) a + S1x4x8x128.size a ≤ S16x4x8x128.size a)
theorem k0_off3_inb : ∀ (v162 : BitVec 32) (v1737 : BitVec 32) (k0_hw3 : k0_chk3 v162 v1737), ∀ (k0_h1 : k0_cond1 v162 = 1#1), ∀ a, (k0_off3 v1737) a + S1x4x8x128.size a ≤ S16x4x8x128.size a := fun v162 v1737 k0_hw3 k0_h1 => k0_hw3 k0_h1

def k0_off4 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk2 (v162 : BitVec 32) (v1733 : BitVec 32) : Prop :=
  (∀ (k0_h1 : k0_cond1 v162 = 1#1), 128 ∣ (k0_mult2 v1733).toNat) ∧
  (∀ (k0_h1 : k0_cond1 v162 = 1#1), ∀ a, (k0_off4 v1733) a + S4x8x128.size a ≤ S8x8x1000064.size a)
theorem k0_mult2_dvd : ∀ (v162 : BitVec 32) (v1733 : BitVec 32) (k0_hw2 : k0_chk2 v162 v1733), ∀ (k0_h1 : k0_cond1 v162 = 1#1), 128 ∣ (k0_mult2 v1733).toNat := fun v162 v1733 k0_hw2 k0_h1 => k0_hw2.1 k0_h1
theorem k0_off4_inb : ∀ (v162 : BitVec 32) (v1733 : BitVec 32) (k0_hw2 : k0_chk2 v162 v1733), ∀ (k0_h1 : k0_cond1 v162 = 1#1), ∀ a, (k0_off4 v1733) a + S4x8x128.size a ≤ S8x8x1000064.size a := fun v162 v1733 k0_hw2 k0_h1 => k0_hw2.2 k0_h1

def k0_mult3 (v1733 : BitVec 32) : BitVec 32 :=
  let c_m128_i32 : BitVec 32 := 4294967168#32
  let v1734 : BitVec 32 := Scalar.andi v1733 c_m128_i32
  v1734
def k0_cond2 (v167 : BitVec 32) : BitVec 1 :=
  let c0_i32_95 : BitVec 32 := 0#32
  let v168 : BitVec 1 := Scalar.cmpi .sgt v167 c0_i32_95
  let v169 : BitVec 32 := Scalar.extui v168
  let c0_i32_96 : BitVec 32 := 0#32
  let v170 : BitVec 1 := Scalar.cmpi .ne v169 c0_i32_96
  v170

def k0_off5 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk5 (v167 : BitVec 32) (v1737 : BitVec 32) : Prop :=
  (∀ (k0_h2 : k0_cond2 v167 = 1#1), ∀ a, (k0_off5 v1737) a + S1x4x8x128.size a ≤ S16x4x8x128.size a)
theorem k0_off5_inb : ∀ (v167 : BitVec 32) (v1737 : BitVec 32) (k0_hw5 : k0_chk5 v167 v1737), ∀ (k0_h2 : k0_cond2 v167 = 1#1), ∀ a, (k0_off5 v1737) a + S1x4x8x128.size a ≤ S16x4x8x128.size a := fun v167 v1737 k0_hw5 k0_h2 => k0_hw5 k0_h2

def k0_off6 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk4 (v167 : BitVec 32) (v1733 : BitVec 32) : Prop :=
  (∀ (k0_h2 : k0_cond2 v167 = 1#1), 128 ∣ (k0_mult3 v1733).toNat) ∧
  (∀ (k0_h2 : k0_cond2 v167 = 1#1), ∀ a, (k0_off6 v1733) a + S4x8x128.size a ≤ S8x8x1000064.size a)
theorem k0_mult3_dvd : ∀ (v167 : BitVec 32) (v1733 : BitVec 32) (k0_hw4 : k0_chk4 v167 v1733), ∀ (k0_h2 : k0_cond2 v167 = 1#1), 128 ∣ (k0_mult3 v1733).toNat := fun v167 v1733 k0_hw4 k0_h2 => k0_hw4.1 k0_h2
theorem k0_off6_inb : ∀ (v167 : BitVec 32) (v1733 : BitVec 32) (k0_hw4 : k0_chk4 v167 v1733), ∀ (k0_h2 : k0_cond2 v167 = 1#1), ∀ a, (k0_off6 v1733) a + S4x8x128.size a ≤ S8x8x1000064.size a := fun v167 v1733 k0_hw4 k0_h2 => k0_hw4.2 k0_h2

def k0_mult4 (v1733 : BitVec 32) : BitVec 32 :=
  let c_m128_i32 : BitVec 32 := 4294967168#32
  let v1734 : BitVec 32 := Scalar.andi v1733 c_m128_i32
  v1734
def k0_cond3 (v172 : BitVec 32) : BitVec 1 :=
  let c0_i32_97 : BitVec 32 := 0#32
  let v173 : BitVec 1 := Scalar.cmpi .sgt v172 c0_i32_97
  let v174 : BitVec 32 := Scalar.extui v173
  let c0_i32_98 : BitVec 32 := 0#32
  let v175 : BitVec 1 := Scalar.cmpi .ne v174 c0_i32_98
  v175

def k0_off7 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk7 (v172 : BitVec 32) (v1737 : BitVec 32) : Prop :=
  (∀ (k0_h3 : k0_cond3 v172 = 1#1), ∀ a, (k0_off7 v1737) a + S1x4x8x128.size a ≤ S16x4x8x128.size a)
theorem k0_off7_inb : ∀ (v172 : BitVec 32) (v1737 : BitVec 32) (k0_hw7 : k0_chk7 v172 v1737), ∀ (k0_h3 : k0_cond3 v172 = 1#1), ∀ a, (k0_off7 v1737) a + S1x4x8x128.size a ≤ S16x4x8x128.size a := fun v172 v1737 k0_hw7 k0_h3 => k0_hw7 k0_h3

def k0_off8 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk6 (v172 : BitVec 32) (v1733 : BitVec 32) : Prop :=
  (∀ (k0_h3 : k0_cond3 v172 = 1#1), 128 ∣ (k0_mult4 v1733).toNat) ∧
  (∀ (k0_h3 : k0_cond3 v172 = 1#1), ∀ a, (k0_off8 v1733) a + S4x8x128.size a ≤ S8x8x1000064.size a)
theorem k0_mult4_dvd : ∀ (v172 : BitVec 32) (v1733 : BitVec 32) (k0_hw6 : k0_chk6 v172 v1733), ∀ (k0_h3 : k0_cond3 v172 = 1#1), 128 ∣ (k0_mult4 v1733).toNat := fun v172 v1733 k0_hw6 k0_h3 => k0_hw6.1 k0_h3
theorem k0_off8_inb : ∀ (v172 : BitVec 32) (v1733 : BitVec 32) (k0_hw6 : k0_chk6 v172 v1733), ∀ (k0_h3 : k0_cond3 v172 = 1#1), ∀ a, (k0_off8 v1733) a + S4x8x128.size a ≤ S8x8x1000064.size a := fun v172 v1733 k0_hw6 k0_h3 => k0_hw6.2 k0_h3

def k0_mult5 (v1733 : BitVec 32) : BitVec 32 :=
  let c_m128_i32 : BitVec 32 := 4294967168#32
  let v1734 : BitVec 32 := Scalar.andi v1733 c_m128_i32
  v1734
def k0_cond4 (v177 : BitVec 32) : BitVec 1 :=
  let c0_i32_99 : BitVec 32 := 0#32
  let v178 : BitVec 1 := Scalar.cmpi .sgt v177 c0_i32_99
  let v179 : BitVec 32 := Scalar.extui v178
  let c0_i32_100 : BitVec 32 := 0#32
  let v180 : BitVec 1 := Scalar.cmpi .ne v179 c0_i32_100
  v180

def k0_off9 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk9 (v177 : BitVec 32) (v1737 : BitVec 32) : Prop :=
  (∀ (k0_h4 : k0_cond4 v177 = 1#1), ∀ a, (k0_off9 v1737) a + S1x4x8x128.size a ≤ S16x4x8x128.size a)
theorem k0_off9_inb : ∀ (v177 : BitVec 32) (v1737 : BitVec 32) (k0_hw9 : k0_chk9 v177 v1737), ∀ (k0_h4 : k0_cond4 v177 = 1#1), ∀ a, (k0_off9 v1737) a + S1x4x8x128.size a ≤ S16x4x8x128.size a := fun v177 v1737 k0_hw9 k0_h4 => k0_hw9 k0_h4

def k0_off10 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk8 (v177 : BitVec 32) (v1733 : BitVec 32) : Prop :=
  (∀ (k0_h4 : k0_cond4 v177 = 1#1), 128 ∣ (k0_mult5 v1733).toNat) ∧
  (∀ (k0_h4 : k0_cond4 v177 = 1#1), ∀ a, (k0_off10 v1733) a + S4x8x128.size a ≤ S8x8x1000064.size a)
theorem k0_mult5_dvd : ∀ (v177 : BitVec 32) (v1733 : BitVec 32) (k0_hw8 : k0_chk8 v177 v1733), ∀ (k0_h4 : k0_cond4 v177 = 1#1), 128 ∣ (k0_mult5 v1733).toNat := fun v177 v1733 k0_hw8 k0_h4 => k0_hw8.1 k0_h4
theorem k0_off10_inb : ∀ (v177 : BitVec 32) (v1733 : BitVec 32) (k0_hw8 : k0_chk8 v177 v1733), ∀ (k0_h4 : k0_cond4 v177 = 1#1), ∀ a, (k0_off10 v1733) a + S4x8x128.size a ≤ S8x8x1000064.size a := fun v177 v1733 k0_hw8 k0_h4 => k0_hw8.2 k0_h4

def k0_mult6 (v1733 : BitVec 32) : BitVec 32 :=
  let c_m128_i32 : BitVec 32 := 4294967168#32
  let v1734 : BitVec 32 := Scalar.andi v1733 c_m128_i32
  v1734
def k0_cond5 (v182 : BitVec 32) : BitVec 1 :=
  let c0_i32_101 : BitVec 32 := 0#32
  let v183 : BitVec 1 := Scalar.cmpi .sgt v182 c0_i32_101
  let v184 : BitVec 32 := Scalar.extui v183
  let c0_i32_102 : BitVec 32 := 0#32
  let v185 : BitVec 1 := Scalar.cmpi .ne v184 c0_i32_102
  v185

def k0_off11 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk11 (v182 : BitVec 32) (v1737 : BitVec 32) : Prop :=
  (∀ (k0_h5 : k0_cond5 v182 = 1#1), ∀ a, (k0_off11 v1737) a + S1x4x8x128.size a ≤ S16x4x8x128.size a)
theorem k0_off11_inb : ∀ (v182 : BitVec 32) (v1737 : BitVec 32) (k0_hw11 : k0_chk11 v182 v1737), ∀ (k0_h5 : k0_cond5 v182 = 1#1), ∀ a, (k0_off11 v1737) a + S1x4x8x128.size a ≤ S16x4x8x128.size a := fun v182 v1737 k0_hw11 k0_h5 => k0_hw11 k0_h5

def k0_off12 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk10 (v182 : BitVec 32) (v1733 : BitVec 32) : Prop :=
  (∀ (k0_h5 : k0_cond5 v182 = 1#1), 128 ∣ (k0_mult6 v1733).toNat) ∧
  (∀ (k0_h5 : k0_cond5 v182 = 1#1), ∀ a, (k0_off12 v1733) a + S4x8x128.size a ≤ S8x8x1000064.size a)
theorem k0_mult6_dvd : ∀ (v182 : BitVec 32) (v1733 : BitVec 32) (k0_hw10 : k0_chk10 v182 v1733), ∀ (k0_h5 : k0_cond5 v182 = 1#1), 128 ∣ (k0_mult6 v1733).toNat := fun v182 v1733 k0_hw10 k0_h5 => k0_hw10.1 k0_h5
theorem k0_off12_inb : ∀ (v182 : BitVec 32) (v1733 : BitVec 32) (k0_hw10 : k0_chk10 v182 v1733), ∀ (k0_h5 : k0_cond5 v182 = 1#1), ∀ a, (k0_off12 v1733) a + S4x8x128.size a ≤ S8x8x1000064.size a := fun v182 v1733 k0_hw10 k0_h5 => k0_hw10.2 k0_h5

def k0_mult7 (v1733 : BitVec 32) : BitVec 32 :=
  let c_m128_i32 : BitVec 32 := 4294967168#32
  let v1734 : BitVec 32 := Scalar.andi v1733 c_m128_i32
  v1734
def k0_cond6 (v187 : BitVec 32) : BitVec 1 :=
  let c0_i32_103 : BitVec 32 := 0#32
  let v188 : BitVec 1 := Scalar.cmpi .sgt v187 c0_i32_103
  let v189 : BitVec 32 := Scalar.extui v188
  let c0_i32_104 : BitVec 32 := 0#32
  let v190 : BitVec 1 := Scalar.cmpi .ne v189 c0_i32_104
  v190

def k0_off13 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk13 (v187 : BitVec 32) (v1737 : BitVec 32) : Prop :=
  (∀ (k0_h6 : k0_cond6 v187 = 1#1), ∀ a, (k0_off13 v1737) a + S1x4x8x128.size a ≤ S16x4x8x128.size a)
theorem k0_off13_inb : ∀ (v187 : BitVec 32) (v1737 : BitVec 32) (k0_hw13 : k0_chk13 v187 v1737), ∀ (k0_h6 : k0_cond6 v187 = 1#1), ∀ a, (k0_off13 v1737) a + S1x4x8x128.size a ≤ S16x4x8x128.size a := fun v187 v1737 k0_hw13 k0_h6 => k0_hw13 k0_h6

def k0_off14 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk12 (v187 : BitVec 32) (v1733 : BitVec 32) : Prop :=
  (∀ (k0_h6 : k0_cond6 v187 = 1#1), 128 ∣ (k0_mult7 v1733).toNat) ∧
  (∀ (k0_h6 : k0_cond6 v187 = 1#1), ∀ a, (k0_off14 v1733) a + S4x8x128.size a ≤ S8x8x1000064.size a)
theorem k0_mult7_dvd : ∀ (v187 : BitVec 32) (v1733 : BitVec 32) (k0_hw12 : k0_chk12 v187 v1733), ∀ (k0_h6 : k0_cond6 v187 = 1#1), 128 ∣ (k0_mult7 v1733).toNat := fun v187 v1733 k0_hw12 k0_h6 => k0_hw12.1 k0_h6
theorem k0_off14_inb : ∀ (v187 : BitVec 32) (v1733 : BitVec 32) (k0_hw12 : k0_chk12 v187 v1733), ∀ (k0_h6 : k0_cond6 v187 = 1#1), ∀ a, (k0_off14 v1733) a + S4x8x128.size a ≤ S8x8x1000064.size a := fun v187 v1733 k0_hw12 k0_h6 => k0_hw12.2 k0_h6

def k0_mult8 (v1733 : BitVec 32) : BitVec 32 :=
  let c_m128_i32 : BitVec 32 := 4294967168#32
  let v1734 : BitVec 32 := Scalar.andi v1733 c_m128_i32
  v1734
def k0_cond7 (v192 : BitVec 32) : BitVec 1 :=
  let c0_i32_105 : BitVec 32 := 0#32
  let v193 : BitVec 1 := Scalar.cmpi .sgt v192 c0_i32_105
  let v194 : BitVec 32 := Scalar.extui v193
  let c0_i32_106 : BitVec 32 := 0#32
  let v195 : BitVec 1 := Scalar.cmpi .ne v194 c0_i32_106
  v195

def k0_off15 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk15 (v192 : BitVec 32) (v1737 : BitVec 32) : Prop :=
  (∀ (k0_h7 : k0_cond7 v192 = 1#1), ∀ a, (k0_off15 v1737) a + S1x4x8x128.size a ≤ S16x4x8x128.size a)
theorem k0_off15_inb : ∀ (v192 : BitVec 32) (v1737 : BitVec 32) (k0_hw15 : k0_chk15 v192 v1737), ∀ (k0_h7 : k0_cond7 v192 = 1#1), ∀ a, (k0_off15 v1737) a + S1x4x8x128.size a ≤ S16x4x8x128.size a := fun v192 v1737 k0_hw15 k0_h7 => k0_hw15 k0_h7

def k0_off16 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk14 (v192 : BitVec 32) (v1733 : BitVec 32) : Prop :=
  (∀ (k0_h7 : k0_cond7 v192 = 1#1), 128 ∣ (k0_mult8 v1733).toNat) ∧
  (∀ (k0_h7 : k0_cond7 v192 = 1#1), ∀ a, (k0_off16 v1733) a + S4x8x128.size a ≤ S8x8x1000064.size a)
theorem k0_mult8_dvd : ∀ (v192 : BitVec 32) (v1733 : BitVec 32) (k0_hw14 : k0_chk14 v192 v1733), ∀ (k0_h7 : k0_cond7 v192 = 1#1), 128 ∣ (k0_mult8 v1733).toNat := fun v192 v1733 k0_hw14 k0_h7 => k0_hw14.1 k0_h7
theorem k0_off16_inb : ∀ (v192 : BitVec 32) (v1733 : BitVec 32) (k0_hw14 : k0_chk14 v192 v1733), ∀ (k0_h7 : k0_cond7 v192 = 1#1), ∀ a, (k0_off16 v1733) a + S4x8x128.size a ≤ S8x8x1000064.size a := fun v192 v1733 k0_hw14 k0_h7 => k0_hw14.2 k0_h7

def k0_mult9 (v1733 : BitVec 32) : BitVec 32 :=
  let c_m128_i32 : BitVec 32 := 4294967168#32
  let v1734 : BitVec 32 := Scalar.andi v1733 c_m128_i32
  v1734
def k0_cond8 (v197 : BitVec 32) : BitVec 1 :=
  let c0_i32_107 : BitVec 32 := 0#32
  let v198 : BitVec 1 := Scalar.cmpi .sgt v197 c0_i32_107
  let v199 : BitVec 32 := Scalar.extui v198
  let c0_i32_108 : BitVec 32 := 0#32
  let v200 : BitVec 1 := Scalar.cmpi .ne v199 c0_i32_108
  v200

def k0_off17 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk17 (v197 : BitVec 32) (v1737 : BitVec 32) : Prop :=
  (∀ (k0_h8 : k0_cond8 v197 = 1#1), ∀ a, (k0_off17 v1737) a + S1x4x8x128.size a ≤ S16x4x8x128.size a)
theorem k0_off17_inb : ∀ (v197 : BitVec 32) (v1737 : BitVec 32) (k0_hw17 : k0_chk17 v197 v1737), ∀ (k0_h8 : k0_cond8 v197 = 1#1), ∀ a, (k0_off17 v1737) a + S1x4x8x128.size a ≤ S16x4x8x128.size a := fun v197 v1737 k0_hw17 k0_h8 => k0_hw17 k0_h8

def k0_off18 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk16 (v197 : BitVec 32) (v1733 : BitVec 32) : Prop :=
  (∀ (k0_h8 : k0_cond8 v197 = 1#1), 128 ∣ (k0_mult9 v1733).toNat) ∧
  (∀ (k0_h8 : k0_cond8 v197 = 1#1), ∀ a, (k0_off18 v1733) a + S4x8x128.size a ≤ S8x8x1000064.size a)
theorem k0_mult9_dvd : ∀ (v197 : BitVec 32) (v1733 : BitVec 32) (k0_hw16 : k0_chk16 v197 v1733), ∀ (k0_h8 : k0_cond8 v197 = 1#1), 128 ∣ (k0_mult9 v1733).toNat := fun v197 v1733 k0_hw16 k0_h8 => k0_hw16.1 k0_h8
theorem k0_off18_inb : ∀ (v197 : BitVec 32) (v1733 : BitVec 32) (k0_hw16 : k0_chk16 v197 v1733), ∀ (k0_h8 : k0_cond8 v197 = 1#1), ∀ a, (k0_off18 v1733) a + S4x8x128.size a ≤ S8x8x1000064.size a := fun v197 v1733 k0_hw16 k0_h8 => k0_hw16.2 k0_h8

def k0_mult10 (v1733 : BitVec 32) : BitVec 32 :=
  let c_m128_i32 : BitVec 32 := 4294967168#32
  let v1734 : BitVec 32 := Scalar.andi v1733 c_m128_i32
  v1734
def k0_cond9 (v202 : BitVec 32) : BitVec 1 :=
  let c0_i32_109 : BitVec 32 := 0#32
  let v203 : BitVec 1 := Scalar.cmpi .sgt v202 c0_i32_109
  let v204 : BitVec 32 := Scalar.extui v203
  let c0_i32_110 : BitVec 32 := 0#32
  let v205 : BitVec 1 := Scalar.cmpi .ne v204 c0_i32_110
  v205

def k0_off19 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk19 (v202 : BitVec 32) (v1737 : BitVec 32) : Prop :=
  (∀ (k0_h9 : k0_cond9 v202 = 1#1), ∀ a, (k0_off19 v1737) a + S1x4x8x128.size a ≤ S16x4x8x128.size a)
theorem k0_off19_inb : ∀ (v202 : BitVec 32) (v1737 : BitVec 32) (k0_hw19 : k0_chk19 v202 v1737), ∀ (k0_h9 : k0_cond9 v202 = 1#1), ∀ a, (k0_off19 v1737) a + S1x4x8x128.size a ≤ S16x4x8x128.size a := fun v202 v1737 k0_hw19 k0_h9 => k0_hw19 k0_h9

def k0_off20 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk18 (v202 : BitVec 32) (v1733 : BitVec 32) : Prop :=
  (∀ (k0_h9 : k0_cond9 v202 = 1#1), 128 ∣ (k0_mult10 v1733).toNat) ∧
  (∀ (k0_h9 : k0_cond9 v202 = 1#1), ∀ a, (k0_off20 v1733) a + S4x8x128.size a ≤ S8x8x1000064.size a)
theorem k0_mult10_dvd : ∀ (v202 : BitVec 32) (v1733 : BitVec 32) (k0_hw18 : k0_chk18 v202 v1733), ∀ (k0_h9 : k0_cond9 v202 = 1#1), 128 ∣ (k0_mult10 v1733).toNat := fun v202 v1733 k0_hw18 k0_h9 => k0_hw18.1 k0_h9
theorem k0_off20_inb : ∀ (v202 : BitVec 32) (v1733 : BitVec 32) (k0_hw18 : k0_chk18 v202 v1733), ∀ (k0_h9 : k0_cond9 v202 = 1#1), ∀ a, (k0_off20 v1733) a + S4x8x128.size a ≤ S8x8x1000064.size a := fun v202 v1733 k0_hw18 k0_h9 => k0_hw18.2 k0_h9

def k0_mult11 (v1733 : BitVec 32) : BitVec 32 :=
  let c_m128_i32 : BitVec 32 := 4294967168#32
  let v1734 : BitVec 32 := Scalar.andi v1733 c_m128_i32
  v1734
def k0_cond10 (v207 : BitVec 32) : BitVec 1 :=
  let c0_i32_111 : BitVec 32 := 0#32
  let v208 : BitVec 1 := Scalar.cmpi .sgt v207 c0_i32_111
  let v209 : BitVec 32 := Scalar.extui v208
  let c0_i32_112 : BitVec 32 := 0#32
  let v210 : BitVec 1 := Scalar.cmpi .ne v209 c0_i32_112
  v210

def k0_off21 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk21 (v207 : BitVec 32) (v1737 : BitVec 32) : Prop :=
  (∀ (k0_h10 : k0_cond10 v207 = 1#1), ∀ a, (k0_off21 v1737) a + S1x4x8x128.size a ≤ S16x4x8x128.size a)
theorem k0_off21_inb : ∀ (v207 : BitVec 32) (v1737 : BitVec 32) (k0_hw21 : k0_chk21 v207 v1737), ∀ (k0_h10 : k0_cond10 v207 = 1#1), ∀ a, (k0_off21 v1737) a + S1x4x8x128.size a ≤ S16x4x8x128.size a := fun v207 v1737 k0_hw21 k0_h10 => k0_hw21 k0_h10

def k0_off22 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk20 (v207 : BitVec 32) (v1733 : BitVec 32) : Prop :=
  (∀ (k0_h10 : k0_cond10 v207 = 1#1), 128 ∣ (k0_mult11 v1733).toNat) ∧
  (∀ (k0_h10 : k0_cond10 v207 = 1#1), ∀ a, (k0_off22 v1733) a + S4x8x128.size a ≤ S8x8x1000064.size a)
theorem k0_mult11_dvd : ∀ (v207 : BitVec 32) (v1733 : BitVec 32) (k0_hw20 : k0_chk20 v207 v1733), ∀ (k0_h10 : k0_cond10 v207 = 1#1), 128 ∣ (k0_mult11 v1733).toNat := fun v207 v1733 k0_hw20 k0_h10 => k0_hw20.1 k0_h10
theorem k0_off22_inb : ∀ (v207 : BitVec 32) (v1733 : BitVec 32) (k0_hw20 : k0_chk20 v207 v1733), ∀ (k0_h10 : k0_cond10 v207 = 1#1), ∀ a, (k0_off22 v1733) a + S4x8x128.size a ≤ S8x8x1000064.size a := fun v207 v1733 k0_hw20 k0_h10 => k0_hw20.2 k0_h10

def k0_mult12 (v1733 : BitVec 32) : BitVec 32 :=
  let c_m128_i32 : BitVec 32 := 4294967168#32
  let v1734 : BitVec 32 := Scalar.andi v1733 c_m128_i32
  v1734
def k0_cond11 (v212 : BitVec 32) : BitVec 1 :=
  let c0_i32_113 : BitVec 32 := 0#32
  let v213 : BitVec 1 := Scalar.cmpi .sgt v212 c0_i32_113
  let v214 : BitVec 32 := Scalar.extui v213
  let c0_i32_114 : BitVec 32 := 0#32
  let v215 : BitVec 1 := Scalar.cmpi .ne v214 c0_i32_114
  v215

def k0_off23 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk23 (v212 : BitVec 32) (v1737 : BitVec 32) : Prop :=
  (∀ (k0_h11 : k0_cond11 v212 = 1#1), ∀ a, (k0_off23 v1737) a + S1x4x8x128.size a ≤ S16x4x8x128.size a)
theorem k0_off23_inb : ∀ (v212 : BitVec 32) (v1737 : BitVec 32) (k0_hw23 : k0_chk23 v212 v1737), ∀ (k0_h11 : k0_cond11 v212 = 1#1), ∀ a, (k0_off23 v1737) a + S1x4x8x128.size a ≤ S16x4x8x128.size a := fun v212 v1737 k0_hw23 k0_h11 => k0_hw23 k0_h11

def k0_off24 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk22 (v212 : BitVec 32) (v1733 : BitVec 32) : Prop :=
  (∀ (k0_h11 : k0_cond11 v212 = 1#1), 128 ∣ (k0_mult12 v1733).toNat) ∧
  (∀ (k0_h11 : k0_cond11 v212 = 1#1), ∀ a, (k0_off24 v1733) a + S4x8x128.size a ≤ S8x8x1000064.size a)
theorem k0_mult12_dvd : ∀ (v212 : BitVec 32) (v1733 : BitVec 32) (k0_hw22 : k0_chk22 v212 v1733), ∀ (k0_h11 : k0_cond11 v212 = 1#1), 128 ∣ (k0_mult12 v1733).toNat := fun v212 v1733 k0_hw22 k0_h11 => k0_hw22.1 k0_h11
theorem k0_off24_inb : ∀ (v212 : BitVec 32) (v1733 : BitVec 32) (k0_hw22 : k0_chk22 v212 v1733), ∀ (k0_h11 : k0_cond11 v212 = 1#1), ∀ a, (k0_off24 v1733) a + S4x8x128.size a ≤ S8x8x1000064.size a := fun v212 v1733 k0_hw22 k0_h11 => k0_hw22.2 k0_h11

def k0_mult13 (v1733 : BitVec 32) : BitVec 32 :=
  let c_m128_i32 : BitVec 32 := 4294967168#32
  let v1734 : BitVec 32 := Scalar.andi v1733 c_m128_i32
  v1734
def k0_cond12 (v217 : BitVec 32) : BitVec 1 :=
  let c0_i32_115 : BitVec 32 := 0#32
  let v218 : BitVec 1 := Scalar.cmpi .sgt v217 c0_i32_115
  let v219 : BitVec 32 := Scalar.extui v218
  let c0_i32_116 : BitVec 32 := 0#32
  let v220 : BitVec 1 := Scalar.cmpi .ne v219 c0_i32_116
  v220

def k0_off25 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk25 (v217 : BitVec 32) (v1737 : BitVec 32) : Prop :=
  (∀ (k0_h12 : k0_cond12 v217 = 1#1), ∀ a, (k0_off25 v1737) a + S1x4x8x128.size a ≤ S16x4x8x128.size a)
theorem k0_off25_inb : ∀ (v217 : BitVec 32) (v1737 : BitVec 32) (k0_hw25 : k0_chk25 v217 v1737), ∀ (k0_h12 : k0_cond12 v217 = 1#1), ∀ a, (k0_off25 v1737) a + S1x4x8x128.size a ≤ S16x4x8x128.size a := fun v217 v1737 k0_hw25 k0_h12 => k0_hw25 k0_h12

def k0_off26 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk24 (v217 : BitVec 32) (v1733 : BitVec 32) : Prop :=
  (∀ (k0_h12 : k0_cond12 v217 = 1#1), 128 ∣ (k0_mult13 v1733).toNat) ∧
  (∀ (k0_h12 : k0_cond12 v217 = 1#1), ∀ a, (k0_off26 v1733) a + S4x8x128.size a ≤ S8x8x1000064.size a)
theorem k0_mult13_dvd : ∀ (v217 : BitVec 32) (v1733 : BitVec 32) (k0_hw24 : k0_chk24 v217 v1733), ∀ (k0_h12 : k0_cond12 v217 = 1#1), 128 ∣ (k0_mult13 v1733).toNat := fun v217 v1733 k0_hw24 k0_h12 => k0_hw24.1 k0_h12
theorem k0_off26_inb : ∀ (v217 : BitVec 32) (v1733 : BitVec 32) (k0_hw24 : k0_chk24 v217 v1733), ∀ (k0_h12 : k0_cond12 v217 = 1#1), ∀ a, (k0_off26 v1733) a + S4x8x128.size a ≤ S8x8x1000064.size a := fun v217 v1733 k0_hw24 k0_h12 => k0_hw24.2 k0_h12

def k0_mult14 (v1733 : BitVec 32) : BitVec 32 :=
  let c_m128_i32 : BitVec 32 := 4294967168#32
  let v1734 : BitVec 32 := Scalar.andi v1733 c_m128_i32
  v1734
def k0_cond13 (v222 : BitVec 32) : BitVec 1 :=
  let c0_i32_117 : BitVec 32 := 0#32
  let v223 : BitVec 1 := Scalar.cmpi .sgt v222 c0_i32_117
  let v224 : BitVec 32 := Scalar.extui v223
  let c0_i32_118 : BitVec 32 := 0#32
  let v225 : BitVec 1 := Scalar.cmpi .ne v224 c0_i32_118
  v225

def k0_off27 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk27 (v222 : BitVec 32) (v1737 : BitVec 32) : Prop :=
  (∀ (k0_h13 : k0_cond13 v222 = 1#1), ∀ a, (k0_off27 v1737) a + S1x4x8x128.size a ≤ S16x4x8x128.size a)
theorem k0_off27_inb : ∀ (v222 : BitVec 32) (v1737 : BitVec 32) (k0_hw27 : k0_chk27 v222 v1737), ∀ (k0_h13 : k0_cond13 v222 = 1#1), ∀ a, (k0_off27 v1737) a + S1x4x8x128.size a ≤ S16x4x8x128.size a := fun v222 v1737 k0_hw27 k0_h13 => k0_hw27 k0_h13

def k0_off28 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk26 (v222 : BitVec 32) (v1733 : BitVec 32) : Prop :=
  (∀ (k0_h13 : k0_cond13 v222 = 1#1), 128 ∣ (k0_mult14 v1733).toNat) ∧
  (∀ (k0_h13 : k0_cond13 v222 = 1#1), ∀ a, (k0_off28 v1733) a + S4x8x128.size a ≤ S8x8x1000064.size a)
theorem k0_mult14_dvd : ∀ (v222 : BitVec 32) (v1733 : BitVec 32) (k0_hw26 : k0_chk26 v222 v1733), ∀ (k0_h13 : k0_cond13 v222 = 1#1), 128 ∣ (k0_mult14 v1733).toNat := fun v222 v1733 k0_hw26 k0_h13 => k0_hw26.1 k0_h13
theorem k0_off28_inb : ∀ (v222 : BitVec 32) (v1733 : BitVec 32) (k0_hw26 : k0_chk26 v222 v1733), ∀ (k0_h13 : k0_cond13 v222 = 1#1), ∀ a, (k0_off28 v1733) a + S4x8x128.size a ≤ S8x8x1000064.size a := fun v222 v1733 k0_hw26 k0_h13 => k0_hw26.2 k0_h13

def k0_mult15 (v1733 : BitVec 32) : BitVec 32 :=
  let c_m128_i32 : BitVec 32 := 4294967168#32
  let v1734 : BitVec 32 := Scalar.andi v1733 c_m128_i32
  v1734
def k0_cond14 (v227 : BitVec 32) : BitVec 1 :=
  let c0_i32_119 : BitVec 32 := 0#32
  let v228 : BitVec 1 := Scalar.cmpi .sgt v227 c0_i32_119
  let v229 : BitVec 32 := Scalar.extui v228
  let c0_i32_120 : BitVec 32 := 0#32
  let v230 : BitVec 1 := Scalar.cmpi .ne v229 c0_i32_120
  v230

def k0_off29 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk29 (v227 : BitVec 32) (v1737 : BitVec 32) : Prop :=
  (∀ (k0_h14 : k0_cond14 v227 = 1#1), ∀ a, (k0_off29 v1737) a + S1x4x8x128.size a ≤ S16x4x8x128.size a)
theorem k0_off29_inb : ∀ (v227 : BitVec 32) (v1737 : BitVec 32) (k0_hw29 : k0_chk29 v227 v1737), ∀ (k0_h14 : k0_cond14 v227 = 1#1), ∀ a, (k0_off29 v1737) a + S1x4x8x128.size a ≤ S16x4x8x128.size a := fun v227 v1737 k0_hw29 k0_h14 => k0_hw29 k0_h14

def k0_off30 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk28 (v227 : BitVec 32) (v1733 : BitVec 32) : Prop :=
  (∀ (k0_h14 : k0_cond14 v227 = 1#1), 128 ∣ (k0_mult15 v1733).toNat) ∧
  (∀ (k0_h14 : k0_cond14 v227 = 1#1), ∀ a, (k0_off30 v1733) a + S4x8x128.size a ≤ S8x8x1000064.size a)
theorem k0_mult15_dvd : ∀ (v227 : BitVec 32) (v1733 : BitVec 32) (k0_hw28 : k0_chk28 v227 v1733), ∀ (k0_h14 : k0_cond14 v227 = 1#1), 128 ∣ (k0_mult15 v1733).toNat := fun v227 v1733 k0_hw28 k0_h14 => k0_hw28.1 k0_h14
theorem k0_off30_inb : ∀ (v227 : BitVec 32) (v1733 : BitVec 32) (k0_hw28 : k0_chk28 v227 v1733), ∀ (k0_h14 : k0_cond14 v227 = 1#1), ∀ a, (k0_off30 v1733) a + S4x8x128.size a ≤ S8x8x1000064.size a := fun v227 v1733 k0_hw28 k0_h14 => k0_hw28.2 k0_h14

def k0_mult16 (v1733 : BitVec 32) : BitVec 32 :=
  let c_m128_i32 : BitVec 32 := 4294967168#32
  let v1734 : BitVec 32 := Scalar.andi v1733 c_m128_i32
  v1734
def k0_cond15 (v232 : BitVec 32) : BitVec 1 :=
  let c0_i32_121 : BitVec 32 := 0#32
  let v233 : BitVec 1 := Scalar.cmpi .sgt v232 c0_i32_121
  let v234 : BitVec 32 := Scalar.extui v233
  let c0_i32_122 : BitVec 32 := 0#32
  let v235 : BitVec 1 := Scalar.cmpi .ne v234 c0_i32_122
  v235

def k0_off31 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk31 (v232 : BitVec 32) (v1737 : BitVec 32) : Prop :=
  (∀ (k0_h15 : k0_cond15 v232 = 1#1), ∀ a, (k0_off31 v1737) a + S1x4x8x128.size a ≤ S16x4x8x128.size a)
theorem k0_off31_inb : ∀ (v232 : BitVec 32) (v1737 : BitVec 32) (k0_hw31 : k0_chk31 v232 v1737), ∀ (k0_h15 : k0_cond15 v232 = 1#1), ∀ a, (k0_off31 v1737) a + S1x4x8x128.size a ≤ S16x4x8x128.size a := fun v232 v1737 k0_hw31 k0_h15 => k0_hw31 k0_h15

def k0_off32 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk30 (v232 : BitVec 32) (v1733 : BitVec 32) : Prop :=
  (∀ (k0_h15 : k0_cond15 v232 = 1#1), 128 ∣ (k0_mult16 v1733).toNat) ∧
  (∀ (k0_h15 : k0_cond15 v232 = 1#1), ∀ a, (k0_off32 v1733) a + S4x8x128.size a ≤ S8x8x1000064.size a)
theorem k0_mult16_dvd : ∀ (v232 : BitVec 32) (v1733 : BitVec 32) (k0_hw30 : k0_chk30 v232 v1733), ∀ (k0_h15 : k0_cond15 v232 = 1#1), 128 ∣ (k0_mult16 v1733).toNat := fun v232 v1733 k0_hw30 k0_h15 => k0_hw30.1 k0_h15
theorem k0_off32_inb : ∀ (v232 : BitVec 32) (v1733 : BitVec 32) (k0_hw30 : k0_chk30 v232 v1733), ∀ (k0_h15 : k0_cond15 v232 = 1#1), ∀ a, (k0_off32 v1733) a + S4x8x128.size a ≤ S8x8x1000064.size a := fun v232 v1733 k0_hw30 k0_h15 => k0_hw30.2 k0_h15

def k0_mult17 (v1733 : BitVec 32) : BitVec 32 :=
  let c_m128_i32 : BitVec 32 := 4294967168#32
  let v1734 : BitVec 32 := Scalar.andi v1733 c_m128_i32
  v1734
def k0_cond16 (v237 : BitVec 32) : BitVec 1 :=
  let c0_i32_123 : BitVec 32 := 0#32
  let v238 : BitVec 1 := Scalar.cmpi .sgt v237 c0_i32_123
  let v239 : BitVec 32 := Scalar.extui v238
  let c0_i32_124 : BitVec 32 := 0#32
  let v240 : BitVec 1 := Scalar.cmpi .ne v239 c0_i32_124
  v240

def k0_off33 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk33 (v237 : BitVec 32) (v1737 : BitVec 32) : Prop :=
  (∀ (k0_h16 : k0_cond16 v237 = 1#1), ∀ a, (k0_off33 v1737) a + S1x4x8x128.size a ≤ S16x4x8x128.size a)
theorem k0_off33_inb : ∀ (v237 : BitVec 32) (v1737 : BitVec 32) (k0_hw33 : k0_chk33 v237 v1737), ∀ (k0_h16 : k0_cond16 v237 = 1#1), ∀ a, (k0_off33 v1737) a + S1x4x8x128.size a ≤ S16x4x8x128.size a := fun v237 v1737 k0_hw33 k0_h16 => k0_hw33 k0_h16

def k0_off34 (v1733 : BitVec 32) : Fin 3 → Nat :=
  let c0_i32_623 : BitVec 32 := 0#32
  let c0_i32_624 : BitVec 32 := 0#32
  let c_m128_i32 : BitVec 32 := 4294967168#32
  let v1734 : BitVec 32 := Scalar.andi v1733 c_m128_i32
  let v1735 : BitVec 32 := v1734
  ![0, 0, v1735.toNat]

def k0_chk32 (v237 : BitVec 32) (v1733 : BitVec 32) : Prop :=
  (∀ (k0_h16 : k0_cond16 v237 = 1#1), 128 ∣ (k0_mult17 v1733).toNat) ∧
  (∀ (k0_h16 : k0_cond16 v237 = 1#1), ∀ a, (k0_off34 v1733) a + S4x8x128.size a ≤ S8x8x1000064.size a)
theorem k0_mult17_dvd : ∀ (v237 : BitVec 32) (v1733 : BitVec 32) (k0_hw32 : k0_chk32 v237 v1733), ∀ (k0_h16 : k0_cond16 v237 = 1#1), 128 ∣ (k0_mult17 v1733).toNat := fun v237 v1733 k0_hw32 k0_h16 => k0_hw32.1 k0_h16
theorem k0_off34_inb : ∀ (v237 : BitVec 32) (v1733 : BitVec 32) (k0_hw32 : k0_chk32 v237 v1733), ∀ (k0_h16 : k0_cond16 v237 = 1#1), ∀ a, (k0_off34 v1733) a + S4x8x128.size a ≤ S8x8x1000064.size a := fun v237 v1733 k0_hw32 k0_h16 => k0_hw32.2 k0_h16

def k0_chk34 (v327 : IVec S16 32) (v331 : IVec S16 32) (v333 : IVec S16 32) (v337 : IVec S16 32) : Prop :=
  (∀ a x, ((![v327, v331, v333, v337] : Fin 4 → IVec S16 32) a x).toNat < S16x4x8x128.size a)
theorem k0_idx2_inb : ∀ (v327 : IVec S16 32) (v331 : IVec S16 32) (v333 : IVec S16 32) (v337 : IVec S16 32) (k0_hw34 : k0_chk34 v327 v331 v333 v337), ∀ a x, ((![v327, v331, v333, v337] : Fin 4 → IVec S16 32) a x).toNat < S16x4x8x128.size a := fun v327 v331 v333 v337 k0_hw34 => k0_hw34

def k0_chk35 (v344 : IVec S16 32) (v348 : IVec S16 32) (v350 : IVec S16 32) (v354 : IVec S16 32) : Prop :=
  (∀ a x, ((![v344, v348, v350, v354] : Fin 4 → IVec S16 32) a x).toNat < S16x4x8x128.size a)
theorem k0_idx3_inb : ∀ (v344 : IVec S16 32) (v348 : IVec S16 32) (v350 : IVec S16 32) (v354 : IVec S16 32) (k0_hw35 : k0_chk35 v344 v348 v350 v354), ∀ a x, ((![v344, v348, v350, v354] : Fin 4 → IVec S16 32) a x).toNat < S16x4x8x128.size a := fun v344 v348 v350 v354 k0_hw35 => k0_hw35

def k0_chk36 (v361 : IVec S16 32) (v365 : IVec S16 32) (v367 : IVec S16 32) (v371 : IVec S16 32) : Prop :=
  (∀ a x, ((![v361, v365, v367, v371] : Fin 4 → IVec S16 32) a x).toNat < S16x4x8x128.size a)
theorem k0_idx4_inb : ∀ (v361 : IVec S16 32) (v365 : IVec S16 32) (v367 : IVec S16 32) (v371 : IVec S16 32) (k0_hw36 : k0_chk36 v361 v365 v367 v371), ∀ a x, ((![v361, v365, v367, v371] : Fin 4 → IVec S16 32) a x).toNat < S16x4x8x128.size a := fun v361 v365 v367 v371 k0_hw36 => k0_hw36

def k0_chk37 (v378 : IVec S16 32) (v382 : IVec S16 32) (v384 : IVec S16 32) (v388 : IVec S16 32) : Prop :=
  (∀ a x, ((![v378, v382, v384, v388] : Fin 4 → IVec S16 32) a x).toNat < S16x4x8x128.size a)
theorem k0_idx5_inb : ∀ (v378 : IVec S16 32) (v382 : IVec S16 32) (v384 : IVec S16 32) (v388 : IVec S16 32) (k0_hw37 : k0_chk37 v378 v382 v384 v388), ∀ a x, ((![v378, v382, v384, v388] : Fin 4 → IVec S16 32) a x).toNat < S16x4x8x128.size a := fun v378 v382 v384 v388 k0_hw37 => k0_hw37

def k0_chk38 (v395 : IVec S16 32) (v399 : IVec S16 32) (v401 : IVec S16 32) (v405 : IVec S16 32) : Prop :=
  (∀ a x, ((![v395, v399, v401, v405] : Fin 4 → IVec S16 32) a x).toNat < S16x4x8x128.size a)
theorem k0_idx6_inb : ∀ (v395 : IVec S16 32) (v399 : IVec S16 32) (v401 : IVec S16 32) (v405 : IVec S16 32) (k0_hw38 : k0_chk38 v395 v399 v401 v405), ∀ a x, ((![v395, v399, v401, v405] : Fin 4 → IVec S16 32) a x).toNat < S16x4x8x128.size a := fun v395 v399 v401 v405 k0_hw38 => k0_hw38

def k0_chk39 (v412 : IVec S16 32) (v416 : IVec S16 32) (v418 : IVec S16 32) (v422 : IVec S16 32) : Prop :=
  (∀ a x, ((![v412, v416, v418, v422] : Fin 4 → IVec S16 32) a x).toNat < S16x4x8x128.size a)
theorem k0_idx7_inb : ∀ (v412 : IVec S16 32) (v416 : IVec S16 32) (v418 : IVec S16 32) (v422 : IVec S16 32) (k0_hw39 : k0_chk39 v412 v416 v418 v422), ∀ a x, ((![v412, v416, v418, v422] : Fin 4 → IVec S16 32) a x).toNat < S16x4x8x128.size a := fun v412 v416 v418 v422 k0_hw39 => k0_hw39

def k0_chk40 (v429 : IVec S16 32) (v433 : IVec S16 32) (v435 : IVec S16 32) (v439 : IVec S16 32) : Prop :=
  (∀ a x, ((![v429, v433, v435, v439] : Fin 4 → IVec S16 32) a x).toNat < S16x4x8x128.size a)
theorem k0_idx8_inb : ∀ (v429 : IVec S16 32) (v433 : IVec S16 32) (v435 : IVec S16 32) (v439 : IVec S16 32) (k0_hw40 : k0_chk40 v429 v433 v435 v439), ∀ a x, ((![v429, v433, v435, v439] : Fin 4 → IVec S16 32) a x).toNat < S16x4x8x128.size a := fun v429 v433 v435 v439 k0_hw40 => k0_hw40

def k0_chk41 (v446 : IVec S16 32) (v450 : IVec S16 32) (v452 : IVec S16 32) (v456 : IVec S16 32) : Prop :=
  (∀ a x, ((![v446, v450, v452, v456] : Fin 4 → IVec S16 32) a x).toNat < S16x4x8x128.size a)
theorem k0_idx9_inb : ∀ (v446 : IVec S16 32) (v450 : IVec S16 32) (v452 : IVec S16 32) (v456 : IVec S16 32) (k0_hw41 : k0_chk41 v446 v450 v452 v456), ∀ a x, ((![v446, v450, v452, v456] : Fin 4 → IVec S16 32) a x).toNat < S16x4x8x128.size a := fun v446 v450 v452 v456 k0_hw41 => k0_hw41

def k0_chk42 (v463 : IVec S16 32) (v467 : IVec S16 32) (v469 : IVec S16 32) (v473 : IVec S16 32) : Prop :=
  (∀ a x, ((![v463, v467, v469, v473] : Fin 4 → IVec S16 32) a x).toNat < S16x4x8x128.size a)
theorem k0_idx10_inb : ∀ (v463 : IVec S16 32) (v467 : IVec S16 32) (v469 : IVec S16 32) (v473 : IVec S16 32) (k0_hw42 : k0_chk42 v463 v467 v469 v473), ∀ a x, ((![v463, v467, v469, v473] : Fin 4 → IVec S16 32) a x).toNat < S16x4x8x128.size a := fun v463 v467 v469 v473 k0_hw42 => k0_hw42

def k0_chk43 (v480 : IVec S16 32) (v484 : IVec S16 32) (v486 : IVec S16 32) (v490 : IVec S16 32) : Prop :=
  (∀ a x, ((![v480, v484, v486, v490] : Fin 4 → IVec S16 32) a x).toNat < S16x4x8x128.size a)
theorem k0_idx11_inb : ∀ (v480 : IVec S16 32) (v484 : IVec S16 32) (v486 : IVec S16 32) (v490 : IVec S16 32) (k0_hw43 : k0_chk43 v480 v484 v486 v490), ∀ a x, ((![v480, v484, v486, v490] : Fin 4 → IVec S16 32) a x).toNat < S16x4x8x128.size a := fun v480 v484 v486 v490 k0_hw43 => k0_hw43

def k0_chk44 (v497 : IVec S16 32) (v501 : IVec S16 32) (v503 : IVec S16 32) (v507 : IVec S16 32) : Prop :=
  (∀ a x, ((![v497, v501, v503, v507] : Fin 4 → IVec S16 32) a x).toNat < S16x4x8x128.size a)
theorem k0_idx12_inb : ∀ (v497 : IVec S16 32) (v501 : IVec S16 32) (v503 : IVec S16 32) (v507 : IVec S16 32) (k0_hw44 : k0_chk44 v497 v501 v503 v507), ∀ a x, ((![v497, v501, v503, v507] : Fin 4 → IVec S16 32) a x).toNat < S16x4x8x128.size a := fun v497 v501 v503 v507 k0_hw44 => k0_hw44

def k0_chk45 (v514 : IVec S16 32) (v518 : IVec S16 32) (v520 : IVec S16 32) (v524 : IVec S16 32) : Prop :=
  (∀ a x, ((![v514, v518, v520, v524] : Fin 4 → IVec S16 32) a x).toNat < S16x4x8x128.size a)
theorem k0_idx13_inb : ∀ (v514 : IVec S16 32) (v518 : IVec S16 32) (v520 : IVec S16 32) (v524 : IVec S16 32) (k0_hw45 : k0_chk45 v514 v518 v520 v524), ∀ a x, ((![v514, v518, v520, v524] : Fin 4 → IVec S16 32) a x).toNat < S16x4x8x128.size a := fun v514 v518 v520 v524 k0_hw45 => k0_hw45

def k0_chk46 (v531 : IVec S16 32) (v535 : IVec S16 32) (v537 : IVec S16 32) (v541 : IVec S16 32) : Prop :=
  (∀ a x, ((![v531, v535, v537, v541] : Fin 4 → IVec S16 32) a x).toNat < S16x4x8x128.size a)
theorem k0_idx14_inb : ∀ (v531 : IVec S16 32) (v535 : IVec S16 32) (v537 : IVec S16 32) (v541 : IVec S16 32) (k0_hw46 : k0_chk46 v531 v535 v537 v541), ∀ a x, ((![v531, v535, v537, v541] : Fin 4 → IVec S16 32) a x).toNat < S16x4x8x128.size a := fun v531 v535 v537 v541 k0_hw46 => k0_hw46

def k0_chk47 (v548 : IVec S16 32) (v552 : IVec S16 32) (v554 : IVec S16 32) (v558 : IVec S16 32) : Prop :=
  (∀ a x, ((![v548, v552, v554, v558] : Fin 4 → IVec S16 32) a x).toNat < S16x4x8x128.size a)
theorem k0_idx15_inb : ∀ (v548 : IVec S16 32) (v552 : IVec S16 32) (v554 : IVec S16 32) (v558 : IVec S16 32) (k0_hw47 : k0_chk47 v548 v552 v554 v558), ∀ a x, ((![v548, v552, v554, v558] : Fin 4 → IVec S16 32) a x).toNat < S16x4x8x128.size a := fun v548 v552 v554 v558 k0_hw47 => k0_hw47

def k0_chk48 (v565 : IVec S16 32) (v569 : IVec S16 32) (v571 : IVec S16 32) (v575 : IVec S16 32) : Prop :=
  (∀ a x, ((![v565, v569, v571, v575] : Fin 4 → IVec S16 32) a x).toNat < S16x4x8x128.size a)
theorem k0_idx16_inb : ∀ (v565 : IVec S16 32) (v569 : IVec S16 32) (v571 : IVec S16 32) (v575 : IVec S16 32) (k0_hw48 : k0_chk48 v565 v569 v571 v575), ∀ a x, ((![v565, v569, v571, v575] : Fin 4 → IVec S16 32) a x).toNat < S16x4x8x128.size a := fun v565 v569 v571 v575 k0_hw48 => k0_hw48

def k0_chk49 (v582 : IVec S16 32) (v586 : IVec S16 32) (v588 : IVec S16 32) (v592 : IVec S16 32) : Prop :=
  (∀ a x, ((![v582, v586, v588, v592] : Fin 4 → IVec S16 32) a x).toNat < S16x4x8x128.size a)
theorem k0_idx17_inb : ∀ (v582 : IVec S16 32) (v586 : IVec S16 32) (v588 : IVec S16 32) (v592 : IVec S16 32) (k0_hw49 : k0_chk49 v582 v586 v588 v592), ∀ a x, ((![v582, v586, v588, v592] : Fin 4 → IVec S16 32) a x).toNat < S16x4x8x128.size a := fun v582 v586 v588 v592 k0_hw49 => k0_hw49

def k0_chk50 (v599 : IVec S16 32) (v603 : IVec S16 32) (v605 : IVec S16 32) (v609 : IVec S16 32) : Prop :=
  (∀ a x, ((![v599, v603, v605, v609] : Fin 4 → IVec S16 32) a x).toNat < S16x4x8x128.size a)
theorem k0_idx18_inb : ∀ (v599 : IVec S16 32) (v603 : IVec S16 32) (v605 : IVec S16 32) (v609 : IVec S16 32) (k0_hw50 : k0_chk50 v599 v603 v605 v609), ∀ a x, ((![v599, v603, v605, v609] : Fin 4 → IVec S16 32) a x).toNat < S16x4x8x128.size a := fun v599 v603 v605 v609 k0_hw50 => k0_hw50

def k0_chk51 (v616 : IVec S16 32) (v620 : IVec S16 32) (v622 : IVec S16 32) (v626 : IVec S16 32) : Prop :=
  (∀ a x, ((![v616, v620, v622, v626] : Fin 4 → IVec S16 32) a x).toNat < S16x4x8x128.size a)
theorem k0_idx19_inb : ∀ (v616 : IVec S16 32) (v620 : IVec S16 32) (v622 : IVec S16 32) (v626 : IVec S16 32) (k0_hw51 : k0_chk51 v616 v620 v622 v626), ∀ a x, ((![v616, v620, v622, v626] : Fin 4 → IVec S16 32) a x).toNat < S16x4x8x128.size a := fun v616 v620 v622 v626 k0_hw51 => k0_hw51

def k0_chk52 (v633 : IVec S16 32) (v637 : IVec S16 32) (v639 : IVec S16 32) (v643 : IVec S16 32) : Prop :=
  (∀ a x, ((![v633, v637, v639, v643] : Fin 4 → IVec S16 32) a x).toNat < S16x4x8x128.size a)
theorem k0_idx20_inb : ∀ (v633 : IVec S16 32) (v637 : IVec S16 32) (v639 : IVec S16 32) (v643 : IVec S16 32) (k0_hw52 : k0_chk52 v633 v637 v639 v643), ∀ a x, ((![v633, v637, v639, v643] : Fin 4 → IVec S16 32) a x).toNat < S16x4x8x128.size a := fun v633 v637 v639 v643 k0_hw52 => k0_hw52

def k0_chk53 (v650 : IVec S16 32) (v654 : IVec S16 32) (v656 : IVec S16 32) (v660 : IVec S16 32) : Prop :=
  (∀ a x, ((![v650, v654, v656, v660] : Fin 4 → IVec S16 32) a x).toNat < S16x4x8x128.size a)
theorem k0_idx21_inb : ∀ (v650 : IVec S16 32) (v654 : IVec S16 32) (v656 : IVec S16 32) (v660 : IVec S16 32) (k0_hw53 : k0_chk53 v650 v654 v656 v660), ∀ a x, ((![v650, v654, v656, v660] : Fin 4 → IVec S16 32) a x).toNat < S16x4x8x128.size a := fun v650 v654 v656 v660 k0_hw53 => k0_hw53

def k0_chk54 (v667 : IVec S16 32) (v671 : IVec S16 32) (v673 : IVec S16 32) (v677 : IVec S16 32) : Prop :=
  (∀ a x, ((![v667, v671, v673, v677] : Fin 4 → IVec S16 32) a x).toNat < S16x4x8x128.size a)
theorem k0_idx22_inb : ∀ (v667 : IVec S16 32) (v671 : IVec S16 32) (v673 : IVec S16 32) (v677 : IVec S16 32) (k0_hw54 : k0_chk54 v667 v671 v673 v677), ∀ a x, ((![v667, v671, v673, v677] : Fin 4 → IVec S16 32) a x).toNat < S16x4x8x128.size a := fun v667 v671 v673 v677 k0_hw54 => k0_hw54

def k0_chk55 (v684 : IVec S16 32) (v688 : IVec S16 32) (v690 : IVec S16 32) (v694 : IVec S16 32) : Prop :=
  (∀ a x, ((![v684, v688, v690, v694] : Fin 4 → IVec S16 32) a x).toNat < S16x4x8x128.size a)
theorem k0_idx23_inb : ∀ (v684 : IVec S16 32) (v688 : IVec S16 32) (v690 : IVec S16 32) (v694 : IVec S16 32) (k0_hw55 : k0_chk55 v684 v688 v690 v694), ∀ a x, ((![v684, v688, v690, v694] : Fin 4 → IVec S16 32) a x).toNat < S16x4x8x128.size a := fun v684 v688 v690 v694 k0_hw55 => k0_hw55

def k0_chk56 (v701 : IVec S16 32) (v705 : IVec S16 32) (v707 : IVec S16 32) (v711 : IVec S16 32) : Prop :=
  (∀ a x, ((![v701, v705, v707, v711] : Fin 4 → IVec S16 32) a x).toNat < S16x4x8x128.size a)
theorem k0_idx24_inb : ∀ (v701 : IVec S16 32) (v705 : IVec S16 32) (v707 : IVec S16 32) (v711 : IVec S16 32) (k0_hw56 : k0_chk56 v701 v705 v707 v711), ∀ a x, ((![v701, v705, v707, v711] : Fin 4 → IVec S16 32) a x).toNat < S16x4x8x128.size a := fun v701 v705 v707 v711 k0_hw56 => k0_hw56

def k0_chk57 (v718 : IVec S16 32) (v722 : IVec S16 32) (v724 : IVec S16 32) (v728 : IVec S16 32) : Prop :=
  (∀ a x, ((![v718, v722, v724, v728] : Fin 4 → IVec S16 32) a x).toNat < S16x4x8x128.size a)
theorem k0_idx25_inb : ∀ (v718 : IVec S16 32) (v722 : IVec S16 32) (v724 : IVec S16 32) (v728 : IVec S16 32) (k0_hw57 : k0_chk57 v718 v722 v724 v728), ∀ a x, ((![v718, v722, v724, v728] : Fin 4 → IVec S16 32) a x).toNat < S16x4x8x128.size a := fun v718 v722 v724 v728 k0_hw57 => k0_hw57

def k0_chk58 (v735 : IVec S16 32) (v739 : IVec S16 32) (v741 : IVec S16 32) (v745 : IVec S16 32) : Prop :=
  (∀ a x, ((![v735, v739, v741, v745] : Fin 4 → IVec S16 32) a x).toNat < S16x4x8x128.size a)
theorem k0_idx26_inb : ∀ (v735 : IVec S16 32) (v739 : IVec S16 32) (v741 : IVec S16 32) (v745 : IVec S16 32) (k0_hw58 : k0_chk58 v735 v739 v741 v745), ∀ a x, ((![v735, v739, v741, v745] : Fin 4 → IVec S16 32) a x).toNat < S16x4x8x128.size a := fun v735 v739 v741 v745 k0_hw58 => k0_hw58

def k0_chk59 (v752 : IVec S16 32) (v756 : IVec S16 32) (v758 : IVec S16 32) (v762 : IVec S16 32) : Prop :=
  (∀ a x, ((![v752, v756, v758, v762] : Fin 4 → IVec S16 32) a x).toNat < S16x4x8x128.size a)
theorem k0_idx27_inb : ∀ (v752 : IVec S16 32) (v756 : IVec S16 32) (v758 : IVec S16 32) (v762 : IVec S16 32) (k0_hw59 : k0_chk59 v752 v756 v758 v762), ∀ a x, ((![v752, v756, v758, v762] : Fin 4 → IVec S16 32) a x).toNat < S16x4x8x128.size a := fun v752 v756 v758 v762 k0_hw59 => k0_hw59

def k0_chk60 (v769 : IVec S16 32) (v773 : IVec S16 32) (v775 : IVec S16 32) (v779 : IVec S16 32) : Prop :=
  (∀ a x, ((![v769, v773, v775, v779] : Fin 4 → IVec S16 32) a x).toNat < S16x4x8x128.size a)
theorem k0_idx28_inb : ∀ (v769 : IVec S16 32) (v773 : IVec S16 32) (v775 : IVec S16 32) (v779 : IVec S16 32) (k0_hw60 : k0_chk60 v769 v773 v775 v779), ∀ a x, ((![v769, v773, v775, v779] : Fin 4 → IVec S16 32) a x).toNat < S16x4x8x128.size a := fun v769 v773 v775 v779 k0_hw60 => k0_hw60

def k0_chk61 (v786 : IVec S16 32) (v790 : IVec S16 32) (v792 : IVec S16 32) (v796 : IVec S16 32) : Prop :=
  (∀ a x, ((![v786, v790, v792, v796] : Fin 4 → IVec S16 32) a x).toNat < S16x4x8x128.size a)
theorem k0_idx29_inb : ∀ (v786 : IVec S16 32) (v790 : IVec S16 32) (v792 : IVec S16 32) (v796 : IVec S16 32) (k0_hw61 : k0_chk61 v786 v790 v792 v796), ∀ a x, ((![v786, v790, v792, v796] : Fin 4 → IVec S16 32) a x).toNat < S16x4x8x128.size a := fun v786 v790 v792 v796 k0_hw61 => k0_hw61

def k0_chk62 (v803 : IVec S16 32) (v807 : IVec S16 32) (v809 : IVec S16 32) (v813 : IVec S16 32) : Prop :=
  (∀ a x, ((![v803, v807, v809, v813] : Fin 4 → IVec S16 32) a x).toNat < S16x4x8x128.size a)
theorem k0_idx30_inb : ∀ (v803 : IVec S16 32) (v807 : IVec S16 32) (v809 : IVec S16 32) (v813 : IVec S16 32) (k0_hw62 : k0_chk62 v803 v807 v809 v813), ∀ a x, ((![v803, v807, v809, v813] : Fin 4 → IVec S16 32) a x).toNat < S16x4x8x128.size a := fun v803 v807 v809 v813 k0_hw62 => k0_hw62

def k0_chk63 (v820 : IVec S16 32) (v824 : IVec S16 32) (v826 : IVec S16 32) (v830 : IVec S16 32) : Prop :=
  (∀ a x, ((![v820, v824, v826, v830] : Fin 4 → IVec S16 32) a x).toNat < S16x4x8x128.size a)
theorem k0_idx31_inb : ∀ (v820 : IVec S16 32) (v824 : IVec S16 32) (v826 : IVec S16 32) (v830 : IVec S16 32) (k0_hw63 : k0_chk63 v820 v824 v826 v830), ∀ a x, ((![v820, v824, v826, v830] : Fin 4 → IVec S16 32) a x).toNat < S16x4x8x128.size a := fun v820 v824 v826 v830 k0_hw63 => k0_hw63

def k0_chk64 (v837 : IVec S16 32) (v841 : IVec S16 32) (v843 : IVec S16 32) (v847 : IVec S16 32) : Prop :=
  (∀ a x, ((![v837, v841, v843, v847] : Fin 4 → IVec S16 32) a x).toNat < S16x4x8x128.size a)
theorem k0_idx32_inb : ∀ (v837 : IVec S16 32) (v841 : IVec S16 32) (v843 : IVec S16 32) (v847 : IVec S16 32) (k0_hw64 : k0_chk64 v837 v841 v843 v847), ∀ a x, ((![v837, v841, v843, v847] : Fin 4 → IVec S16 32) a x).toNat < S16x4x8x128.size a := fun v837 v841 v843 v847 k0_hw64 => k0_hw64

def k0_chk65 (v854 : IVec S16 32) (v858 : IVec S16 32) (v860 : IVec S16 32) (v864 : IVec S16 32) : Prop :=
  (∀ a x, ((![v854, v858, v860, v864] : Fin 4 → IVec S16 32) a x).toNat < S16x4x8x128.size a)
theorem k0_idx33_inb : ∀ (v854 : IVec S16 32) (v858 : IVec S16 32) (v860 : IVec S16 32) (v864 : IVec S16 32) (k0_hw65 : k0_chk65 v854 v858 v860 v864), ∀ a x, ((![v854, v858, v860, v864] : Fin 4 → IVec S16 32) a x).toNat < S16x4x8x128.size a := fun v854 v858 v860 v864 k0_hw65 => k0_hw65
def k0_mult18 (v1733 : BitVec 32) : BitVec 32 :=
  let c_m128_i32 : BitVec 32 := 4294967168#32
  let v1734 : BitVec 32 := Scalar.andi v1733 c_m128_i32
  v1734
def k0_cond34 (v869 : BitVec 32) : BitVec 1 :=
  let c0_i32_318 : BitVec 32 := 0#32
  let v870 : BitVec 1 := Scalar.cmpi .sgt v869 c0_i32_318
  let v871 : BitVec 32 := Scalar.extui v870
  let c0_i32_319 : BitVec 32 := 0#32
  let v872 : BitVec 1 := Scalar.cmpi .ne v871 c0_i32_319
  v872

def k0_off35 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk67 (v869 : BitVec 32) (v1737 : BitVec 32) : Prop :=
  (∀ (k0_h34 : k0_cond34 v869 = 1#1), ∀ a, (k0_off35 v1737) a + S1x4x8x128.size a ≤ S16x4x8x128.size a)
theorem k0_off35_inb : ∀ (v869 : BitVec 32) (v1737 : BitVec 32) (k0_hw67 : k0_chk67 v869 v1737), ∀ (k0_h34 : k0_cond34 v869 = 1#1), ∀ a, (k0_off35 v1737) a + S1x4x8x128.size a ≤ S16x4x8x128.size a := fun v869 v1737 k0_hw67 k0_h34 => k0_hw67 k0_h34

def k0_off36 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk66 (v869 : BitVec 32) (v1733 : BitVec 32) : Prop :=
  (∀ (k0_h34 : k0_cond34 v869 = 1#1), 128 ∣ (k0_mult18 v1733).toNat) ∧
  (∀ (k0_h34 : k0_cond34 v869 = 1#1), ∀ a, (k0_off36 v1733) a + S4x8x128.size a ≤ S8x8x1000064.size a)
theorem k0_mult18_dvd : ∀ (v869 : BitVec 32) (v1733 : BitVec 32) (k0_hw66 : k0_chk66 v869 v1733), ∀ (k0_h34 : k0_cond34 v869 = 1#1), 128 ∣ (k0_mult18 v1733).toNat := fun v869 v1733 k0_hw66 k0_h34 => k0_hw66.1 k0_h34
theorem k0_off36_inb : ∀ (v869 : BitVec 32) (v1733 : BitVec 32) (k0_hw66 : k0_chk66 v869 v1733), ∀ (k0_h34 : k0_cond34 v869 = 1#1), ∀ a, (k0_off36 v1733) a + S4x8x128.size a ≤ S8x8x1000064.size a := fun v869 v1733 k0_hw66 k0_h34 => k0_hw66.2 k0_h34

def k0_mult19 (v1733 : BitVec 32) : BitVec 32 :=
  let c_m128_i32 : BitVec 32 := 4294967168#32
  let v1734 : BitVec 32 := Scalar.andi v1733 c_m128_i32
  v1734
def k0_cond35 (v874 : BitVec 32) : BitVec 1 :=
  let c0_i32_320 : BitVec 32 := 0#32
  let v875 : BitVec 1 := Scalar.cmpi .sgt v874 c0_i32_320
  let v876 : BitVec 32 := Scalar.extui v875
  let c0_i32_321 : BitVec 32 := 0#32
  let v877 : BitVec 1 := Scalar.cmpi .ne v876 c0_i32_321
  v877

def k0_off37 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk69 (v874 : BitVec 32) (v1737 : BitVec 32) : Prop :=
  (∀ (k0_h35 : k0_cond35 v874 = 1#1), ∀ a, (k0_off37 v1737) a + S1x4x8x128.size a ≤ S16x4x8x128.size a)
theorem k0_off37_inb : ∀ (v874 : BitVec 32) (v1737 : BitVec 32) (k0_hw69 : k0_chk69 v874 v1737), ∀ (k0_h35 : k0_cond35 v874 = 1#1), ∀ a, (k0_off37 v1737) a + S1x4x8x128.size a ≤ S16x4x8x128.size a := fun v874 v1737 k0_hw69 k0_h35 => k0_hw69 k0_h35

def k0_off38 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk68 (v874 : BitVec 32) (v1733 : BitVec 32) : Prop :=
  (∀ (k0_h35 : k0_cond35 v874 = 1#1), 128 ∣ (k0_mult19 v1733).toNat) ∧
  (∀ (k0_h35 : k0_cond35 v874 = 1#1), ∀ a, (k0_off38 v1733) a + S4x8x128.size a ≤ S8x8x1000064.size a)
theorem k0_mult19_dvd : ∀ (v874 : BitVec 32) (v1733 : BitVec 32) (k0_hw68 : k0_chk68 v874 v1733), ∀ (k0_h35 : k0_cond35 v874 = 1#1), 128 ∣ (k0_mult19 v1733).toNat := fun v874 v1733 k0_hw68 k0_h35 => k0_hw68.1 k0_h35
theorem k0_off38_inb : ∀ (v874 : BitVec 32) (v1733 : BitVec 32) (k0_hw68 : k0_chk68 v874 v1733), ∀ (k0_h35 : k0_cond35 v874 = 1#1), ∀ a, (k0_off38 v1733) a + S4x8x128.size a ≤ S8x8x1000064.size a := fun v874 v1733 k0_hw68 k0_h35 => k0_hw68.2 k0_h35

def k0_mult20 (v1733 : BitVec 32) : BitVec 32 :=
  let c_m128_i32 : BitVec 32 := 4294967168#32
  let v1734 : BitVec 32 := Scalar.andi v1733 c_m128_i32
  v1734
def k0_cond36 (v879 : BitVec 32) : BitVec 1 :=
  let c0_i32_322 : BitVec 32 := 0#32
  let v880 : BitVec 1 := Scalar.cmpi .sgt v879 c0_i32_322
  let v881 : BitVec 32 := Scalar.extui v880
  let c0_i32_323 : BitVec 32 := 0#32
  let v882 : BitVec 1 := Scalar.cmpi .ne v881 c0_i32_323
  v882

def k0_off39 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk71 (v879 : BitVec 32) (v1737 : BitVec 32) : Prop :=
  (∀ (k0_h36 : k0_cond36 v879 = 1#1), ∀ a, (k0_off39 v1737) a + S1x4x8x128.size a ≤ S16x4x8x128.size a)
theorem k0_off39_inb : ∀ (v879 : BitVec 32) (v1737 : BitVec 32) (k0_hw71 : k0_chk71 v879 v1737), ∀ (k0_h36 : k0_cond36 v879 = 1#1), ∀ a, (k0_off39 v1737) a + S1x4x8x128.size a ≤ S16x4x8x128.size a := fun v879 v1737 k0_hw71 k0_h36 => k0_hw71 k0_h36

def k0_off40 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk70 (v879 : BitVec 32) (v1733 : BitVec 32) : Prop :=
  (∀ (k0_h36 : k0_cond36 v879 = 1#1), 128 ∣ (k0_mult20 v1733).toNat) ∧
  (∀ (k0_h36 : k0_cond36 v879 = 1#1), ∀ a, (k0_off40 v1733) a + S4x8x128.size a ≤ S8x8x1000064.size a)
theorem k0_mult20_dvd : ∀ (v879 : BitVec 32) (v1733 : BitVec 32) (k0_hw70 : k0_chk70 v879 v1733), ∀ (k0_h36 : k0_cond36 v879 = 1#1), 128 ∣ (k0_mult20 v1733).toNat := fun v879 v1733 k0_hw70 k0_h36 => k0_hw70.1 k0_h36
theorem k0_off40_inb : ∀ (v879 : BitVec 32) (v1733 : BitVec 32) (k0_hw70 : k0_chk70 v879 v1733), ∀ (k0_h36 : k0_cond36 v879 = 1#1), ∀ a, (k0_off40 v1733) a + S4x8x128.size a ≤ S8x8x1000064.size a := fun v879 v1733 k0_hw70 k0_h36 => k0_hw70.2 k0_h36

def k0_mult21 (v1733 : BitVec 32) : BitVec 32 :=
  let c_m128_i32 : BitVec 32 := 4294967168#32
  let v1734 : BitVec 32 := Scalar.andi v1733 c_m128_i32
  v1734
def k0_cond37 (v884 : BitVec 32) : BitVec 1 :=
  let c0_i32_324 : BitVec 32 := 0#32
  let v885 : BitVec 1 := Scalar.cmpi .sgt v884 c0_i32_324
  let v886 : BitVec 32 := Scalar.extui v885
  let c0_i32_325 : BitVec 32 := 0#32
  let v887 : BitVec 1 := Scalar.cmpi .ne v886 c0_i32_325
  v887

def k0_off41 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk73 (v884 : BitVec 32) (v1737 : BitVec 32) : Prop :=
  (∀ (k0_h37 : k0_cond37 v884 = 1#1), ∀ a, (k0_off41 v1737) a + S1x4x8x128.size a ≤ S16x4x8x128.size a)
theorem k0_off41_inb : ∀ (v884 : BitVec 32) (v1737 : BitVec 32) (k0_hw73 : k0_chk73 v884 v1737), ∀ (k0_h37 : k0_cond37 v884 = 1#1), ∀ a, (k0_off41 v1737) a + S1x4x8x128.size a ≤ S16x4x8x128.size a := fun v884 v1737 k0_hw73 k0_h37 => k0_hw73 k0_h37

def k0_off42 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk72 (v884 : BitVec 32) (v1733 : BitVec 32) : Prop :=
  (∀ (k0_h37 : k0_cond37 v884 = 1#1), 128 ∣ (k0_mult21 v1733).toNat) ∧
  (∀ (k0_h37 : k0_cond37 v884 = 1#1), ∀ a, (k0_off42 v1733) a + S4x8x128.size a ≤ S8x8x1000064.size a)
theorem k0_mult21_dvd : ∀ (v884 : BitVec 32) (v1733 : BitVec 32) (k0_hw72 : k0_chk72 v884 v1733), ∀ (k0_h37 : k0_cond37 v884 = 1#1), 128 ∣ (k0_mult21 v1733).toNat := fun v884 v1733 k0_hw72 k0_h37 => k0_hw72.1 k0_h37
theorem k0_off42_inb : ∀ (v884 : BitVec 32) (v1733 : BitVec 32) (k0_hw72 : k0_chk72 v884 v1733), ∀ (k0_h37 : k0_cond37 v884 = 1#1), ∀ a, (k0_off42 v1733) a + S4x8x128.size a ≤ S8x8x1000064.size a := fun v884 v1733 k0_hw72 k0_h37 => k0_hw72.2 k0_h37

def k0_mult22 (v1733 : BitVec 32) : BitVec 32 :=
  let c_m128_i32 : BitVec 32 := 4294967168#32
  let v1734 : BitVec 32 := Scalar.andi v1733 c_m128_i32
  v1734
def k0_cond38 (v889 : BitVec 32) : BitVec 1 :=
  let c0_i32_326 : BitVec 32 := 0#32
  let v890 : BitVec 1 := Scalar.cmpi .sgt v889 c0_i32_326
  let v891 : BitVec 32 := Scalar.extui v890
  let c0_i32_327 : BitVec 32 := 0#32
  let v892 : BitVec 1 := Scalar.cmpi .ne v891 c0_i32_327
  v892

def k0_off43 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk75 (v889 : BitVec 32) (v1737 : BitVec 32) : Prop :=
  (∀ (k0_h38 : k0_cond38 v889 = 1#1), ∀ a, (k0_off43 v1737) a + S1x4x8x128.size a ≤ S16x4x8x128.size a)
theorem k0_off43_inb : ∀ (v889 : BitVec 32) (v1737 : BitVec 32) (k0_hw75 : k0_chk75 v889 v1737), ∀ (k0_h38 : k0_cond38 v889 = 1#1), ∀ a, (k0_off43 v1737) a + S1x4x8x128.size a ≤ S16x4x8x128.size a := fun v889 v1737 k0_hw75 k0_h38 => k0_hw75 k0_h38

def k0_off44 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk74 (v889 : BitVec 32) (v1733 : BitVec 32) : Prop :=
  (∀ (k0_h38 : k0_cond38 v889 = 1#1), 128 ∣ (k0_mult22 v1733).toNat) ∧
  (∀ (k0_h38 : k0_cond38 v889 = 1#1), ∀ a, (k0_off44 v1733) a + S4x8x128.size a ≤ S8x8x1000064.size a)
theorem k0_mult22_dvd : ∀ (v889 : BitVec 32) (v1733 : BitVec 32) (k0_hw74 : k0_chk74 v889 v1733), ∀ (k0_h38 : k0_cond38 v889 = 1#1), 128 ∣ (k0_mult22 v1733).toNat := fun v889 v1733 k0_hw74 k0_h38 => k0_hw74.1 k0_h38
theorem k0_off44_inb : ∀ (v889 : BitVec 32) (v1733 : BitVec 32) (k0_hw74 : k0_chk74 v889 v1733), ∀ (k0_h38 : k0_cond38 v889 = 1#1), ∀ a, (k0_off44 v1733) a + S4x8x128.size a ≤ S8x8x1000064.size a := fun v889 v1733 k0_hw74 k0_h38 => k0_hw74.2 k0_h38

def k0_mult23 (v1733 : BitVec 32) : BitVec 32 :=
  let c_m128_i32 : BitVec 32 := 4294967168#32
  let v1734 : BitVec 32 := Scalar.andi v1733 c_m128_i32
  v1734
def k0_cond39 (v894 : BitVec 32) : BitVec 1 :=
  let c0_i32_328 : BitVec 32 := 0#32
  let v895 : BitVec 1 := Scalar.cmpi .sgt v894 c0_i32_328
  let v896 : BitVec 32 := Scalar.extui v895
  let c0_i32_329 : BitVec 32 := 0#32
  let v897 : BitVec 1 := Scalar.cmpi .ne v896 c0_i32_329
  v897

def k0_off45 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk77 (v894 : BitVec 32) (v1737 : BitVec 32) : Prop :=
  (∀ (k0_h39 : k0_cond39 v894 = 1#1), ∀ a, (k0_off45 v1737) a + S1x4x8x128.size a ≤ S16x4x8x128.size a)
theorem k0_off45_inb : ∀ (v894 : BitVec 32) (v1737 : BitVec 32) (k0_hw77 : k0_chk77 v894 v1737), ∀ (k0_h39 : k0_cond39 v894 = 1#1), ∀ a, (k0_off45 v1737) a + S1x4x8x128.size a ≤ S16x4x8x128.size a := fun v894 v1737 k0_hw77 k0_h39 => k0_hw77 k0_h39

def k0_off46 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk76 (v894 : BitVec 32) (v1733 : BitVec 32) : Prop :=
  (∀ (k0_h39 : k0_cond39 v894 = 1#1), 128 ∣ (k0_mult23 v1733).toNat) ∧
  (∀ (k0_h39 : k0_cond39 v894 = 1#1), ∀ a, (k0_off46 v1733) a + S4x8x128.size a ≤ S8x8x1000064.size a)
theorem k0_mult23_dvd : ∀ (v894 : BitVec 32) (v1733 : BitVec 32) (k0_hw76 : k0_chk76 v894 v1733), ∀ (k0_h39 : k0_cond39 v894 = 1#1), 128 ∣ (k0_mult23 v1733).toNat := fun v894 v1733 k0_hw76 k0_h39 => k0_hw76.1 k0_h39
theorem k0_off46_inb : ∀ (v894 : BitVec 32) (v1733 : BitVec 32) (k0_hw76 : k0_chk76 v894 v1733), ∀ (k0_h39 : k0_cond39 v894 = 1#1), ∀ a, (k0_off46 v1733) a + S4x8x128.size a ≤ S8x8x1000064.size a := fun v894 v1733 k0_hw76 k0_h39 => k0_hw76.2 k0_h39

def k0_mult24 (v1733 : BitVec 32) : BitVec 32 :=
  let c_m128_i32 : BitVec 32 := 4294967168#32
  let v1734 : BitVec 32 := Scalar.andi v1733 c_m128_i32
  v1734
def k0_cond40 (v899 : BitVec 32) : BitVec 1 :=
  let c0_i32_330 : BitVec 32 := 0#32
  let v900 : BitVec 1 := Scalar.cmpi .sgt v899 c0_i32_330
  let v901 : BitVec 32 := Scalar.extui v900
  let c0_i32_331 : BitVec 32 := 0#32
  let v902 : BitVec 1 := Scalar.cmpi .ne v901 c0_i32_331
  v902

def k0_off47 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk79 (v899 : BitVec 32) (v1737 : BitVec 32) : Prop :=
  (∀ (k0_h40 : k0_cond40 v899 = 1#1), ∀ a, (k0_off47 v1737) a + S1x4x8x128.size a ≤ S16x4x8x128.size a)
theorem k0_off47_inb : ∀ (v899 : BitVec 32) (v1737 : BitVec 32) (k0_hw79 : k0_chk79 v899 v1737), ∀ (k0_h40 : k0_cond40 v899 = 1#1), ∀ a, (k0_off47 v1737) a + S1x4x8x128.size a ≤ S16x4x8x128.size a := fun v899 v1737 k0_hw79 k0_h40 => k0_hw79 k0_h40

def k0_off48 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk78 (v899 : BitVec 32) (v1733 : BitVec 32) : Prop :=
  (∀ (k0_h40 : k0_cond40 v899 = 1#1), 128 ∣ (k0_mult24 v1733).toNat) ∧
  (∀ (k0_h40 : k0_cond40 v899 = 1#1), ∀ a, (k0_off48 v1733) a + S4x8x128.size a ≤ S8x8x1000064.size a)
theorem k0_mult24_dvd : ∀ (v899 : BitVec 32) (v1733 : BitVec 32) (k0_hw78 : k0_chk78 v899 v1733), ∀ (k0_h40 : k0_cond40 v899 = 1#1), 128 ∣ (k0_mult24 v1733).toNat := fun v899 v1733 k0_hw78 k0_h40 => k0_hw78.1 k0_h40
theorem k0_off48_inb : ∀ (v899 : BitVec 32) (v1733 : BitVec 32) (k0_hw78 : k0_chk78 v899 v1733), ∀ (k0_h40 : k0_cond40 v899 = 1#1), ∀ a, (k0_off48 v1733) a + S4x8x128.size a ≤ S8x8x1000064.size a := fun v899 v1733 k0_hw78 k0_h40 => k0_hw78.2 k0_h40

def k0_mult25 (v1733 : BitVec 32) : BitVec 32 :=
  let c_m128_i32 : BitVec 32 := 4294967168#32
  let v1734 : BitVec 32 := Scalar.andi v1733 c_m128_i32
  v1734
def k0_cond41 (v904 : BitVec 32) : BitVec 1 :=
  let c0_i32_332 : BitVec 32 := 0#32
  let v905 : BitVec 1 := Scalar.cmpi .sgt v904 c0_i32_332
  let v906 : BitVec 32 := Scalar.extui v905
  let c0_i32_333 : BitVec 32 := 0#32
  let v907 : BitVec 1 := Scalar.cmpi .ne v906 c0_i32_333
  v907

def k0_off49 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk81 (v904 : BitVec 32) (v1737 : BitVec 32) : Prop :=
  (∀ (k0_h41 : k0_cond41 v904 = 1#1), ∀ a, (k0_off49 v1737) a + S1x4x8x128.size a ≤ S16x4x8x128.size a)
theorem k0_off49_inb : ∀ (v904 : BitVec 32) (v1737 : BitVec 32) (k0_hw81 : k0_chk81 v904 v1737), ∀ (k0_h41 : k0_cond41 v904 = 1#1), ∀ a, (k0_off49 v1737) a + S1x4x8x128.size a ≤ S16x4x8x128.size a := fun v904 v1737 k0_hw81 k0_h41 => k0_hw81 k0_h41

def k0_off50 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk80 (v904 : BitVec 32) (v1733 : BitVec 32) : Prop :=
  (∀ (k0_h41 : k0_cond41 v904 = 1#1), 128 ∣ (k0_mult25 v1733).toNat) ∧
  (∀ (k0_h41 : k0_cond41 v904 = 1#1), ∀ a, (k0_off50 v1733) a + S4x8x128.size a ≤ S8x8x1000064.size a)
theorem k0_mult25_dvd : ∀ (v904 : BitVec 32) (v1733 : BitVec 32) (k0_hw80 : k0_chk80 v904 v1733), ∀ (k0_h41 : k0_cond41 v904 = 1#1), 128 ∣ (k0_mult25 v1733).toNat := fun v904 v1733 k0_hw80 k0_h41 => k0_hw80.1 k0_h41
theorem k0_off50_inb : ∀ (v904 : BitVec 32) (v1733 : BitVec 32) (k0_hw80 : k0_chk80 v904 v1733), ∀ (k0_h41 : k0_cond41 v904 = 1#1), ∀ a, (k0_off50 v1733) a + S4x8x128.size a ≤ S8x8x1000064.size a := fun v904 v1733 k0_hw80 k0_h41 => k0_hw80.2 k0_h41

def k0_mult26 (v1733 : BitVec 32) : BitVec 32 :=
  let c_m128_i32 : BitVec 32 := 4294967168#32
  let v1734 : BitVec 32 := Scalar.andi v1733 c_m128_i32
  v1734
def k0_cond42 (v909 : BitVec 32) : BitVec 1 :=
  let c0_i32_334 : BitVec 32 := 0#32
  let v910 : BitVec 1 := Scalar.cmpi .sgt v909 c0_i32_334
  let v911 : BitVec 32 := Scalar.extui v910
  let c0_i32_335 : BitVec 32 := 0#32
  let v912 : BitVec 1 := Scalar.cmpi .ne v911 c0_i32_335
  v912

def k0_off51 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk83 (v909 : BitVec 32) (v1737 : BitVec 32) : Prop :=
  (∀ (k0_h42 : k0_cond42 v909 = 1#1), ∀ a, (k0_off51 v1737) a + S1x4x8x128.size a ≤ S16x4x8x128.size a)
theorem k0_off51_inb : ∀ (v909 : BitVec 32) (v1737 : BitVec 32) (k0_hw83 : k0_chk83 v909 v1737), ∀ (k0_h42 : k0_cond42 v909 = 1#1), ∀ a, (k0_off51 v1737) a + S1x4x8x128.size a ≤ S16x4x8x128.size a := fun v909 v1737 k0_hw83 k0_h42 => k0_hw83 k0_h42

def k0_off52 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk82 (v909 : BitVec 32) (v1733 : BitVec 32) : Prop :=
  (∀ (k0_h42 : k0_cond42 v909 = 1#1), 128 ∣ (k0_mult26 v1733).toNat) ∧
  (∀ (k0_h42 : k0_cond42 v909 = 1#1), ∀ a, (k0_off52 v1733) a + S4x8x128.size a ≤ S8x8x1000064.size a)
theorem k0_mult26_dvd : ∀ (v909 : BitVec 32) (v1733 : BitVec 32) (k0_hw82 : k0_chk82 v909 v1733), ∀ (k0_h42 : k0_cond42 v909 = 1#1), 128 ∣ (k0_mult26 v1733).toNat := fun v909 v1733 k0_hw82 k0_h42 => k0_hw82.1 k0_h42
theorem k0_off52_inb : ∀ (v909 : BitVec 32) (v1733 : BitVec 32) (k0_hw82 : k0_chk82 v909 v1733), ∀ (k0_h42 : k0_cond42 v909 = 1#1), ∀ a, (k0_off52 v1733) a + S4x8x128.size a ≤ S8x8x1000064.size a := fun v909 v1733 k0_hw82 k0_h42 => k0_hw82.2 k0_h42

def k0_mult27 (v1733 : BitVec 32) : BitVec 32 :=
  let c_m128_i32 : BitVec 32 := 4294967168#32
  let v1734 : BitVec 32 := Scalar.andi v1733 c_m128_i32
  v1734
def k0_cond43 (v914 : BitVec 32) : BitVec 1 :=
  let c0_i32_336 : BitVec 32 := 0#32
  let v915 : BitVec 1 := Scalar.cmpi .sgt v914 c0_i32_336
  let v916 : BitVec 32 := Scalar.extui v915
  let c0_i32_337 : BitVec 32 := 0#32
  let v917 : BitVec 1 := Scalar.cmpi .ne v916 c0_i32_337
  v917

def k0_off53 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk85 (v914 : BitVec 32) (v1737 : BitVec 32) : Prop :=
  (∀ (k0_h43 : k0_cond43 v914 = 1#1), ∀ a, (k0_off53 v1737) a + S1x4x8x128.size a ≤ S16x4x8x128.size a)
theorem k0_off53_inb : ∀ (v914 : BitVec 32) (v1737 : BitVec 32) (k0_hw85 : k0_chk85 v914 v1737), ∀ (k0_h43 : k0_cond43 v914 = 1#1), ∀ a, (k0_off53 v1737) a + S1x4x8x128.size a ≤ S16x4x8x128.size a := fun v914 v1737 k0_hw85 k0_h43 => k0_hw85 k0_h43

def k0_off54 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk84 (v914 : BitVec 32) (v1733 : BitVec 32) : Prop :=
  (∀ (k0_h43 : k0_cond43 v914 = 1#1), 128 ∣ (k0_mult27 v1733).toNat) ∧
  (∀ (k0_h43 : k0_cond43 v914 = 1#1), ∀ a, (k0_off54 v1733) a + S4x8x128.size a ≤ S8x8x1000064.size a)
theorem k0_mult27_dvd : ∀ (v914 : BitVec 32) (v1733 : BitVec 32) (k0_hw84 : k0_chk84 v914 v1733), ∀ (k0_h43 : k0_cond43 v914 = 1#1), 128 ∣ (k0_mult27 v1733).toNat := fun v914 v1733 k0_hw84 k0_h43 => k0_hw84.1 k0_h43
theorem k0_off54_inb : ∀ (v914 : BitVec 32) (v1733 : BitVec 32) (k0_hw84 : k0_chk84 v914 v1733), ∀ (k0_h43 : k0_cond43 v914 = 1#1), ∀ a, (k0_off54 v1733) a + S4x8x128.size a ≤ S8x8x1000064.size a := fun v914 v1733 k0_hw84 k0_h43 => k0_hw84.2 k0_h43

def k0_mult28 (v1733 : BitVec 32) : BitVec 32 :=
  let c_m128_i32 : BitVec 32 := 4294967168#32
  let v1734 : BitVec 32 := Scalar.andi v1733 c_m128_i32
  v1734
def k0_cond44 (v919 : BitVec 32) : BitVec 1 :=
  let c0_i32_338 : BitVec 32 := 0#32
  let v920 : BitVec 1 := Scalar.cmpi .sgt v919 c0_i32_338
  let v921 : BitVec 32 := Scalar.extui v920
  let c0_i32_339 : BitVec 32 := 0#32
  let v922 : BitVec 1 := Scalar.cmpi .ne v921 c0_i32_339
  v922

def k0_off55 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk87 (v919 : BitVec 32) (v1737 : BitVec 32) : Prop :=
  (∀ (k0_h44 : k0_cond44 v919 = 1#1), ∀ a, (k0_off55 v1737) a + S1x4x8x128.size a ≤ S16x4x8x128.size a)
theorem k0_off55_inb : ∀ (v919 : BitVec 32) (v1737 : BitVec 32) (k0_hw87 : k0_chk87 v919 v1737), ∀ (k0_h44 : k0_cond44 v919 = 1#1), ∀ a, (k0_off55 v1737) a + S1x4x8x128.size a ≤ S16x4x8x128.size a := fun v919 v1737 k0_hw87 k0_h44 => k0_hw87 k0_h44

def k0_off56 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk86 (v919 : BitVec 32) (v1733 : BitVec 32) : Prop :=
  (∀ (k0_h44 : k0_cond44 v919 = 1#1), 128 ∣ (k0_mult28 v1733).toNat) ∧
  (∀ (k0_h44 : k0_cond44 v919 = 1#1), ∀ a, (k0_off56 v1733) a + S4x8x128.size a ≤ S8x8x1000064.size a)
theorem k0_mult28_dvd : ∀ (v919 : BitVec 32) (v1733 : BitVec 32) (k0_hw86 : k0_chk86 v919 v1733), ∀ (k0_h44 : k0_cond44 v919 = 1#1), 128 ∣ (k0_mult28 v1733).toNat := fun v919 v1733 k0_hw86 k0_h44 => k0_hw86.1 k0_h44
theorem k0_off56_inb : ∀ (v919 : BitVec 32) (v1733 : BitVec 32) (k0_hw86 : k0_chk86 v919 v1733), ∀ (k0_h44 : k0_cond44 v919 = 1#1), ∀ a, (k0_off56 v1733) a + S4x8x128.size a ≤ S8x8x1000064.size a := fun v919 v1733 k0_hw86 k0_h44 => k0_hw86.2 k0_h44

def k0_mult29 (v1733 : BitVec 32) : BitVec 32 :=
  let c_m128_i32 : BitVec 32 := 4294967168#32
  let v1734 : BitVec 32 := Scalar.andi v1733 c_m128_i32
  v1734
def k0_cond45 (v924 : BitVec 32) : BitVec 1 :=
  let c0_i32_340 : BitVec 32 := 0#32
  let v925 : BitVec 1 := Scalar.cmpi .sgt v924 c0_i32_340
  let v926 : BitVec 32 := Scalar.extui v925
  let c0_i32_341 : BitVec 32 := 0#32
  let v927 : BitVec 1 := Scalar.cmpi .ne v926 c0_i32_341
  v927

def k0_off57 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk89 (v924 : BitVec 32) (v1737 : BitVec 32) : Prop :=
  (∀ (k0_h45 : k0_cond45 v924 = 1#1), ∀ a, (k0_off57 v1737) a + S1x4x8x128.size a ≤ S16x4x8x128.size a)
theorem k0_off57_inb : ∀ (v924 : BitVec 32) (v1737 : BitVec 32) (k0_hw89 : k0_chk89 v924 v1737), ∀ (k0_h45 : k0_cond45 v924 = 1#1), ∀ a, (k0_off57 v1737) a + S1x4x8x128.size a ≤ S16x4x8x128.size a := fun v924 v1737 k0_hw89 k0_h45 => k0_hw89 k0_h45

def k0_off58 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk88 (v924 : BitVec 32) (v1733 : BitVec 32) : Prop :=
  (∀ (k0_h45 : k0_cond45 v924 = 1#1), 128 ∣ (k0_mult29 v1733).toNat) ∧
  (∀ (k0_h45 : k0_cond45 v924 = 1#1), ∀ a, (k0_off58 v1733) a + S4x8x128.size a ≤ S8x8x1000064.size a)
theorem k0_mult29_dvd : ∀ (v924 : BitVec 32) (v1733 : BitVec 32) (k0_hw88 : k0_chk88 v924 v1733), ∀ (k0_h45 : k0_cond45 v924 = 1#1), 128 ∣ (k0_mult29 v1733).toNat := fun v924 v1733 k0_hw88 k0_h45 => k0_hw88.1 k0_h45
theorem k0_off58_inb : ∀ (v924 : BitVec 32) (v1733 : BitVec 32) (k0_hw88 : k0_chk88 v924 v1733), ∀ (k0_h45 : k0_cond45 v924 = 1#1), ∀ a, (k0_off58 v1733) a + S4x8x128.size a ≤ S8x8x1000064.size a := fun v924 v1733 k0_hw88 k0_h45 => k0_hw88.2 k0_h45

def k0_mult30 (v1733 : BitVec 32) : BitVec 32 :=
  let c_m128_i32 : BitVec 32 := 4294967168#32
  let v1734 : BitVec 32 := Scalar.andi v1733 c_m128_i32
  v1734
def k0_cond46 (v929 : BitVec 32) : BitVec 1 :=
  let c0_i32_342 : BitVec 32 := 0#32
  let v930 : BitVec 1 := Scalar.cmpi .sgt v929 c0_i32_342
  let v931 : BitVec 32 := Scalar.extui v930
  let c0_i32_343 : BitVec 32 := 0#32
  let v932 : BitVec 1 := Scalar.cmpi .ne v931 c0_i32_343
  v932

def k0_off59 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk91 (v929 : BitVec 32) (v1737 : BitVec 32) : Prop :=
  (∀ (k0_h46 : k0_cond46 v929 = 1#1), ∀ a, (k0_off59 v1737) a + S1x4x8x128.size a ≤ S16x4x8x128.size a)
theorem k0_off59_inb : ∀ (v929 : BitVec 32) (v1737 : BitVec 32) (k0_hw91 : k0_chk91 v929 v1737), ∀ (k0_h46 : k0_cond46 v929 = 1#1), ∀ a, (k0_off59 v1737) a + S1x4x8x128.size a ≤ S16x4x8x128.size a := fun v929 v1737 k0_hw91 k0_h46 => k0_hw91 k0_h46

def k0_off60 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk90 (v929 : BitVec 32) (v1733 : BitVec 32) : Prop :=
  (∀ (k0_h46 : k0_cond46 v929 = 1#1), 128 ∣ (k0_mult30 v1733).toNat) ∧
  (∀ (k0_h46 : k0_cond46 v929 = 1#1), ∀ a, (k0_off60 v1733) a + S4x8x128.size a ≤ S8x8x1000064.size a)
theorem k0_mult30_dvd : ∀ (v929 : BitVec 32) (v1733 : BitVec 32) (k0_hw90 : k0_chk90 v929 v1733), ∀ (k0_h46 : k0_cond46 v929 = 1#1), 128 ∣ (k0_mult30 v1733).toNat := fun v929 v1733 k0_hw90 k0_h46 => k0_hw90.1 k0_h46
theorem k0_off60_inb : ∀ (v929 : BitVec 32) (v1733 : BitVec 32) (k0_hw90 : k0_chk90 v929 v1733), ∀ (k0_h46 : k0_cond46 v929 = 1#1), ∀ a, (k0_off60 v1733) a + S4x8x128.size a ≤ S8x8x1000064.size a := fun v929 v1733 k0_hw90 k0_h46 => k0_hw90.2 k0_h46

def k0_mult31 (v1733 : BitVec 32) : BitVec 32 :=
  let c_m128_i32 : BitVec 32 := 4294967168#32
  let v1734 : BitVec 32 := Scalar.andi v1733 c_m128_i32
  v1734
def k0_cond47 (v934 : BitVec 32) : BitVec 1 :=
  let c0_i32_344 : BitVec 32 := 0#32
  let v935 : BitVec 1 := Scalar.cmpi .sgt v934 c0_i32_344
  let v936 : BitVec 32 := Scalar.extui v935
  let c0_i32_345 : BitVec 32 := 0#32
  let v937 : BitVec 1 := Scalar.cmpi .ne v936 c0_i32_345
  v937

def k0_off61 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk93 (v934 : BitVec 32) (v1737 : BitVec 32) : Prop :=
  (∀ (k0_h47 : k0_cond47 v934 = 1#1), ∀ a, (k0_off61 v1737) a + S1x4x8x128.size a ≤ S16x4x8x128.size a)
theorem k0_off61_inb : ∀ (v934 : BitVec 32) (v1737 : BitVec 32) (k0_hw93 : k0_chk93 v934 v1737), ∀ (k0_h47 : k0_cond47 v934 = 1#1), ∀ a, (k0_off61 v1737) a + S1x4x8x128.size a ≤ S16x4x8x128.size a := fun v934 v1737 k0_hw93 k0_h47 => k0_hw93 k0_h47

def k0_off62 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk92 (v934 : BitVec 32) (v1733 : BitVec 32) : Prop :=
  (∀ (k0_h47 : k0_cond47 v934 = 1#1), 128 ∣ (k0_mult31 v1733).toNat) ∧
  (∀ (k0_h47 : k0_cond47 v934 = 1#1), ∀ a, (k0_off62 v1733) a + S4x8x128.size a ≤ S8x8x1000064.size a)
theorem k0_mult31_dvd : ∀ (v934 : BitVec 32) (v1733 : BitVec 32) (k0_hw92 : k0_chk92 v934 v1733), ∀ (k0_h47 : k0_cond47 v934 = 1#1), 128 ∣ (k0_mult31 v1733).toNat := fun v934 v1733 k0_hw92 k0_h47 => k0_hw92.1 k0_h47
theorem k0_off62_inb : ∀ (v934 : BitVec 32) (v1733 : BitVec 32) (k0_hw92 : k0_chk92 v934 v1733), ∀ (k0_h47 : k0_cond47 v934 = 1#1), ∀ a, (k0_off62 v1733) a + S4x8x128.size a ≤ S8x8x1000064.size a := fun v934 v1733 k0_hw92 k0_h47 => k0_hw92.2 k0_h47

def k0_mult32 (v1733 : BitVec 32) : BitVec 32 :=
  let c_m128_i32 : BitVec 32 := 4294967168#32
  let v1734 : BitVec 32 := Scalar.andi v1733 c_m128_i32
  v1734
def k0_cond48 (v939 : BitVec 32) : BitVec 1 :=
  let c0_i32_346 : BitVec 32 := 0#32
  let v940 : BitVec 1 := Scalar.cmpi .sgt v939 c0_i32_346
  let v941 : BitVec 32 := Scalar.extui v940
  let c0_i32_347 : BitVec 32 := 0#32
  let v942 : BitVec 1 := Scalar.cmpi .ne v941 c0_i32_347
  v942

def k0_off63 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk95 (v939 : BitVec 32) (v1737 : BitVec 32) : Prop :=
  (∀ (k0_h48 : k0_cond48 v939 = 1#1), ∀ a, (k0_off63 v1737) a + S1x4x8x128.size a ≤ S16x4x8x128.size a)
theorem k0_off63_inb : ∀ (v939 : BitVec 32) (v1737 : BitVec 32) (k0_hw95 : k0_chk95 v939 v1737), ∀ (k0_h48 : k0_cond48 v939 = 1#1), ∀ a, (k0_off63 v1737) a + S1x4x8x128.size a ≤ S16x4x8x128.size a := fun v939 v1737 k0_hw95 k0_h48 => k0_hw95 k0_h48

def k0_off64 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk94 (v939 : BitVec 32) (v1733 : BitVec 32) : Prop :=
  (∀ (k0_h48 : k0_cond48 v939 = 1#1), 128 ∣ (k0_mult32 v1733).toNat) ∧
  (∀ (k0_h48 : k0_cond48 v939 = 1#1), ∀ a, (k0_off64 v1733) a + S4x8x128.size a ≤ S8x8x1000064.size a)
theorem k0_mult32_dvd : ∀ (v939 : BitVec 32) (v1733 : BitVec 32) (k0_hw94 : k0_chk94 v939 v1733), ∀ (k0_h48 : k0_cond48 v939 = 1#1), 128 ∣ (k0_mult32 v1733).toNat := fun v939 v1733 k0_hw94 k0_h48 => k0_hw94.1 k0_h48
theorem k0_off64_inb : ∀ (v939 : BitVec 32) (v1733 : BitVec 32) (k0_hw94 : k0_chk94 v939 v1733), ∀ (k0_h48 : k0_cond48 v939 = 1#1), ∀ a, (k0_off64 v1733) a + S4x8x128.size a ≤ S8x8x1000064.size a := fun v939 v1733 k0_hw94 k0_h48 => k0_hw94.2 k0_h48

def k0_mult33 (v1733 : BitVec 32) : BitVec 32 :=
  let c_m128_i32 : BitVec 32 := 4294967168#32
  let v1734 : BitVec 32 := Scalar.andi v1733 c_m128_i32
  v1734
def k0_cond49 (v944 : BitVec 32) : BitVec 1 :=
  let c0_i32_348 : BitVec 32 := 0#32
  let v945 : BitVec 1 := Scalar.cmpi .sgt v944 c0_i32_348
  let v946 : BitVec 32 := Scalar.extui v945
  let c0_i32_349 : BitVec 32 := 0#32
  let v947 : BitVec 1 := Scalar.cmpi .ne v946 c0_i32_349
  v947

def k0_off65 (v1737 : BitVec 32) : Fin 4 → Nat :=
  let c0_i32_620 : BitVec 32 := 0#32
  let c0_i32_621 : BitVec 32 := 0#32
  let c0_i32_622 : BitVec 32 := 0#32
  ![v1737.toNat, 0, 0, 0]

def k0_chk97 (v944 : BitVec 32) (v1737 : BitVec 32) : Prop :=
  (∀ (k0_h49 : k0_cond49 v944 = 1#1), ∀ a, (k0_off65 v1737) a + S1x4x8x128.size a ≤ S16x4x8x128.size a)
theorem k0_off65_inb : ∀ (v944 : BitVec 32) (v1737 : BitVec 32) (k0_hw97 : k0_chk97 v944 v1737), ∀ (k0_h49 : k0_cond49 v944 = 1#1), ∀ a, (k0_off65 v1737) a + S1x4x8x128.size a ≤ S16x4x8x128.size a := fun v944 v1737 k0_hw97 k0_h49 => k0_hw97 k0_h49

def k0_off66 (v1733 : BitVec 32) : Fin 3 → Nat :=
  let c4_i32_623 : BitVec 32 := 4#32
  let c0_i32_624 : BitVec 32 := 0#32
  let c_m128_i32 : BitVec 32 := 4294967168#32
  let v1734 : BitVec 32 := Scalar.andi v1733 c_m128_i32
  let v1735 : BitVec 32 := v1734
  ![4, 0, v1735.toNat]

def k0_chk96 (v944 : BitVec 32) (v1733 : BitVec 32) : Prop :=
  (∀ (k0_h49 : k0_cond49 v944 = 1#1), 128 ∣ (k0_mult33 v1733).toNat) ∧
  (∀ (k0_h49 : k0_cond49 v944 = 1#1), ∀ a, (k0_off66 v1733) a + S4x8x128.size a ≤ S8x8x1000064.size a)
theorem k0_mult33_dvd : ∀ (v944 : BitVec 32) (v1733 : BitVec 32) (k0_hw96 : k0_chk96 v944 v1733), ∀ (k0_h49 : k0_cond49 v944 = 1#1), 128 ∣ (k0_mult33 v1733).toNat := fun v944 v1733 k0_hw96 k0_h49 => k0_hw96.1 k0_h49
theorem k0_off66_inb : ∀ (v944 : BitVec 32) (v1733 : BitVec 32) (k0_hw96 : k0_chk96 v944 v1733), ∀ (k0_h49 : k0_cond49 v944 = 1#1), ∀ a, (k0_off66 v1733) a + S4x8x128.size a ≤ S8x8x1000064.size a := fun v944 v1733 k0_hw96 k0_h49 => k0_hw96.2 k0_h49

def k0_chk98 (v1031 : IVec S16 32) (v1035 : IVec S16 32) (v1037 : IVec S16 32) (v1041 : IVec S16 32) : Prop :=
  (∀ a x, ((![v1031, v1035, v1037, v1041] : Fin 4 → IVec S16 32) a x).toNat < S16x4x8x128.size a)
theorem k0_idx34_inb : ∀ (v1031 : IVec S16 32) (v1035 : IVec S16 32) (v1037 : IVec S16 32) (v1041 : IVec S16 32) (k0_hw98 : k0_chk98 v1031 v1035 v1037 v1041), ∀ a x, ((![v1031, v1035, v1037, v1041] : Fin 4 → IVec S16 32) a x).toNat < S16x4x8x128.size a := fun v1031 v1035 v1037 v1041 k0_hw98 => k0_hw98

def k0_chk99 (v1048 : IVec S16 32) (v1052 : IVec S16 32) (v1054 : IVec S16 32) (v1058 : IVec S16 32) : Prop :=
  (∀ a x, ((![v1048, v1052, v1054, v1058] : Fin 4 → IVec S16 32) a x).toNat < S16x4x8x128.size a)
theorem k0_idx35_inb : ∀ (v1048 : IVec S16 32) (v1052 : IVec S16 32) (v1054 : IVec S16 32) (v1058 : IVec S16 32) (k0_hw99 : k0_chk99 v1048 v1052 v1054 v1058), ∀ a x, ((![v1048, v1052, v1054, v1058] : Fin 4 → IVec S16 32) a x).toNat < S16x4x8x128.size a := fun v1048 v1052 v1054 v1058 k0_hw99 => k0_hw99

def k0_chk100 (v1065 : IVec S16 32) (v1069 : IVec S16 32) (v1071 : IVec S16 32) (v1075 : IVec S16 32) : Prop :=
  (∀ a x, ((![v1065, v1069, v1071, v1075] : Fin 4 → IVec S16 32) a x).toNat < S16x4x8x128.size a)
theorem k0_idx36_inb : ∀ (v1065 : IVec S16 32) (v1069 : IVec S16 32) (v1071 : IVec S16 32) (v1075 : IVec S16 32) (k0_hw100 : k0_chk100 v1065 v1069 v1071 v1075), ∀ a x, ((![v1065, v1069, v1071, v1075] : Fin 4 → IVec S16 32) a x).toNat < S16x4x8x128.size a := fun v1065 v1069 v1071 v1075 k0_hw100 => k0_hw100

def k0_chk101 (v1082 : IVec S16 32) (v1086 : IVec S16 32) (v1088 : IVec S16 32) (v1092 : IVec S16 32) : Prop :=
  (∀ a x, ((![v1082, v1086, v1088, v1092] : Fin 4 → IVec S16 32) a x).toNat < S16x4x8x128.size a)
theorem k0_idx37_inb : ∀ (v1082 : IVec S16 32) (v1086 : IVec S16 32) (v1088 : IVec S16 32) (v1092 : IVec S16 32) (k0_hw101 : k0_chk101 v1082 v1086 v1088 v1092), ∀ a x, ((![v1082, v1086, v1088, v1092] : Fin 4 → IVec S16 32) a x).toNat < S16x4x8x128.size a := fun v1082 v1086 v1088 v1092 k0_hw101 => k0_hw101

def k0_chk102 (v1099 : IVec S16 32) (v1103 : IVec S16 32) (v1105 : IVec S16 32) (v1109 : IVec S16 32) : Prop :=
  (∀ a x, ((![v1099, v1103, v1105, v1109] : Fin 4 → IVec S16 32) a x).toNat < S16x4x8x128.size a)
theorem k0_idx38_inb : ∀ (v1099 : IVec S16 32) (v1103 : IVec S16 32) (v1105 : IVec S16 32) (v1109 : IVec S16 32) (k0_hw102 : k0_chk102 v1099 v1103 v1105 v1109), ∀ a x, ((![v1099, v1103, v1105, v1109] : Fin 4 → IVec S16 32) a x).toNat < S16x4x8x128.size a := fun v1099 v1103 v1105 v1109 k0_hw102 => k0_hw102

def k0_chk103 (v1116 : IVec S16 32) (v1120 : IVec S16 32) (v1122 : IVec S16 32) (v1126 : IVec S16 32) : Prop :=
  (∀ a x, ((![v1116, v1120, v1122, v1126] : Fin 4 → IVec S16 32) a x).toNat < S16x4x8x128.size a)
theorem k0_idx39_inb : ∀ (v1116 : IVec S16 32) (v1120 : IVec S16 32) (v1122 : IVec S16 32) (v1126 : IVec S16 32) (k0_hw103 : k0_chk103 v1116 v1120 v1122 v1126), ∀ a x, ((![v1116, v1120, v1122, v1126] : Fin 4 → IVec S16 32) a x).toNat < S16x4x8x128.size a := fun v1116 v1120 v1122 v1126 k0_hw103 => k0_hw103

def k0_chk104 (v1133 : IVec S16 32) (v1137 : IVec S16 32) (v1139 : IVec S16 32) (v1143 : IVec S16 32) : Prop :=
  (∀ a x, ((![v1133, v1137, v1139, v1143] : Fin 4 → IVec S16 32) a x).toNat < S16x4x8x128.size a)
theorem k0_idx40_inb : ∀ (v1133 : IVec S16 32) (v1137 : IVec S16 32) (v1139 : IVec S16 32) (v1143 : IVec S16 32) (k0_hw104 : k0_chk104 v1133 v1137 v1139 v1143), ∀ a x, ((![v1133, v1137, v1139, v1143] : Fin 4 → IVec S16 32) a x).toNat < S16x4x8x128.size a := fun v1133 v1137 v1139 v1143 k0_hw104 => k0_hw104

def k0_chk105 (v1150 : IVec S16 32) (v1154 : IVec S16 32) (v1156 : IVec S16 32) (v1160 : IVec S16 32) : Prop :=
  (∀ a x, ((![v1150, v1154, v1156, v1160] : Fin 4 → IVec S16 32) a x).toNat < S16x4x8x128.size a)
theorem k0_idx41_inb : ∀ (v1150 : IVec S16 32) (v1154 : IVec S16 32) (v1156 : IVec S16 32) (v1160 : IVec S16 32) (k0_hw105 : k0_chk105 v1150 v1154 v1156 v1160), ∀ a x, ((![v1150, v1154, v1156, v1160] : Fin 4 → IVec S16 32) a x).toNat < S16x4x8x128.size a := fun v1150 v1154 v1156 v1160 k0_hw105 => k0_hw105

def k0_chk106 (v1167 : IVec S16 32) (v1171 : IVec S16 32) (v1173 : IVec S16 32) (v1177 : IVec S16 32) : Prop :=
  (∀ a x, ((![v1167, v1171, v1173, v1177] : Fin 4 → IVec S16 32) a x).toNat < S16x4x8x128.size a)
theorem k0_idx42_inb : ∀ (v1167 : IVec S16 32) (v1171 : IVec S16 32) (v1173 : IVec S16 32) (v1177 : IVec S16 32) (k0_hw106 : k0_chk106 v1167 v1171 v1173 v1177), ∀ a x, ((![v1167, v1171, v1173, v1177] : Fin 4 → IVec S16 32) a x).toNat < S16x4x8x128.size a := fun v1167 v1171 v1173 v1177 k0_hw106 => k0_hw106

def k0_chk107 (v1184 : IVec S16 32) (v1188 : IVec S16 32) (v1190 : IVec S16 32) (v1194 : IVec S16 32) : Prop :=
  (∀ a x, ((![v1184, v1188, v1190, v1194] : Fin 4 → IVec S16 32) a x).toNat < S16x4x8x128.size a)
theorem k0_idx43_inb : ∀ (v1184 : IVec S16 32) (v1188 : IVec S16 32) (v1190 : IVec S16 32) (v1194 : IVec S16 32) (k0_hw107 : k0_chk107 v1184 v1188 v1190 v1194), ∀ a x, ((![v1184, v1188, v1190, v1194] : Fin 4 → IVec S16 32) a x).toNat < S16x4x8x128.size a := fun v1184 v1188 v1190 v1194 k0_hw107 => k0_hw107

def k0_chk108 (v1201 : IVec S16 32) (v1205 : IVec S16 32) (v1207 : IVec S16 32) (v1211 : IVec S16 32) : Prop :=
  (∀ a x, ((![v1201, v1205, v1207, v1211] : Fin 4 → IVec S16 32) a x).toNat < S16x4x8x128.size a)
theorem k0_idx44_inb : ∀ (v1201 : IVec S16 32) (v1205 : IVec S16 32) (v1207 : IVec S16 32) (v1211 : IVec S16 32) (k0_hw108 : k0_chk108 v1201 v1205 v1207 v1211), ∀ a x, ((![v1201, v1205, v1207, v1211] : Fin 4 → IVec S16 32) a x).toNat < S16x4x8x128.size a := fun v1201 v1205 v1207 v1211 k0_hw108 => k0_hw108

def k0_chk109 (v1218 : IVec S16 32) (v1222 : IVec S16 32) (v1224 : IVec S16 32) (v1228 : IVec S16 32) : Prop :=
  (∀ a x, ((![v1218, v1222, v1224, v1228] : Fin 4 → IVec S16 32) a x).toNat < S16x4x8x128.size a)
theorem k0_idx45_inb : ∀ (v1218 : IVec S16 32) (v1222 : IVec S16 32) (v1224 : IVec S16 32) (v1228 : IVec S16 32) (k0_hw109 : k0_chk109 v1218 v1222 v1224 v1228), ∀ a x, ((![v1218, v1222, v1224, v1228] : Fin 4 → IVec S16 32) a x).toNat < S16x4x8x128.size a := fun v1218 v1222 v1224 v1228 k0_hw109 => k0_hw109

def k0_chk110 (v1235 : IVec S16 32) (v1239 : IVec S16 32) (v1241 : IVec S16 32) (v1245 : IVec S16 32) : Prop :=
  (∀ a x, ((![v1235, v1239, v1241, v1245] : Fin 4 → IVec S16 32) a x).toNat < S16x4x8x128.size a)
theorem k0_idx46_inb : ∀ (v1235 : IVec S16 32) (v1239 : IVec S16 32) (v1241 : IVec S16 32) (v1245 : IVec S16 32) (k0_hw110 : k0_chk110 v1235 v1239 v1241 v1245), ∀ a x, ((![v1235, v1239, v1241, v1245] : Fin 4 → IVec S16 32) a x).toNat < S16x4x8x128.size a := fun v1235 v1239 v1241 v1245 k0_hw110 => k0_hw110

def k0_chk111 (v1252 : IVec S16 32) (v1256 : IVec S16 32) (v1258 : IVec S16 32) (v1262 : IVec S16 32) : Prop :=
  (∀ a x, ((![v1252, v1256, v1258, v1262] : Fin 4 → IVec S16 32) a x).toNat < S16x4x8x128.size a)
theorem k0_idx47_inb : ∀ (v1252 : IVec S16 32) (v1256 : IVec S16 32) (v1258 : IVec S16 32) (v1262 : IVec S16 32) (k0_hw111 : k0_chk111 v1252 v1256 v1258 v1262), ∀ a x, ((![v1252, v1256, v1258, v1262] : Fin 4 → IVec S16 32) a x).toNat < S16x4x8x128.size a := fun v1252 v1256 v1258 v1262 k0_hw111 => k0_hw111

def k0_chk112 (v1269 : IVec S16 32) (v1273 : IVec S16 32) (v1275 : IVec S16 32) (v1279 : IVec S16 32) : Prop :=
  (∀ a x, ((![v1269, v1273, v1275, v1279] : Fin 4 → IVec S16 32) a x).toNat < S16x4x8x128.size a)
theorem k0_idx48_inb : ∀ (v1269 : IVec S16 32) (v1273 : IVec S16 32) (v1275 : IVec S16 32) (v1279 : IVec S16 32) (k0_hw112 : k0_chk112 v1269 v1273 v1275 v1279), ∀ a x, ((![v1269, v1273, v1275, v1279] : Fin 4 → IVec S16 32) a x).toNat < S16x4x8x128.size a := fun v1269 v1273 v1275 v1279 k0_hw112 => k0_hw112

def k0_chk113 (v1286 : IVec S16 32) (v1290 : IVec S16 32) (v1292 : IVec S16 32) (v1296 : IVec S16 32) : Prop :=
  (∀ a x, ((![v1286, v1290, v1292, v1296] : Fin 4 → IVec S16 32) a x).toNat < S16x4x8x128.size a)
theorem k0_idx49_inb : ∀ (v1286 : IVec S16 32) (v1290 : IVec S16 32) (v1292 : IVec S16 32) (v1296 : IVec S16 32) (k0_hw113 : k0_chk113 v1286 v1290 v1292 v1296), ∀ a x, ((![v1286, v1290, v1292, v1296] : Fin 4 → IVec S16 32) a x).toNat < S16x4x8x128.size a := fun v1286 v1290 v1292 v1296 k0_hw113 => k0_hw113

def k0_chk114 (v1303 : IVec S16 32) (v1307 : IVec S16 32) (v1309 : IVec S16 32) (v1313 : IVec S16 32) : Prop :=
  (∀ a x, ((![v1303, v1307, v1309, v1313] : Fin 4 → IVec S16 32) a x).toNat < S16x4x8x128.size a)
theorem k0_idx50_inb : ∀ (v1303 : IVec S16 32) (v1307 : IVec S16 32) (v1309 : IVec S16 32) (v1313 : IVec S16 32) (k0_hw114 : k0_chk114 v1303 v1307 v1309 v1313), ∀ a x, ((![v1303, v1307, v1309, v1313] : Fin 4 → IVec S16 32) a x).toNat < S16x4x8x128.size a := fun v1303 v1307 v1309 v1313 k0_hw114 => k0_hw114

def k0_chk115 (v1320 : IVec S16 32) (v1324 : IVec S16 32) (v1326 : IVec S16 32) (v1330 : IVec S16 32) : Prop :=
  (∀ a x, ((![v1320, v1324, v1326, v1330] : Fin 4 → IVec S16 32) a x).toNat < S16x4x8x128.size a)
theorem k0_idx51_inb : ∀ (v1320 : IVec S16 32) (v1324 : IVec S16 32) (v1326 : IVec S16 32) (v1330 : IVec S16 32) (k0_hw115 : k0_chk115 v1320 v1324 v1326 v1330), ∀ a x, ((![v1320, v1324, v1326, v1330] : Fin 4 → IVec S16 32) a x).toNat < S16x4x8x128.size a := fun v1320 v1324 v1326 v1330 k0_hw115 => k0_hw115

def k0_chk116 (v1337 : IVec S16 32) (v1341 : IVec S16 32) (v1343 : IVec S16 32) (v1347 : IVec S16 32) : Prop :=
  (∀ a x, ((![v1337, v1341, v1343, v1347] : Fin 4 → IVec S16 32) a x).toNat < S16x4x8x128.size a)
theorem k0_idx52_inb : ∀ (v1337 : IVec S16 32) (v1341 : IVec S16 32) (v1343 : IVec S16 32) (v1347 : IVec S16 32) (k0_hw116 : k0_chk116 v1337 v1341 v1343 v1347), ∀ a x, ((![v1337, v1341, v1343, v1347] : Fin 4 → IVec S16 32) a x).toNat < S16x4x8x128.size a := fun v1337 v1341 v1343 v1347 k0_hw116 => k0_hw116

def k0_chk117 (v1354 : IVec S16 32) (v1358 : IVec S16 32) (v1360 : IVec S16 32) (v1364 : IVec S16 32) : Prop :=
  (∀ a x, ((![v1354, v1358, v1360, v1364] : Fin 4 → IVec S16 32) a x).toNat < S16x4x8x128.size a)
theorem k0_idx53_inb : ∀ (v1354 : IVec S16 32) (v1358 : IVec S16 32) (v1360 : IVec S16 32) (v1364 : IVec S16 32) (k0_hw117 : k0_chk117 v1354 v1358 v1360 v1364), ∀ a x, ((![v1354, v1358, v1360, v1364] : Fin 4 → IVec S16 32) a x).toNat < S16x4x8x128.size a := fun v1354 v1358 v1360 v1364 k0_hw117 => k0_hw117

def k0_chk118 (v1371 : IVec S16 32) (v1375 : IVec S16 32) (v1377 : IVec S16 32) (v1381 : IVec S16 32) : Prop :=
  (∀ a x, ((![v1371, v1375, v1377, v1381] : Fin 4 → IVec S16 32) a x).toNat < S16x4x8x128.size a)
theorem k0_idx54_inb : ∀ (v1371 : IVec S16 32) (v1375 : IVec S16 32) (v1377 : IVec S16 32) (v1381 : IVec S16 32) (k0_hw118 : k0_chk118 v1371 v1375 v1377 v1381), ∀ a x, ((![v1371, v1375, v1377, v1381] : Fin 4 → IVec S16 32) a x).toNat < S16x4x8x128.size a := fun v1371 v1375 v1377 v1381 k0_hw118 => k0_hw118

def k0_chk119 (v1388 : IVec S16 32) (v1392 : IVec S16 32) (v1394 : IVec S16 32) (v1398 : IVec S16 32) : Prop :=
  (∀ a x, ((![v1388, v1392, v1394, v1398] : Fin 4 → IVec S16 32) a x).toNat < S16x4x8x128.size a)
theorem k0_idx55_inb : ∀ (v1388 : IVec S16 32) (v1392 : IVec S16 32) (v1394 : IVec S16 32) (v1398 : IVec S16 32) (k0_hw119 : k0_chk119 v1388 v1392 v1394 v1398), ∀ a x, ((![v1388, v1392, v1394, v1398] : Fin 4 → IVec S16 32) a x).toNat < S16x4x8x128.size a := fun v1388 v1392 v1394 v1398 k0_hw119 => k0_hw119

def k0_chk120 (v1405 : IVec S16 32) (v1409 : IVec S16 32) (v1411 : IVec S16 32) (v1415 : IVec S16 32) : Prop :=
  (∀ a x, ((![v1405, v1409, v1411, v1415] : Fin 4 → IVec S16 32) a x).toNat < S16x4x8x128.size a)
theorem k0_idx56_inb : ∀ (v1405 : IVec S16 32) (v1409 : IVec S16 32) (v1411 : IVec S16 32) (v1415 : IVec S16 32) (k0_hw120 : k0_chk120 v1405 v1409 v1411 v1415), ∀ a x, ((![v1405, v1409, v1411, v1415] : Fin 4 → IVec S16 32) a x).toNat < S16x4x8x128.size a := fun v1405 v1409 v1411 v1415 k0_hw120 => k0_hw120

def k0_chk121 (v1422 : IVec S16 32) (v1426 : IVec S16 32) (v1428 : IVec S16 32) (v1432 : IVec S16 32) : Prop :=
  (∀ a x, ((![v1422, v1426, v1428, v1432] : Fin 4 → IVec S16 32) a x).toNat < S16x4x8x128.size a)
theorem k0_idx57_inb : ∀ (v1422 : IVec S16 32) (v1426 : IVec S16 32) (v1428 : IVec S16 32) (v1432 : IVec S16 32) (k0_hw121 : k0_chk121 v1422 v1426 v1428 v1432), ∀ a x, ((![v1422, v1426, v1428, v1432] : Fin 4 → IVec S16 32) a x).toNat < S16x4x8x128.size a := fun v1422 v1426 v1428 v1432 k0_hw121 => k0_hw121

def k0_chk122 (v1439 : IVec S16 32) (v1443 : IVec S16 32) (v1445 : IVec S16 32) (v1449 : IVec S16 32) : Prop :=
  (∀ a x, ((![v1439, v1443, v1445, v1449] : Fin 4 → IVec S16 32) a x).toNat < S16x4x8x128.size a)
theorem k0_idx58_inb : ∀ (v1439 : IVec S16 32) (v1443 : IVec S16 32) (v1445 : IVec S16 32) (v1449 : IVec S16 32) (k0_hw122 : k0_chk122 v1439 v1443 v1445 v1449), ∀ a x, ((![v1439, v1443, v1445, v1449] : Fin 4 → IVec S16 32) a x).toNat < S16x4x8x128.size a := fun v1439 v1443 v1445 v1449 k0_hw122 => k0_hw122

def k0_chk123 (v1456 : IVec S16 32) (v1460 : IVec S16 32) (v1462 : IVec S16 32) (v1466 : IVec S16 32) : Prop :=
  (∀ a x, ((![v1456, v1460, v1462, v1466] : Fin 4 → IVec S16 32) a x).toNat < S16x4x8x128.size a)
theorem k0_idx59_inb : ∀ (v1456 : IVec S16 32) (v1460 : IVec S16 32) (v1462 : IVec S16 32) (v1466 : IVec S16 32) (k0_hw123 : k0_chk123 v1456 v1460 v1462 v1466), ∀ a x, ((![v1456, v1460, v1462, v1466] : Fin 4 → IVec S16 32) a x).toNat < S16x4x8x128.size a := fun v1456 v1460 v1462 v1466 k0_hw123 => k0_hw123

def k0_chk124 (v1473 : IVec S16 32) (v1477 : IVec S16 32) (v1479 : IVec S16 32) (v1483 : IVec S16 32) : Prop :=
  (∀ a x, ((![v1473, v1477, v1479, v1483] : Fin 4 → IVec S16 32) a x).toNat < S16x4x8x128.size a)
theorem k0_idx60_inb : ∀ (v1473 : IVec S16 32) (v1477 : IVec S16 32) (v1479 : IVec S16 32) (v1483 : IVec S16 32) (k0_hw124 : k0_chk124 v1473 v1477 v1479 v1483), ∀ a x, ((![v1473, v1477, v1479, v1483] : Fin 4 → IVec S16 32) a x).toNat < S16x4x8x128.size a := fun v1473 v1477 v1479 v1483 k0_hw124 => k0_hw124

def k0_chk125 (v1490 : IVec S16 32) (v1494 : IVec S16 32) (v1496 : IVec S16 32) (v1500 : IVec S16 32) : Prop :=
  (∀ a x, ((![v1490, v1494, v1496, v1500] : Fin 4 → IVec S16 32) a x).toNat < S16x4x8x128.size a)
theorem k0_idx61_inb : ∀ (v1490 : IVec S16 32) (v1494 : IVec S16 32) (v1496 : IVec S16 32) (v1500 : IVec S16 32) (k0_hw125 : k0_chk125 v1490 v1494 v1496 v1500), ∀ a x, ((![v1490, v1494, v1496, v1500] : Fin 4 → IVec S16 32) a x).toNat < S16x4x8x128.size a := fun v1490 v1494 v1496 v1500 k0_hw125 => k0_hw125

def k0_chk126 (v1507 : IVec S16 32) (v1511 : IVec S16 32) (v1513 : IVec S16 32) (v1517 : IVec S16 32) : Prop :=
  (∀ a x, ((![v1507, v1511, v1513, v1517] : Fin 4 → IVec S16 32) a x).toNat < S16x4x8x128.size a)
theorem k0_idx62_inb : ∀ (v1507 : IVec S16 32) (v1511 : IVec S16 32) (v1513 : IVec S16 32) (v1517 : IVec S16 32) (k0_hw126 : k0_chk126 v1507 v1511 v1513 v1517), ∀ a x, ((![v1507, v1511, v1513, v1517] : Fin 4 → IVec S16 32) a x).toNat < S16x4x8x128.size a := fun v1507 v1511 v1513 v1517 k0_hw126 => k0_hw126

def k0_chk127 (v1524 : IVec S16 32) (v1528 : IVec S16 32) (v1530 : IVec S16 32) (v1534 : IVec S16 32) : Prop :=
  (∀ a x, ((![v1524, v1528, v1530, v1534] : Fin 4 → IVec S16 32) a x).toNat < S16x4x8x128.size a)
theorem k0_idx63_inb : ∀ (v1524 : IVec S16 32) (v1528 : IVec S16 32) (v1530 : IVec S16 32) (v1534 : IVec S16 32) (k0_hw127 : k0_chk127 v1524 v1528 v1530 v1534), ∀ a x, ((![v1524, v1528, v1530, v1534] : Fin 4 → IVec S16 32) a x).toNat < S16x4x8x128.size a := fun v1524 v1528 v1530 v1534 k0_hw127 => k0_hw127

def k0_chk128 (v1541 : IVec S16 32) (v1545 : IVec S16 32) (v1547 : IVec S16 32) (v1551 : IVec S16 32) : Prop :=
  (∀ a x, ((![v1541, v1545, v1547, v1551] : Fin 4 → IVec S16 32) a x).toNat < S16x4x8x128.size a)
theorem k0_idx64_inb : ∀ (v1541 : IVec S16 32) (v1545 : IVec S16 32) (v1547 : IVec S16 32) (v1551 : IVec S16 32) (k0_hw128 : k0_chk128 v1541 v1545 v1547 v1551), ∀ a x, ((![v1541, v1545, v1547, v1551] : Fin 4 → IVec S16 32) a x).toNat < S16x4x8x128.size a := fun v1541 v1545 v1547 v1551 k0_hw128 => k0_hw128

def k0_chk129 (v1558 : IVec S16 32) (v1562 : IVec S16 32) (v1564 : IVec S16 32) (v1568 : IVec S16 32) : Prop :=
  (∀ a x, ((![v1558, v1562, v1564, v1568] : Fin 4 → IVec S16 32) a x).toNat < S16x4x8x128.size a)
theorem k0_idx65_inb : ∀ (v1558 : IVec S16 32) (v1562 : IVec S16 32) (v1564 : IVec S16 32) (v1568 : IVec S16 32) (k0_hw129 : k0_chk129 v1558 v1562 v1564 v1568), ∀ a x, ((![v1558, v1562, v1564, v1568] : Fin 4 → IVec S16 32) a x).toNat < S16x4x8x128.size a := fun v1558 v1562 v1564 v1568 k0_hw129 => k0_hw129
def k0_off67 (v1573 : BitVec 32) : Fin 2 → Nat :=
  let c0_i32_542 : BitVec 32 := 0#32
  ![v1573.toNat, 0]

def k0_chk130 (v1573 : BitVec 32) : Prop :=
  (∀ a, (k0_off67 v1573) a + S1x64.size a ≤ S16384x64.size a)
theorem k0_off67_inb : ∀ (v1573 : BitVec 32) (k0_hw130 : k0_chk130 v1573), ∀ a, (k0_off67 v1573) a + S1x64.size a ≤ S16384x64.size a := fun v1573 k0_hw130 => k0_hw130

def k0_off68 (v1583 : BitVec 32) : Fin 2 → Nat :=
  let c0_i32_547 : BitVec 32 := 0#32
  ![v1583.toNat, 0]

def k0_chk131 (v1583 : BitVec 32) : Prop :=
  (∀ a, (k0_off68 v1583) a + S1x64.size a ≤ S16384x64.size a)
theorem k0_off68_inb : ∀ (v1583 : BitVec 32) (k0_hw131 : k0_chk131 v1583), ∀ a, (k0_off68 v1583) a + S1x64.size a ≤ S16384x64.size a := fun v1583 k0_hw131 => k0_hw131

def k0_off69 (v1593 : BitVec 32) : Fin 2 → Nat :=
  let c0_i32_552 : BitVec 32 := 0#32
  ![v1593.toNat, 0]

def k0_chk132 (v1593 : BitVec 32) : Prop :=
  (∀ a, (k0_off69 v1593) a + S1x64.size a ≤ S16384x64.size a)
theorem k0_off69_inb : ∀ (v1593 : BitVec 32) (k0_hw132 : k0_chk132 v1593), ∀ a, (k0_off69 v1593) a + S1x64.size a ≤ S16384x64.size a := fun v1593 k0_hw132 => k0_hw132

def k0_off70 (v1603 : BitVec 32) : Fin 2 → Nat :=
  let c0_i32_557 : BitVec 32 := 0#32
  ![v1603.toNat, 0]

def k0_chk133 (v1603 : BitVec 32) : Prop :=
  (∀ a, (k0_off70 v1603) a + S1x64.size a ≤ S16384x64.size a)
theorem k0_off70_inb : ∀ (v1603 : BitVec 32) (k0_hw133 : k0_chk133 v1603), ∀ a, (k0_off70 v1603) a + S1x64.size a ≤ S16384x64.size a := fun v1603 k0_hw133 => k0_hw133

def k0_off71 (v1613 : BitVec 32) : Fin 2 → Nat :=
  let c0_i32_562 : BitVec 32 := 0#32
  ![v1613.toNat, 0]

def k0_chk134 (v1613 : BitVec 32) : Prop :=
  (∀ a, (k0_off71 v1613) a + S1x64.size a ≤ S16384x64.size a)
theorem k0_off71_inb : ∀ (v1613 : BitVec 32) (k0_hw134 : k0_chk134 v1613), ∀ a, (k0_off71 v1613) a + S1x64.size a ≤ S16384x64.size a := fun v1613 k0_hw134 => k0_hw134

def k0_off72 (v1623 : BitVec 32) : Fin 2 → Nat :=
  let c0_i32_567 : BitVec 32 := 0#32
  ![v1623.toNat, 0]

def k0_chk135 (v1623 : BitVec 32) : Prop :=
  (∀ a, (k0_off72 v1623) a + S1x64.size a ≤ S16384x64.size a)
theorem k0_off72_inb : ∀ (v1623 : BitVec 32) (k0_hw135 : k0_chk135 v1623), ∀ a, (k0_off72 v1623) a + S1x64.size a ≤ S16384x64.size a := fun v1623 k0_hw135 => k0_hw135

def k0_off73 (v1633 : BitVec 32) : Fin 2 → Nat :=
  let c0_i32_572 : BitVec 32 := 0#32
  ![v1633.toNat, 0]

def k0_chk136 (v1633 : BitVec 32) : Prop :=
  (∀ a, (k0_off73 v1633) a + S1x64.size a ≤ S16384x64.size a)
theorem k0_off73_inb : ∀ (v1633 : BitVec 32) (k0_hw136 : k0_chk136 v1633), ∀ a, (k0_off73 v1633) a + S1x64.size a ≤ S16384x64.size a := fun v1633 k0_hw136 => k0_hw136

def k0_off74 (v1643 : BitVec 32) : Fin 2 → Nat :=
  let c0_i32_577 : BitVec 32 := 0#32
  ![v1643.toNat, 0]

def k0_chk137 (v1643 : BitVec 32) : Prop :=
  (∀ a, (k0_off74 v1643) a + S1x64.size a ≤ S16384x64.size a)
theorem k0_off74_inb : ∀ (v1643 : BitVec 32) (k0_hw137 : k0_chk137 v1643), ∀ a, (k0_off74 v1643) a + S1x64.size a ≤ S16384x64.size a := fun v1643 k0_hw137 => k0_hw137

def k0_off75 (v1653 : BitVec 32) : Fin 2 → Nat :=
  let c0_i32_582 : BitVec 32 := 0#32
  ![v1653.toNat, 0]

def k0_chk138 (v1653 : BitVec 32) : Prop :=
  (∀ a, (k0_off75 v1653) a + S1x64.size a ≤ S16384x64.size a)
theorem k0_off75_inb : ∀ (v1653 : BitVec 32) (k0_hw138 : k0_chk138 v1653), ∀ a, (k0_off75 v1653) a + S1x64.size a ≤ S16384x64.size a := fun v1653 k0_hw138 => k0_hw138

def k0_off76 (v1663 : BitVec 32) : Fin 2 → Nat :=
  let c0_i32_587 : BitVec 32 := 0#32
  ![v1663.toNat, 0]

def k0_chk139 (v1663 : BitVec 32) : Prop :=
  (∀ a, (k0_off76 v1663) a + S1x64.size a ≤ S16384x64.size a)
theorem k0_off76_inb : ∀ (v1663 : BitVec 32) (k0_hw139 : k0_chk139 v1663), ∀ a, (k0_off76 v1663) a + S1x64.size a ≤ S16384x64.size a := fun v1663 k0_hw139 => k0_hw139

def k0_off77 (v1673 : BitVec 32) : Fin 2 → Nat :=
  let c0_i32_592 : BitVec 32 := 0#32
  ![v1673.toNat, 0]

def k0_chk140 (v1673 : BitVec 32) : Prop :=
  (∀ a, (k0_off77 v1673) a + S1x64.size a ≤ S16384x64.size a)
theorem k0_off77_inb : ∀ (v1673 : BitVec 32) (k0_hw140 : k0_chk140 v1673), ∀ a, (k0_off77 v1673) a + S1x64.size a ≤ S16384x64.size a := fun v1673 k0_hw140 => k0_hw140

def k0_off78 (v1683 : BitVec 32) : Fin 2 → Nat :=
  let c0_i32_597 : BitVec 32 := 0#32
  ![v1683.toNat, 0]

def k0_chk141 (v1683 : BitVec 32) : Prop :=
  (∀ a, (k0_off78 v1683) a + S1x64.size a ≤ S16384x64.size a)
theorem k0_off78_inb : ∀ (v1683 : BitVec 32) (k0_hw141 : k0_chk141 v1683), ∀ a, (k0_off78 v1683) a + S1x64.size a ≤ S16384x64.size a := fun v1683 k0_hw141 => k0_hw141

def k0_off79 (v1693 : BitVec 32) : Fin 2 → Nat :=
  let c0_i32_602 : BitVec 32 := 0#32
  ![v1693.toNat, 0]

def k0_chk142 (v1693 : BitVec 32) : Prop :=
  (∀ a, (k0_off79 v1693) a + S1x64.size a ≤ S16384x64.size a)
theorem k0_off79_inb : ∀ (v1693 : BitVec 32) (k0_hw142 : k0_chk142 v1693), ∀ a, (k0_off79 v1693) a + S1x64.size a ≤ S16384x64.size a := fun v1693 k0_hw142 => k0_hw142

def k0_off80 (v1703 : BitVec 32) : Fin 2 → Nat :=
  let c0_i32_607 : BitVec 32 := 0#32
  ![v1703.toNat, 0]

def k0_chk143 (v1703 : BitVec 32) : Prop :=
  (∀ a, (k0_off80 v1703) a + S1x64.size a ≤ S16384x64.size a)
theorem k0_off80_inb : ∀ (v1703 : BitVec 32) (k0_hw143 : k0_chk143 v1703), ∀ a, (k0_off80 v1703) a + S1x64.size a ≤ S16384x64.size a := fun v1703 k0_hw143 => k0_hw143

def k0_off81 (v1713 : BitVec 32) : Fin 2 → Nat :=
  let c0_i32_612 : BitVec 32 := 0#32
  ![v1713.toNat, 0]

def k0_chk144 (v1713 : BitVec 32) : Prop :=
  (∀ a, (k0_off81 v1713) a + S1x64.size a ≤ S16384x64.size a)
theorem k0_off81_inb : ∀ (v1713 : BitVec 32) (k0_hw144 : k0_chk144 v1713), ∀ a, (k0_off81 v1713) a + S1x64.size a ≤ S16384x64.size a := fun v1713 k0_hw144 => k0_hw144

def k0_off82 (v1723 : BitVec 32) : Fin 2 → Nat :=
  let c0_i32_617 : BitVec 32 := 0#32
  ![v1723.toNat, 0]

def k0_chk145 (v1723 : BitVec 32) : Prop :=
  (∀ a, (k0_off82 v1723) a + S1x64.size a ≤ S16384x64.size a)
theorem k0_off82_inb : ∀ (v1723 : BitVec 32) (k0_hw145 : k0_chk145 v1723), ∀ a, (k0_off82 v1723) a + S1x64.size a ≤ S16384x64.size a := fun v1723 k0_hw145 => k0_hw145

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1000000x64 : Shape := ⟨2, ![1000000, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Units.lean ====
/- The steps of the kernel's wave, each stated once at a lane: what the printed body repeats for every lane. -/
module

public import proofs.«01_k».proof.KernelIdeal

@[expose] public section

noncomputable section

namespace Cert.KernelIdeal.Wave

open Idealize.ShloMosaic Idealize.SL.Sem Cert.KernelIdeal
open Cert.KernelIdeal.Facts₀ Cert.KernelIdeal.Facts

variable {F : FTy → Type} [FloatOps F] [Facts] {c : Fin τ.nSC} {s : Fin τ.nSub}

/-- A vector subcore's program. -/
abbrev TP (F : FTy → Type) [FloatOps F] (c : Fin τ.nSC) (s : Fin τ.nSub) (α : Type) : Type 1 :=
  Prog (TpuEff nD τ sig (Elt F) Λ₀ (.scVector c s)) α

theorem slices_lane (l : Fin 16) : S16.Slices ![l.val] S1 := by revert l; decide

/-- Lane `l` of a vector of words. -/
def ext (v : IVec S16 32) (l : Fin 16) : BitVec 32 :=
  extractAt ![0] (extractStridedSlice S1 ![l.val] v (slices_lane l)) inpos_S1_p0

/-- Run `f` at every lane of the list. -/
def forL (ls : List (Fin 16)) (f : Fin 16 → TP F c s PUnit) : TP F c s PUnit :=
  ls.foldr (fun l p => f l >>= fun _ => p) (pure ⟨⟩)

/-- The lanes. -/
def lanes : List (Fin 16) := [0, 1, 2, 3, 4, 5, 6, 7, 8, 9, 10, 11, 12, 13, 14, 15]

section
variable (arg2 : Memref sig .scVector .hbm S8x8x1000064 .f32) (arg9 : Memref sig .scVector .vmem S16x4x8x128 .f32)
  (arg5 : Memref sig .scVector .hbm S16384x64 .f32) (arg10 : Memref sig .scVector .vmem S16x64 .f32)
  (arg11 arg12 : DmaSems sig S_)

/-- The first half's start of a lane: where the lane is the first of its block, copy the block to its slot. -/
def start0 (nv rv sv : BitVec 32) : TP F c s PUnit :=
  if h : k0_cond1 nv = 1#1 then do
    have hw2 : k0_chk2 nv rv := (← Prog.lift (TpuEff.assume (k0_chk2 nv rv) (k0_chk2.dec nv rv))).down
    have hw3 : k0_chk3 nv sv := (← Prog.lift (TpuEff.assume (k0_chk3 nv sv) (k0_chk3.dec nv sv))).down
    Prog.lift (.enqueueDma (arg2.slice (Rect.unit (s := S8x8x1000064) (k0_off4 rv) S4x8x128.size (k0_off4_inb nv rv hw2 h)) (fun _ => rfl))
      (.here ((arg9.slice (Rect.unit (s := S16x4x8x128) (k0_off3 sv) S1x4x8x128.size (k0_off3_inb nv sv hw3 h)) (fun _ => rfl)).squeeze S4x8x128 squeezes_S1x4x8x128_S4x8x128))
      (.dma arg11.sem) (View.wordExact_bits rfl) ((View.wordExact_bits rfl).reshape _ _) ⟨Or.inl rfl, trivial⟩)
    pure ⟨⟩
  else do
    pure ⟨⟩

/-- The second half's start of a lane. -/
def start1 (nv rv sv : BitVec 32) : TP F c s PUnit :=
  if h : k0_cond34 nv = 1#1 then do
    have hw2 : k0_chk66 nv rv := (← Prog.lift (TpuEff.assume (k0_chk66 nv rv) (k0_chk66.dec nv rv))).down
    have hw3 : k0_chk67 nv sv := (← Prog.lift (TpuEff.assume (k0_chk67 nv sv) (k0_chk67.dec nv sv))).down
    Prog.lift (.enqueueDma (arg2.slice (Rect.unit (s := S8x8x1000064) (k0_off36 rv) S4x8x128.size (k0_off36_inb nv rv hw2 h)) (fun _ => rfl))
      (.here ((arg9.slice (Rect.unit (s := S16x4x8x128) (k0_off35 sv) S1x4x8x128.size (k0_off35_inb nv sv hw3 h)) (fun _ => rfl)).squeeze S4x8x128 squeezes_S1x4x8x128_S4x8x128))
      (.dma arg11.sem) (View.wordExact_bits rfl) ((View.wordExact_bits rfl).reshape _ _) ⟨Or.inl rfl, trivial⟩)
    pure ⟨⟩
  else do
    pure ⟨⟩

/-- A lane's wait for a block's copy. -/
def wait0 (nv : BitVec 32) : TP F c s PUnit :=
  if k0_cond1 nv = 1#1 then do
    Prog.lift (.waitDma2 arg11.sem (arg2.slice (Rect.unit (s := S8x8x1000064) ![0, 0, 0] S4x8x128.size inb_S8x8x1000064_S4x8x128_0_0_0) (fun _ => rfl))
      ((arg9.slice (Rect.unit (s := S16x4x8x128) ![0, 0, 0, 0] S1x4x8x128.size inb_S16x4x8x128_S1x4x8x128_0_0_0_0) (fun _ => rfl)).squeeze S4x8x128 squeezes_S1x4x8x128_S4x8x128)
      (View.wordExact_bits rfl) ((View.wordExact_bits rfl).reshape _ _))
    pure ⟨⟩
  else do
    pure ⟨⟩

/-- The index vectors a lane gathers sixteen elements at, quarter `q` of its row: slot, sublane block, sublane, column. -/
def gi0 (v8 : IVec S16 32) (sl : BitVec 32) : IVec S16 32 := addi v8 (broadcast S16 sl)
def gi1 (v3 : IVec S16 32) (q : BitVec 32) : IVec S16 32 := addi (broadcast S16 q) (shrsi v3 (broadcast S16 3#32))
def gi2 (v3 : IVec S16 32) : IVec S16 32 := andi v3 (broadcast S16 7#32)

/-- The gather of a lane. -/
def gath (a b cc d : IVec S16 32) : TP F c s (Vec F S16 .f32) := do
  have hw : k0_chk34 a b cc d := (← Prog.lift (TpuEff.assume (k0_chk34 a b cc d) (k0_chk34.dec a b cc d))).down
  SparseCore.vectorLoadIdx arg9 ![a, b, cc, d] (k0_idx2_inb a b cc d hw) (View.loads_vmem h_S16x4x8x128)

theorem inb_row (l : Fin 16) (e : Fin 4) : ∀ a, (![l.val, 16 * e.val] : Fin 2 → Nat) a + S1x16.size a ≤ S16x64.size a := by
  revert l e; decide

/-- The read of a lane's sixteen elements before they are written, as the program makes it. -/
def rload (l : Fin 16) (e : Fin 4) : TP F c s (Vec F S1x16 .f32) :=
  Prog.lift (.load arg10 (Rect.unit (s := S16x64) ![l.val, 16 * e.val] S1x16.size (inb_row l e)).toLoadRect (View.loadsAt_vmem h_S1x16))

/-- The write of a lane's sixteen elements. -/
def rstore (l : Fin 16) (e : Fin 4) (v : Vec F S16 .f32) : TP F c s PUnit :=
  Prog.lift (.store arg10 (Rect.unit (s := S16x64) ![l.val, 16 * e.val] S1x16.size (inb_row l e)) (shapeCast S1x16 v shapeCasts_S16_S1x16) Finset.univ
    (View.stores_vmem_bits_univ h_S1x16 rfl) (.inl rfl))

/-- A lane's whole gather step: gather, read, write. -/
def gstep (v3 v8 v145 v160 : IVec S16 32) (q : BitVec 32) (e : Fin 4) (l : Fin 16) : TP F c s PUnit := do
  let v ← gath arg9 (gi0 v8 (ext v160 l)) (gi1 v3 q) (gi2 v3) (gi0 v8 (ext v145 l))
  let _ ← rload arg10 l e
  rstore arg10 l e v

theorem inb_orow (l : Fin 16) : ∀ a, (![l.val, 0] : Fin 2 → Nat) a + S1x64.size a ≤ S16x64.size a := by
  revert l; decide

/-- Row `l` of the row buffer. -/
abbrev rowM (l : Fin 16) : Memref sig .scVector .vmem S64 .f32 :=
  (arg10.slice (Rect.unit (s := S16x64) ![l.val, 0] S1x64.size (inb_orow l)) (fun _ => rfl)).squeeze S64 squeezes_S1x64_S64

/-- The check of a lane's output row. -/
def ochk (p : BitVec 32) : TP F c s (PLift (k0_chk130 p)) := Prog.lift (TpuEff.assume (k0_chk130 p) (k0_chk130.dec p))

/-- The start of a lane's row copy. -/
def oput (l : Fin 16) (p : BitVec 32) (hw : k0_chk130 p) : TP F c s PUnit :=
  Prog.lift (.enqueueDma (rowM arg10 l)
    (.here ((arg5.slice (Rect.unit (s := S16384x64) (k0_off67 p) S1x64.size (k0_off67_inb p hw)) (fun _ => rfl)).squeeze S64 squeezes_S1x64_S64))
    (.dma arg12.sem) ((View.wordExact_bits rfl).reshape _ _) ((View.wordExact_bits rfl).reshape _ _) ⟨Or.inl rfl, trivial⟩)

def ostep (v143 : Vec F S16 .i32) (l : Fin 16) : TP F c s PUnit := do
  let h ← ochk (ext v143 l)
  oput arg5 arg10 arg12 l (ext v143 l) h.down

/-- The wait for a lane's row copy. -/
def owait (l : Fin 16) : TP F c s PUnit :=
  Prog.lift (.waitDma2 arg12.sem (rowM arg10 l)
    ((arg5.slice (Rect.unit (s := S16384x64) ![0, 0] S1x64.size inb_S16384x64_S1x64_0_0) (fun _ => rfl)).squeeze S64 squeezes_S1x64_S64)
    ((View.wordExact_bits rfl).reshape _ _) ((View.wordExact_bits rfl).reshape _ _))

end

end Cert.KernelIdeal.Wave
-- ==== Proof.Parts.lean ====
/- The printed parts of the kernel's body, each as the lanes' steps it is. -/
module

public import proofs.«01_k».proof.Proof.Units

@[expose] public section

noncomputable section

namespace Cert.KernelIdeal.Wave

open Idealize.ShloMosaic Idealize.SL.Sem Cert.KernelIdeal
open Cert.KernelIdeal.Facts₀ Cert.KernelIdeal.Facts

variable {F : FTy → Type} [FloatOps F] [Facts]

set_option maxHeartbeats 4000000

section
variable {c : Fin τ.nSC} {s : Fin τ.nSub} {α β : Type}

theorem forL_cons (l : Fin 16) (ls : List (Fin 16)) (f : Fin 16 → TP F c s PUnit) (k : PUnit → TP F c s α) :
    forL (l :: ls) f >>= k = f l >>= fun _ => forL ls f >>= k := by
  show (f l >>= fun _ => forL ls f) >>= k = _
  exact Prog.bind_assoc _ _ _

theorem forL_nil (f : Fin 16 → TP F c s PUnit) (k : PUnit → TP F c s α) : forL [] f >>= k = k ⟨⟩ := rfl

/-- A step both sides begin with. -/
theorem both {p : TP F c s β} {K K' : TP F c s α} (hK : K = K') : (p >>= fun _ => K) = (p >>= fun _ => K') := by rw [hK]

/-- A region under a condition, then the rest: the printed form repeats the rest in both branches. -/
theorem if_step {b : BitVec 1} {T E K : TP F c s α} {A : TP F c s PUnit} (hT : T = (A >>= fun _ => E)) (hK : E = K) :
    (if h : b = 1#1 then T else E) = ((if b = 1#1 then A else pure ⟨⟩) >>= fun _ => K) := by
  subst hK hT
  split <;> rfl

theorem start0_step {arg2 : Memref sig .scVector .hbm S8x8x1000064 .f32} {arg9 : Memref sig .scVector .vmem S16x4x8x128 .f32}
    {arg11 : DmaSems sig S_} {nv rv sv : BitVec 32} {K K' : TP F c s α} (hK : K = K') :
    (if h : k0_cond1 nv = 1#1 then do
      have hw2 : k0_chk2 nv rv := (← Prog.lift (TpuEff.assume (k0_chk2 nv rv) (k0_chk2.dec nv rv))).down
      have hw3 : k0_chk3 nv sv := (← Prog.lift (TpuEff.assume (k0_chk3 nv sv) (k0_chk3.dec nv sv))).down
      Prog.lift (.enqueueDma (arg2.slice (Rect.unit (s := S8x8x1000064) (k0_off4 rv) S4x8x128.size (k0_off4_inb nv rv hw2 h)) (fun _ => rfl))
        (.here ((arg9.slice (Rect.unit (s := S16x4x8x128) (k0_off3 sv) S1x4x8x128.size (k0_off3_inb nv sv hw3 h)) (fun _ => rfl)).squeeze S4x8x128 squeezes_S1x4x8x128_S4x8x128))
        (.dma arg11.sem) (View.wordExact_bits rfl) ((View.wordExact_bits rfl).reshape _ _) ⟨Or.inl rfl, trivial⟩)
      K
    else K) = (start0 arg2 arg9 arg11 nv rv sv >>= fun _ => K' : TP F c s α) := by
  subst hK
  unfold start0
  split <;> rfl

theorem start1_step {arg2 : Memref sig .scVector .hbm S8x8x1000064 .f32} {arg9 : Memref sig .scVector .vmem S16x4x8x128 .f32}
    {arg11 : DmaSems sig S_} {nv rv sv : BitVec 32} {K K' : TP F c s α} (hK : K = K') :
    (if h : k0_cond34 nv = 1#1 then do
      have hw2 : k0_chk66 nv rv := (← Prog.lift (TpuEff.assume (k0_chk66 nv rv) (k0_chk66.dec nv rv))).down
      have hw3 : k0_chk67 nv sv := (← Prog.lift (TpuEff.assume (k0_chk67 nv sv) (k0_chk67.dec nv sv))).down
      Prog.lift (.enqueueDma (arg2.slice (Rect.unit (s := S8x8x1000064) (k0_off36 rv) S4x8x128.size (k0_off36_inb nv rv hw2 h)) (fun _ => rfl))
        (.here ((arg9.slice (Rect.unit (s := S16x4x8x128) (k0_off35 sv) S1x4x8x128.size (k0_off35_inb nv sv hw3 h)) (fun _ => rfl)).squeeze S4x8x128 squeezes_S1x4x8x128_S4x8x128))
        (.dma arg11.sem) (View.wordExact_bits rfl) ((View.wordExact_bits rfl).reshape _ _) ⟨Or.inl rfl, trivial⟩)
      K
    else K) = (start1 arg2 arg9 arg11 nv rv sv >>= fun _ => K' : TP F c s α) := by
  subst hK
  unfold start1
  split <;> rfl

theorem wait0_step {arg2 : Memref sig .scVector .hbm S8x8x1000064 .f32} {arg9 : Memref sig .scVector .vmem S16x4x8x128 .f32}
    {arg11 : DmaSems sig S_} {nv : BitVec 32} {K K' : TP F c s α} (hK : K = K') :
    (if k0_cond1 nv = 1#1 then do
      Prog.lift (.waitDma2 arg11.sem (arg2.slice (Rect.unit (s := S8x8x1000064) ![0, 0, 0] S4x8x128.size inb_S8x8x1000064_S4x8x128_0_0_0) (fun _ => rfl))
        ((arg9.slice (Rect.unit (s := S16x4x8x128) ![0, 0, 0, 0] S1x4x8x128.size inb_S16x4x8x128_S1x4x8x128_0_0_0_0) (fun _ => rfl)).squeeze S4x8x128 squeezes_S1x4x8x128_S4x8x128)
        (View.wordExact_bits rfl) ((View.wordExact_bits rfl).reshape _ _))
      K
    else K) = (wait0 arg2 arg9 arg11 nv >>= fun _ => K' : TP F c s α) := by
  subst hK
  unfold wait0
  split <;> rfl

end

/-- The lanes' block numbers. -/
def rblk (v141 : IVec S16 32) : IVec S16 32 := shrui v141 (broadcast S16 7#32)
/-- The lanes' columns in their blocks. -/
def rcol (v141 : IVec S16 32) : IVec S16 32 := andi v141 (broadcast S16 127#32)
/-- One where a lane is the first of its block, zero elsewhere: from the block numbers and the block numbers one lane before. -/
def fresh (v3 vb vp : IVec S16 32) : IVec S16 32 :=
  select (ori (cmpi .ne vb vp) (cmpi .eq v3 (broadcast S16 0#32))) (broadcast S16 1#32) (broadcast S16 0#32)
/-- The lanes' slots: the running sum of the first lanes, less one. -/
def slotOf [Facts] (v156 : IVec S16 32) : IVec S16 32 := subi (scan .sum v156) (broadcast S16 1#32)
/-- Whether the loop's trip is not the first. -/
def later (t : Fin k0_t1_loop.trips) : BitVec 1 :=
  Scalar.cmpi .ne (Scalar.extui (Scalar.cmpi .sgt (Scf.iv 0#32 1#32 t) 0#32)) 0#32

/-- The waits for the rows' copies of the trip before, where there is one. -/
def owaitIf {c : Fin τ.nSC} {s : Fin τ.nSub} (arg5 : Memref sig .scVector .hbm S16384x64 .f32) (arg10 : Memref sig .scVector .vmem S16x64 .f32)
    (arg12 : DmaSems sig S_) (t : Fin k0_t1_loop.trips) : TP F c s PUnit :=
  if later t = 1#1 then forL lanes (owait arg5 arg10 arg12) else pure ⟨⟩

variable (i : grid0.Coords) (arg2 : Memref sig .scVector .hbm S8x8x1000064 .f32) (harg2 : arg2.IsWhole) (arg3 : Memref sig .scVector .hbm S16384 .i32)
  (harg3 : arg3.IsWhole) (arg4 : Memref sig .scVector .hbm S16384 .i32) (harg4 : arg4.IsWhole) (arg5 : Memref sig .scVector .hbm S16384x64 .f32)
  (harg5 : arg5.IsWhole) (arg6 : Memref sig .scVector .vmem S512 .i32) (harg6 : arg6.IsWhole) (arg7 : Memref sig .scVector .vmem S512 .i32)
  (harg7 : arg7.IsWhole) (arg8 : Memref sig .scVector .vmem S16 .i32) (harg8 : arg8.IsWhole) (arg9 : Memref sig .scVector .vmem S16x4x8x128 .f32)
  (harg9 : arg9.IsWhole) (arg10 : Memref sig .scVector .vmem S16x64 .f32) (harg10 : arg10.IsWhole) (arg11 arg12 v138_r0 v138_r1 : DmaSems sig S_)

/-- Steps from here on run on the subcore at the grid's coordinates. -/
abbrev TI (i : grid0.Coords) (α : Type) : Type 1 := TP F ((i 0).castLE hcore0) ((i 1).castLE hsub0) α

/-- What a trip reads and notes before its copies: the rows' indices and output rows, which lanes are first of
    their block, and their slots. -/
def headK {α : Type} (v3 v7 : IVec S16 32) (hw1 : k0_chk1 v7) (t : Fin k0_t1_loop.trips)
    (k : Vec F S16 .i32 → Vec F S16 .i32 → IVec S16 32 → TI (F := F) i α) : TI (F := F) i α := do
  let v141 : Vec F S16 .i32 ← Prog.lift (.load arg6 (Rect.unit (s := S512) (k0_off2 t) S16.size (k0_off2_inb t)).toLoadRect (View.loadsAt_vmem h_S16))
  let v143 : Vec F S16 .i32 ← Prog.lift (.load arg7 (Rect.unit (s := S512) (k0_off2 t) S16.size (k0_off2_inb t)).toLoadRect (View.loadsAt_vmem h_S16))
  let _ : Vec F S16 .i32 ← Prog.lift (.load arg8 (Rect.unit (s := S16) ![0] S16.size inb_S16_S16_0).toLoadRect (View.loadsAt_vmem h_S16))
  Prog.lift (.store arg8 (Rect.unit (s := S16) ![0] S16.size inb_S16_S16_0) (rblk v141) Finset.univ (View.stores_vmem_bits_univ h_S16 rfl) (.inl rfl))
  let v149 : Vec F S16 .i32 ← SparseCore.vectorLoadIdx arg8 ![v7] (k0_idx1_inb v7 hw1) (View.loads_vmem h_S16)
  k v141 v143 (fresh v3 (rblk v141) v149)

theorem part5_eq (v3 v7 : IVec S16 32) (hw1 : k0_chk1 v7) (t : Fin k0_t1_loop.trips) :
    k0_part5 (F := F) i arg2 harg2 arg3 harg3 arg4 harg4 arg5 harg5 arg6 harg6 arg7 harg7 arg8 harg8 arg9 harg9 arg10 harg10 arg11 arg12 v138_r0 v138_r1 v3 v7 hw1 0#32 1#32 t = headK i arg6 arg7 arg8 v3 v7 hw1 t (fun v141 v143 v156 => do
      forL [0, 1, 2] (fun l => start0 arg2 arg9 arg11 (ext v156 l) (ext v141 l) (ext (slotOf v156) l))
      pure ⟨Scf.iv 0#32 1#32 t, v141, v143, rcol v141, v156, slotOf v156, ext v156 3⟩) := by
  unfold headK
  refine congrArg (Prog.op _) (funext fun v141 => ?_)
  refine congrArg (Prog.op _) (funext fun v143 => ?_)
  refine congrArg (Prog.op _) (funext fun _ => ?_)
  refine congrArg (Prog.op _) (funext fun _ => ?_)
  refine congrArg (Prog.op _) (funext fun v149 => ?_)
  show _ = (forL (F := F) _ _ >>= fun _ => _)
  iterate 3
    rw [forL_cons]
    refine start0_step ?_
  rfl

theorem part6_eq (v141 : Vec F S16 .i32) (v156 v160 : IVec S16 32) :
    k0_part6 (F := F) i arg2 harg2 arg3 harg3 arg4 harg4 arg5 harg5 arg6 harg6 arg7 harg7 arg8 harg8 arg9 harg9 arg10 harg10 arg11 arg12 v138_r0 v138_r1 v141 v156 v160 (ext v156 3) = (do
      forL [3, 4, 5, 6, 7, 8, 9] (fun l => start0 arg2 arg9 arg11 (ext v156 l) (ext v141 l) (ext v160 l))
      pure ⟨ext v156 10, Scalar.extui (Scalar.cmpi .sgt (ext v156 10) 0#32), 0#32⟩) := by
  iterate 7
    rw [forL_cons]
    refine start0_step ?_
  rfl

theorem part7_eq (t : Fin k0_t1_loop.trips) (v141 : Vec F S16 .i32) (v156 v160 : IVec S16 32) (x y : BitVec 32) :
    k0_part7 (F := F) i arg2 harg2 arg3 harg3 arg4 harg4 arg5 harg5 arg6 harg6 arg7 harg7 arg8 harg8 arg9 harg9 arg10 harg10 arg11 arg12 v138_r0 v138_r1 (Scf.iv 0#32 1#32 t) v141 v156 v160 (ext v156 10) x y = (do
      forL [10, 11, 12, 13, 14, 15] (fun l => start0 arg2 arg9 arg11 (ext v156 l) (ext v141 l) (ext v160 l))
      owaitIf arg5 arg10 arg12 t
      forL [0] (fun l => wait0 arg2 arg9 arg11 (ext v156 l))
      pure (Scalar.cmpi .sgt (ext v156 1) 0#32)) := by
  iterate 6
    rw [forL_cons]
    refine start0_step ?_
  rw [forL_nil]
  refine if_step (F := F) (b := later t) ?_ ?_
  · rfl
  rw [forL_cons]
  refine wait0_step ?_
  rfl

theorem part8_eq (v156 : IVec S16 32) :
    k0_part8 (F := F) i arg2 harg2 arg3 harg3 arg4 harg4 arg5 harg5 arg6 harg6 arg7 harg7 arg8 harg8 arg9 harg9 arg10 harg10 arg11 arg12 v138_r0 v138_r1 v156 (Scalar.cmpi .sgt (ext v156 1) 0#32) = (do
      forL [1, 2, 3, 4, 5, 6, 7, 8] (fun l => wait0 arg2 arg9 arg11 (ext v156 l))
      pure ⟨⟩) := by
  iterate 8
    rw [forL_cons]
    refine wait0_step ?_
  rfl

theorem part9_eq (v8 v156 v160 : IVec S16 32) :
    k0_part9 (F := F) i arg2 harg2 arg3 harg3 arg4 harg4 arg5 harg5 arg6 harg6 arg7 harg7 arg8 harg8 arg9 harg9 arg10 harg10 arg11 arg12 v138_r0 v138_r1 v8 v156 v160 = (do
      forL [9, 10, 11, 12, 13, 14, 15] (fun l => wait0 arg2 arg9 arg11 (ext v156 l))
      pure (gi0 v8 (ext v160 0))) := by
  iterate 7
    rw [forL_cons]
    refine wait0_step ?_
  rfl

/-- The first half's gathers, up to the last one. -/
theorem mid0_eq {α : Type} (v3 v8 v145 v160 : IVec S16 32) (k : (Σ' (v854 : IVec S16 32) (v856 : IVec S16 32), IVec S16 32) → TI (F := F) i α) :
    (do
      let a361 ← k0_part10 i arg2 harg2 arg3 harg3 arg4 harg4 arg5 harg5 arg6 harg6 arg7 harg7 arg8 harg8 arg9 harg9 arg10 harg10 arg11 arg12 v138_r0 v138_r1 v3 v8 v145 v160 (gi0 v8 (ext v160 0))
      let v406 : Vec F S16 .f32 ← k0_part11 i arg2 harg2 arg3 harg3 arg4 harg4 arg5 harg5 arg6 harg6 arg7 harg7 arg8 harg8 arg9 harg9 arg10 harg10 arg11 arg12 v138_r0 v138_r1 v3 v8 v145 v160 a361.1 a361.2.1 a361.2.2.1 a361.2.2.2
      let a446 ← k0_part12 i arg2 harg2 arg3 harg3 arg4 harg4 arg5 harg5 arg6 harg6 arg7 harg7 arg8 harg8 arg9 harg9 arg10 harg10 arg11 arg12 v138_r0 v138_r1 v3 v8 v145 v160 v406
      let v491 : Vec F S16 .f32 ← k0_part13 i arg2 harg2 arg3 harg3 arg4 harg4 arg5 harg5 arg6 harg6 arg7 harg7 arg8 harg8 arg9 harg9 arg10 harg10 arg11 arg12 v138_r0 v138_r1 v3 v8 v145 v160 a446.1 a446.2.1 a446.2.2
      let v531 : IVec S16 32 ← k0_part14 i arg2 harg2 arg3 harg3 arg4 harg4 arg5 harg5 arg6 harg6 arg7 harg7 arg8 harg8 arg9 harg9 arg10 harg10 arg11 arg12 v138_r0 v138_r1 v3 v8 v145 v160 v491
      let a565 ← k0_part15 i arg2 harg2 arg3 harg3 arg4 harg4 arg5 harg5 arg6 harg6 arg7 harg7 arg8 harg8 arg9 harg9 arg10 harg10 arg11 arg12 v138_r0 v138_r1 v3 v8 v145 v160 v531
      let v610 : Vec F S16 .f32 ← k0_part16 i arg2 harg2 arg3 harg3 arg4 harg4 arg5 harg5 arg6 harg6 arg7 harg7 arg8 harg8 arg9 harg9 arg10 harg10 arg11 arg12 v138_r0 v138_r1 v3 v8 v145 v160 a565.1 a565.2.1 a565.2.2.1 a565.2.2.2
      let a650 ← k0_part17 i arg2 harg2 arg3 harg3 arg4 harg4 arg5 harg5 arg6 harg6 arg7 harg7 arg8 harg8 arg9 harg9 arg10 harg10 arg11 arg12 v138_r0 v138_r1 v3 v8 v145 v160 v610
      let v695 : Vec F S16 .f32 ← k0_part18 i arg2 harg2 arg3 harg3 arg4 harg4 arg5 harg5 arg6 harg6 arg7 harg7 arg8 harg8 arg9 harg9 arg10 harg10 arg11 arg12 v138_r0 v138_r1 v3 v8 v145 v160 a650.1 a650.2.1 a650.2.2
      let v735 : IVec S16 32 ← k0_part19 i arg2 harg2 arg3 harg3 arg4 harg4 arg5 harg5 arg6 harg6 arg7 harg7 arg8 harg8 arg9 harg9 arg10 harg10 arg11 arg12 v138_r0 v138_r1 v3 v8 v145 v160 v695
      let a769 ← k0_part20 i arg2 harg2 arg3 harg3 arg4 harg4 arg5 harg5 arg6 harg6 arg7 harg7 arg8 harg8 arg9 harg9 arg10 harg10 arg11 arg12 v138_r0 v138_r1 v3 v8 v145 v160 v735
      let v814 : Vec F S16 .f32 ← k0_part21 i arg2 harg2 arg3 harg3 arg4 harg4 arg5 harg5 arg6 harg6 arg7 harg7 arg8 harg8 arg9 harg9 arg10 harg10 arg11 arg12 v138_r0 v138_r1 v3 v8 v145 v160 a769.1 a769.2.1 a769.2.2.1 a769.2.2.2
      k0_part22 i arg2 harg2 arg3 harg3 arg4 harg4 arg5 harg5 arg6 harg6 arg7 harg7 arg8 harg8 arg9 harg9 arg10 harg10 arg11 arg12 v138_r0 v138_r1 v3 v8 v145 v160 v814 >>= k : TI (F := F) i α) = (do
      forL lanes (gstep arg9 arg10 v3 v8 v145 v160 0#32 0)
      forL [0, 1, 2, 3, 4, 5, 6, 7, 8, 9, 10, 11, 12, 13, 14] (gstep arg9 arg10 v3 v8 v145 v160 2#32 1)
      k ⟨gi0 v8 (ext v160 15), shrsi v3 (broadcast S16 3#32), broadcast S16 2#32⟩) := by
  exact Eq.trans rfl rfl

theorem part23_eq (v3 v8 v141 v145 v156 v160 : IVec S16 32) :
    k0_part23 (F := F) i arg2 harg2 arg3 harg3 arg4 harg4 arg5 harg5 arg6 harg6 arg7 harg7 arg8 harg8 arg9 harg9 arg10 harg10 arg11 arg12 v138_r0 v138_r1 v3 v8 v141 v145 v156 v160 (gi0 v8 (ext v160 15)) (shrsi v3 (broadcast S16 3#32)) (broadcast S16 2#32) = (do
      forL [15] (gstep arg9 arg10 v3 v8 v145 v160 2#32 1)
      forL [0, 1, 2, 3, 4] (fun l => start1 arg2 arg9 arg11 (ext v156 l) (ext v141 l) (ext v160 l))
      pure ⟨ext v156 5, Scalar.cmpi .sgt (ext v156 5) 0#32⟩) := by
  rw [forL_cons]
  refine both (p := gstep arg9 arg10 v3 v8 v145 v160 2#32 1 15) ?_
  rw [forL_nil]
  iterate 5
    rw [forL_cons]
    refine start1_step ?_
  rfl

theorem part24_eq (v141 v156 v160 : IVec S16 32) (x : BitVec 1) :
    k0_part24 (F := F) i arg2 harg2 arg3 harg3 arg4 harg4 arg5 harg5 arg6 harg6 arg7 harg7 arg8 harg8 arg9 harg9 arg10 harg10 arg11 arg12 v138_r0 v138_r1 v141 v156 v160 (ext v156 5) x = (do
      forL [5, 6, 7, 8, 9, 10, 11, 12] (fun l => start1 arg2 arg9 arg11 (ext v156 l) (ext v141 l) (ext v160 l))
      pure ⟨⟩) := by
  iterate 8
    rw [forL_cons]
    refine start1_step ?_
  rfl

theorem part25_eq (v141 v156 v160 : IVec S16 32) :
    k0_part25 (F := F) i arg2 harg2 arg3 harg3 arg4 harg4 arg5 harg5 arg6 harg6 arg7 harg7 arg8 harg8 arg9 harg9 arg10 harg10 arg11 arg12 v138_r0 v138_r1 v141 v156 v160 = (do
      forL [13, 14, 15] (fun l => start1 arg2 arg9 arg11 (ext v156 l) (ext v141 l) (ext v160 l))
      forL [0, 1, 2, 3] (fun l => wait0 arg2 arg9 arg11 (ext v156 l))
      pure (Scalar.cmpi .sgt (ext v156 4) 0#32)) := by
  iterate 3
    rw [forL_cons]
    refine start1_step ?_
  rw [forL_nil]
  iterate 4
    rw [forL_cons]
    refine wait0_step ?_
  rfl

theorem part26_eq (v156 : IVec S16 32) :
    k0_part26 (F := F) i arg2 harg2 arg3 harg3 arg4 harg4 arg5 harg5 arg6 harg6 arg7 harg7 arg8 harg8 arg9 harg9 arg10 harg10 arg11 arg12 v138_r0 v138_r1 v156 (Scalar.cmpi .sgt (ext v156 4) 0#32) = (do
      forL [4, 5, 6, 7, 8, 9, 10, 11] (fun l => wait0 arg2 arg9 arg11 (ext v156 l))
      pure ⟨⟩) := by
  iterate 8
    rw [forL_cons]
    refine wait0_step ?_
  rfl

theorem part27_eq (v3 v8 v145 v156 v160 : IVec S16 32) :
    k0_part27 (F := F) i arg2 harg2 arg3 harg3 arg4 harg4 arg5 harg5 arg6 harg6 arg7 harg7 arg8 harg8 arg9 harg9 arg10 harg10 arg11 arg12 v138_r0 v138_r1 v3 v8 v145 v156 v160 = (do
      forL [12, 13, 14, 15] (fun l => wait0 arg2 arg9 arg11 (ext v156 l))
      forL [0] (gstep arg9 arg10 v3 v8 v145 v160 0#32 2)
      pure (broadcast S16 (ext v160 1))) := by
  iterate 4
    rw [forL_cons]
    refine wait0_step ?_
  rfl

/-- The second half's gathers after the first one, and the rows' copies out. -/
theorem mid1_eq (v3 v8 v145 v160 : IVec S16 32) (v143 : Vec F S16 .i32) :
    (do
      let a1082 ← k0_part28 i arg2 harg2 arg3 harg3 arg4 harg4 arg5 harg5 arg6 harg6 arg7 harg7 arg8 harg8 arg9 harg9 arg10 harg10 arg11 arg12 v138_r0 v138_r1 v3 v8 v145 v160 (broadcast S16 (ext v160 1))
      let a1127 ← k0_part29 i arg2 harg2 arg3 harg3 arg4 harg4 arg5 harg5 arg6 harg6 arg7 harg7 arg8 harg8 arg9 harg9 arg10 harg10 arg11 arg12 v138_r0 v138_r1 v3 v8 v145 v160 a1082.1 a1082.2.1 a1082.2.2
      let a1167 ← k0_part30 i arg2 harg2 arg3 harg3 arg4 harg4 arg5 harg5 arg6 harg6 arg7 harg7 arg8 harg8 arg9 harg9 arg10 harg10 arg11 arg12 v138_r0 v138_r1 v3 v8 v145 v160 a1127.1 a1127.2
      let a1201 ← k0_part31 i arg2 harg2 arg3 harg3 arg4 harg4 arg5 harg5 arg6 harg6 arg7 harg7 arg8 harg8 arg9 harg9 arg10 harg10 arg11 arg12 v138_r0 v138_r1 v3 v8 v145 v160 a1167.1 a1167.2.1 a1167.2.2
      let v1251 : IVec S16 32 ← k0_part32 i arg2 harg2 arg3 harg3 arg4 harg4 arg5 harg5 arg6 harg6 arg7 harg7 arg8 harg8 arg9 harg9 arg10 harg10 arg11 arg12 v138_r0 v138_r1 v3 v8 v145 v160 a1201.1 a1201.2.1 a1201.2.2.1 a1201.2.2.2.1 a1201.2.2.2.2
      let a1286 ← k0_part33 i arg2 harg2 arg3 harg3 arg4 harg4 arg5 harg5 arg6 harg6 arg7 harg7 arg8 harg8 arg9 harg9 arg10 harg10 arg11 arg12 v138_r0 v138_r1 v3 v8 v145 v160 v1251
      let a1331 ← k0_part34 i arg2 harg2 arg3 harg3 arg4 harg4 arg5 harg5 arg6 harg6 arg7 harg7 arg8 harg8 arg9 harg9 arg10 harg10 arg11 arg12 v138_r0 v138_r1 v3 v8 v145 v160 a1286.1 a1286.2.1 a1286.2.2
      let a1371 ← k0_part35 i arg2 harg2 arg3 harg3 arg4 harg4 arg5 harg5 arg6 harg6 arg7 harg7 arg8 harg8 arg9 harg9 arg10 harg10 arg11 arg12 v138_r0 v138_r1 v3 v8 v145 v160 a1331.1 a1331.2
      let a1405 ← k0_part36 i arg2 harg2 arg3 harg3 arg4 harg4 arg5 harg5 arg6 harg6 arg7 harg7 arg8 harg8 arg9 harg9 arg10 harg10 arg11 arg12 v138_r0 v138_r1 v3 v8 v145 v160 a1371.1 a1371.2.1 a1371.2.2
      let v1455 : IVec S16 32 ← k0_part37 i arg2 harg2 arg3 harg3 arg4 harg4 arg5 harg5 arg6 harg6 arg7 harg7 arg8 harg8 arg9 harg9 arg10 harg10 arg11 arg12 v138_r0 v138_r1 v3 v8 v145 v160 a1405.1 a1405.2.1 a1405.2.2.1 a1405.2.2.2.1 a1405.2.2.2.2
      let a1490 ← k0_part38 i arg2 harg2 arg3 harg3 arg4 harg4 arg5 harg5 arg6 harg6 arg7 harg7 arg8 harg8 arg9 harg9 arg10 harg10 arg11 arg12 v138_r0 v138_r1 v3 v8 v145 v160 v1455
      let a1535 ← k0_part39 i arg2 harg2 arg3 harg3 arg4 harg4 arg5 harg5 arg6 harg6 arg7 harg7 arg8 harg8 arg9 harg9 arg10 harg10 arg11 arg12 v138_r0 v138_r1 v3 v8 v145 v160 a1490.1 a1490.2.1 a1490.2.2
      let a1573 ← k0_part40 i arg2 harg2 arg3 harg3 arg4 harg4 arg5 harg5 arg6 harg6 arg7 harg7 arg8 harg8 arg9 harg9 arg10 harg10 arg11 arg12 v138_r0 v138_r1 v3 v8 v143 v145 v160 a1535.1 a1535.2
      k0_part41 i arg2 harg2 arg3 harg3 arg4 harg4 arg5 harg5 arg6 harg6 arg7 harg7 arg8 harg8 arg9 harg9 arg10 harg10 arg11 arg12 v138_r0 v138_r1 v143 a1573.1 a1573.2
      let a1643 ← k0_part42 i arg2 harg2 arg3 harg3 arg4 harg4 arg5 harg5 arg6 harg6 arg7 harg7 arg8 harg8 arg9 harg9 arg10 harg10 arg11 arg12 v138_r0 v138_r1 v143
      let v1682 : IVec S1 32 ← k0_part43 i arg2 harg2 arg3 harg3 arg4 harg4 arg5 harg5 arg6 harg6 arg7 harg7 arg8 harg8 arg9 harg9 arg10 harg10 arg11 arg12 v138_r0 v138_r1 v143 a1643.1 a1643.2
      let a1713 ← k0_part44 i arg2 harg2 arg3 harg3 arg4 harg4 arg5 harg5 arg6 harg6 arg7 harg7 arg8 harg8 arg9 harg9 arg10 harg10 arg11 arg12 v138_r0 v138_r1 v143 v1682
      Prog.lift (.enqueueDma (rowM arg10 14) (.here ((arg5.slice (Rect.unit (s := S16384x64) (k0_off81 a1713.1) S1x64.size (k0_off81_inb a1713.1 a1713.2)) (fun _ => rfl)).squeeze S64 squeezes_S1x64_S64))
        (.dma arg12.sem) ((View.wordExact_bits rfl).reshape _ _) ((View.wordExact_bits rfl).reshape _ _) ⟨Or.inl rfl, trivial⟩)
      let h ← ochk (ext v143 15)
      oput arg5 arg10 arg12 15 (ext v143 15) h.down
      pure ⟨⟩ : TI (F := F) i PUnit) = (do
      forL [1, 2, 3, 4, 5, 6, 7, 8, 9, 10, 11, 12, 13, 14, 15] (gstep arg9 arg10 v3 v8 v145 v160 0#32 2)
      forL lanes (gstep arg9 arg10 v3 v8 v145 v160 2#32 3)
      forL lanes (ostep arg5 arg10 arg12 v143)) := by
  exact Eq.trans rfl rfl

end Cert.KernelIdeal.Wave
-- ==== Proof.Wave.lean ====
/- A trip of the kernel's loop, and the kernel, as the lanes' steps they are. -/
module

public import proofs.«01_k».proof.Proof.Parts

@[expose] public section

noncomputable section

namespace Cert.KernelIdeal.Wave

open Idealize.ShloMosaic Idealize.SL.Sem Cert.KernelIdeal
open Cert.KernelIdeal.Facts₀ Cert.KernelIdeal.Facts

variable {F : FTy → Type} [FloatOps F] [Facts]

set_option maxHeartbeats 4000000

variable (i : grid0.Coords) (arg2 : Memref sig .scVector .hbm S8x8x1000064 .f32) (harg2 : arg2.IsWhole) (arg3 : Memref sig .scVector .hbm S16384 .i32)
  (harg3 : arg3.IsWhole) (arg4 : Memref sig .scVector .hbm S16384 .i32) (harg4 : arg4.IsWhole) (arg5 : Memref sig .scVector .hbm S16384x64 .f32)
  (harg5 : arg5.IsWhole) (arg6 : Memref sig .scVector .vmem S512 .i32) (harg6 : arg6.IsWhole) (arg7 : Memref sig .scVector .vmem S512 .i32)
  (harg7 : arg7.IsWhole) (arg8 : Memref sig .scVector .vmem S16 .i32) (harg8 : arg8.IsWhole) (arg9 : Memref sig .scVector .vmem S16x4x8x128 .f32)
  (harg9 : arg9.IsWhole) (arg10 : Memref sig .scVector .vmem S16x64 .f32) (harg10 : arg10.IsWhole) (arg11 arg12 v138_r0 v138_r1 : DmaSems sig S_)

/-- A trip after its head, up to the first half's gathers. -/
def waveA (v3 v8 : IVec S16 32) (t : Fin k0_t1_loop.trips) (v141 : Vec F S16 .i32) (v156 : IVec S16 32) : TI (F := F) i PUnit := do
  forL lanes (fun l => start0 arg2 arg9 arg11 (ext v156 l) (ext v141 l) (ext (slotOf v156) l))
  owaitIf arg5 arg10 arg12 t
  forL lanes (fun l => wait0 arg2 arg9 arg11 (ext v156 l))
  forL lanes (gstep arg9 arg10 v3 v8 (rcol v141) (slotOf v156) 0#32 0)
  forL lanes (gstep arg9 arg10 v3 v8 (rcol v141) (slotOf v156) 2#32 1)

/-- The rest of a trip: the second half, and the rows' copies out. -/
def waveB (v3 v8 : IVec S16 32) (v141 v143 : Vec F S16 .i32) (v156 : IVec S16 32) : TI (F := F) i PUnit := do
  forL lanes (fun l => start1 arg2 arg9 arg11 (ext v156 l) (ext v141 l) (ext (slotOf v156) l))
  forL lanes (fun l => wait0 arg2 arg9 arg11 (ext v156 l))
  forL lanes (gstep arg9 arg10 v3 v8 (rcol v141) (slotOf v156) 0#32 2)
  forL lanes (gstep arg9 arg10 v3 v8 (rcol v141) (slotOf v156) 2#32 3)
  forL lanes (ostep arg5 arg10 arg12 v143)

/-- A trip of the loop. -/
def wave (v3 v7 v8 : IVec S16 32) (hw1 : k0_chk1 v7) (t : Fin k0_t1_loop.trips) : TI (F := F) i PUnit :=
  headK i arg6 arg7 arg8 v3 v7 hw1 t fun v141 v143 v156 => do
    waveA i arg2 arg5 arg9 arg10 arg11 arg12 v3 v8 t v141 v156
    waveB i arg2 arg5 arg9 arg10 arg11 arg12 v3 v8 v141 v143 v156

theorem headK_bind {α β : Type} (v3 v7 : IVec S16 32) (hw1 : k0_chk1 v7) (t : Fin k0_t1_loop.trips)
    (k : Vec F S16 .i32 → Vec F S16 .i32 → IVec S16 32 → TI (F := F) i α) (k' : α → TI (F := F) i β) :
    headK i arg6 arg7 arg8 v3 v7 hw1 t k >>= k' = headK i arg6 arg7 arg8 v3 v7 hw1 t fun a b c => k a b c >>= k' := rfl

theorem bindA {c : Fin τ.nSC} {s : Fin τ.nSub} {α β γ : Type} (p : TP F c s α) (k : α → TP F c s β) (k' : β → TP F c s γ) :
    (p >>= k) >>= k' = p >>= fun a => k a >>= k' := Prog.bind_assoc _ _ _

theorem pureB {c : Fin τ.nSC} {s : Fin τ.nSub} {α β : Type} (a : α) (k : α → TP F c s β) : (pure a >>= k : TP F c s β) = k a := by exact Eq.trans rfl rfl

set_option maxRecDepth 4000 in
theorem wave_eq (v3 v7 v8 : IVec S16 32) (hw1 : k0_chk1 v7) (t : Fin k0_t1_loop.trips) :
    (k0_part45 (F := F) i arg2 harg2 arg3 harg3 arg4 harg4 arg5 harg5 arg6 harg6 arg7 harg7 arg8 harg8 arg9 harg9 arg10 harg10 arg11 arg12 v138_r0 v138_r1 v3 v7 hw1 v8 0#32 1#32 t >>= fun x => oput arg5 arg10 arg12 15 x.1 x.2 >>= fun _ => pure ⟨⟩) =
      wave i arg2 arg5 arg6 arg7 arg8 arg9 arg10 arg11 arg12 v3 v7 v8 hw1 t := by
  unfold k0_part45 wave
  rw [part5_eq, headK_bind, headK_bind]
  refine congrArg _ (funext fun v141 => funext fun v143 => funext fun v156 => ?_)
  simp only [bindA, pureB, part6_eq, part7_eq, part8_eq, part9_eq]
  simp -implicitDefEqProofs only [mid0_eq]
  simp -implicitDefEqProofs only [bindA, pureB, part23_eq, part24_eq, part25_eq, part26_eq, part27_eq]
  unfold waveA waveB lanes
  simp -implicitDefEqProofs only [bindA, forL_cons, forL_nil]
  iterate 98 refine both ?_
  refine (mid1_eq i arg2 harg2 arg3 harg3 arg4 harg4 arg5 harg5 arg6 harg6 arg7 harg7 arg8 harg8 arg9 harg9 arg10 harg10 arg11 arg12 v138_r0 v138_r1 v3 v8 (rcol v141) (slotOf v156) v143).trans ?_
  unfold lanes
  simp -implicitDefEqProofs only [bindA, forL_cons, forL_nil]

/-- The lanes' numbers, the lanes before them (the first before itself), and zeros. -/
def v3c : IVec S16 32 := iota .scVector S16 32 [0] iota_S16_d0_w32_scVector
def v7c : IVec S16 32 := maxsi (subi v3c (broadcast S16 1#32)) (broadcast S16 0#32)
def v8c : IVec S16 32 := broadcast S16 0#32

/-- The copy of a subcore's share of an index list to its own memory, and the wait for it. -/
def copyIn (src : Memref sig .scVector .hbm S16384 .i32) (dst : Memref sig .scVector .vmem S512 .i32) (hdst : dst.IsWhole) (sem : DmaSems sig S_) :
    TI (F := F) i PUnit := do
  Prog.lift (.enqueueDma (src.slice (Rect.unit (s := S16384) (k0_off1 i) S512.size (k0_off1_inb i)) (fun _ => rfl)) (.here dst) (.dma sem.sem)
    (View.wordExact_bits rfl) hdst.wordExact ⟨Or.inl rfl, trivial⟩)
  Prog.lift (.waitDma2 sem.sem (src.slice (Rect.unit (s := S16384) (k0_off1 i) S512.size (k0_off1_inb i)) (fun _ => rfl)) dst
    (View.wordExact_bits rfl) hdst.wordExact)

/-- The kernel's body on a subcore. -/
def kern : TI (F := F) i PUnit := do
  copyIn i arg3 arg6 harg6 v138_r0
  copyIn i arg4 arg7 harg7 v138_r1
  let h ← Prog.lift (TpuEff.assume (k0_chk1 v7c) (k0_chk1.dec v7c))
  Scf.Loop.for k0_t1_loop k0_t1_ok ⟨⟩ fun t _ => wave i arg2 arg5 arg6 arg7 arg8 arg9 arg10 arg11 arg12 v3c v7c v8c h.down t
  forL lanes (owait arg5 arg10 arg12)

theorem both2 {c : Fin τ.nSC} {s : Fin τ.nSub} {α β : Type} {p p' : TP F c s α} {k k' : α → TP F c s β} (hp : p = p') (hk : k = k') :
    (p >>= k) = (p' >>= k') := by rw [hp, hk]

theorem kernel_eq : cc0__gather_kernel (F := F) i arg2 harg2 arg3 harg3 arg4 harg4 arg5 harg5 arg6 harg6 arg7 harg7 arg8 harg8 arg9 harg9 arg10 harg10 arg11 arg12 v138_r0 v138_r1 =
    kern i arg2 arg3 arg4 arg5 arg6 harg6 arg7 harg7 arg8 arg9 arg10 arg11 arg12 v138_r0 v138_r1 := by
  unfold kern cc0__gather_kernel k0_part46 copyIn
  simp -implicitDefEqProofs only [← wave_eq i arg2 harg2 arg3 harg3 arg4 harg4 arg5 harg5 arg6 harg6 arg7 harg7 arg8 harg8 arg9 harg9 arg10 harg10 arg11 arg12 v138_r0 v138_r1, bindA]
  iterate 4 refine both ?_
  refine congrArg (Prog.op _) (funext fun h => ?_)
  exact both2 rfl (funext fun _ => Eq.trans rfl rfl)

end Cert.KernelIdeal.Wave
-- ==== Proof.Words.lean ====
/- The words of a wave: which lanes open a block, the slot each lane reads, and the offsets the copies name. -/
module

public import proofs.«01_k».proof.Proof.Wave

@[expose] public section

noncomputable section

namespace Cert.KernelIdeal.Wave

open Idealize.ShloMosaic Idealize.SL.Sem Cert.KernelIdeal
open Cert.KernelIdeal.Facts₀ Cert.KernelIdeal.Facts

/-- Lane `l`'s index. -/
def ln (l : Fin 16) : S16.Idx := fun a => ⟨l.val, by fin_cases a; exact l.isLt⟩

/-- An index's lane. -/
def laneOf (x : S16.Idx) : Fin 16 := ⟨(x 0).val, (x 0).isLt⟩

theorem ln_lane (x : S16.Idx) : ln (laneOf x) = x := funext fun a => by fin_cases a; rfl

theorem ext_eq [Facts] (v : IVec S16 32) (l : Fin 16) : ext v l = v (ln l) := by
  unfold ext extractAt extractStridedSlice
  refine congrArg v (funext fun a => Fin.ext ?_)
  fin_cases a
  rfl

/-- The lane before `l`, the first lane's own number for the first. -/
def prev (l : Fin 16) : Fin 16 := ⟨l.val - 1, by omega⟩

theorem v3c_ln [Facts] (l : Fin 16) : v3c (ln l) = BitVec.ofNat 32 l.val := by
  unfold v3c iota ln
  simp

theorem v7c_ln [Facts] (l : Fin 16) : v7c (ln l) = BitVec.ofNat 32 (prev l).val := by
  show IntOp.maxsi (IntOp.subi (v3c (ln l)) 1#32) 0#32 = _
  rw [v3c_ln]
  unfold prev
  revert l; decide

/-- The block of the word at lane `l`. -/
def blkOf (w : IVec S16 32) (l : Fin 16) : ℕ := (w (ln l)).toNat / 128

theorem rblk_toNat (w : IVec S16 32) (x : S16.Idx) : (rblk w x).toNat = (w x).toNat / 128 := by
  show (IntOp.shrui .vector (w x) 7#32).toNat = _
  unfold IntOp.shrui
  rw [if_pos (by decide)]
  show (w x >>> (7#32).toNat).toNat = _
  rw [BitVec.toNat_ushiftRight, Nat.shiftRight_eq_div_pow]
  rfl

theorem rcol_toNat (w : IVec S16 32) (x : S16.Idx) : (rcol w x).toNat = (w x).toNat % 128 := by
  show (w x &&& 127#32).toNat = _
  rw [BitVec.toNat_and]
  exact Nat.and_two_pow_sub_one_eq_mod _ 7

theorem and_mask (x : BitVec 32) : (x &&& 4294967168#32).toNat = x.toNat / 128 * 128 := by
  have h : x &&& 4294967168#32 = (x >>> 7) <<< 7 := by
    have hb : ∀ i : Fin 32, (4294967168#32).getLsbD i.val = !decide (i.val < 7) := by decide
    apply BitVec.eq_of_getLsbD_eq
    intro i hi
    rw [BitVec.getLsbD_and, BitVec.getLsbD_shiftLeft, BitVec.getLsbD_ushiftRight, hb ⟨i, hi⟩]
    by_cases h7 : i < 7
    · simp [h7]
    · simp [h7, hi, show 7 + (i - 7) = i by omega]
  rw [h, BitVec.toNat_shiftLeft, BitVec.toNat_ushiftRight, Nat.shiftLeft_eq, Nat.shiftRight_eq_div_pow]
  have := x.isLt
  omega

/-- Lane `l` opens a block: it is the first, or its word's block is not the lane before's. -/
def isNew (w : IVec S16 32) (l : Fin 16) : Prop := l = 0 ∨ blkOf w l ≠ blkOf w (prev l)

instance (w : IVec S16 32) (l : Fin 16) : Decidable (isNew w l) := by unfold isNew; infer_instance

/-- How many lanes before `j` open a block. -/
def cnt (w : IVec S16 32) : ℕ → ℕ
  | 0 => 0
  | j + 1 => cnt w j + if h : j < 16 then (if isNew w ⟨j, h⟩ then 1 else 0) else 0

theorem cnt_succ (w : IVec S16 32) (l : Fin 16) : cnt w (l.val + 1) = cnt w l.val + if isNew w l then 1 else 0 := by
  show cnt w l.val + _ = _
  rw [dif_pos l.isLt]

theorem cnt_new {w : IVec S16 32} {l : Fin 16} (h : isNew w l) : cnt w (l.val + 1) = cnt w l.val + 1 := by rw [cnt_succ, if_pos h]

theorem cnt_old {w : IVec S16 32} {l : Fin 16} (h : ¬ isNew w l) : cnt w (l.val + 1) = cnt w l.val := by rw [cnt_succ, if_neg h]; rfl

theorem cnt_step (w : IVec S16 32) (j : ℕ) : cnt w j ≤ cnt w (j + 1) := Nat.le_add_right _ _

theorem cnt_mono (w : IVec S16 32) : Monotone (cnt w) := monotone_nat_of_le_succ (cnt_step w)

theorem cnt_le (w : IVec S16 32) (j : ℕ) : cnt w j ≤ j := by
  induction j with
  | zero => exact Nat.le_refl _
  | succ j ih => unfold cnt; split_ifs <;> omega

theorem cnt_pos (w : IVec S16 32) (l : Fin 16) : 1 ≤ cnt w (l.val + 1) := by
  have h : cnt w (0 + 1) = cnt w 0 + 1 := cnt_new (l := 0) (Or.inl rfl)
  have h0 : cnt w 0 = 0 := rfl
  have := cnt_mono w (show 0 + 1 ≤ l.val + 1 by omega)
  omega

/-- The slot lane `l` reads. -/
def slot (w : IVec S16 32) (l : Fin 16) : ℕ := cnt w (l.val + 1) - 1

theorem slot_lt (w : IVec S16 32) (l : Fin 16) : slot w l < cnt w 16 := by
  have h1 := cnt_pos w l
  have h2 := cnt_mono w (show l.val + 1 ≤ 16 by omega)
  unfold slot; omega

theorem slot_lt16 (w : IVec S16 32) (l : Fin 16) : slot w l < 16 := lt_of_lt_of_le (slot_lt w l) (cnt_le w 16)

theorem slot_new {w : IVec S16 32} {l : Fin 16} (h : isNew w l) : slot w l = cnt w l.val := by
  unfold slot; rw [cnt_new h]; rfl

open Classical in
/-- The lane whose copy fills slot `s`. -/
def lead (w : IVec S16 32) (s : ℕ) : Fin 16 := if h : ∃ l, isNew w l ∧ cnt w l.val = s then h.choose else 0

theorem lead_new {w : IVec S16 32} {l : Fin 16} (h : isNew w l) : lead w (cnt w l.val) = l := by
  have hex : ∃ l', isNew w l' ∧ cnt w l'.val = cnt w l.val := ⟨l, h, rfl⟩
  unfold lead
  rw [dif_pos hex]
  obtain ⟨h1, h2⟩ := hex.choose_spec
  generalize hex.choose = l' at h1 h2 ⊢
  rcases lt_trichotomy l'.val l.val with hl | hl | hl
  · have := cnt_mono w (show l'.val + 1 ≤ l.val from hl); rw [cnt_new h1] at this; omega
  · exact Fin.ext hl
  · have := cnt_mono w (show l.val + 1 ≤ l'.val from hl); rw [cnt_new h] at this; omega

/-- The slot a lane reads holds its own word's block. -/
theorem lead_slot (w : IVec S16 32) (l : Fin 16) : blkOf w (lead w (slot w l)) = blkOf w l := by
  obtain ⟨n, hn⟩ := l
  induction n with
  | zero => rw [slot_new (l := ⟨0, hn⟩) (Or.inl rfl), lead_new (l := ⟨0, hn⟩) (Or.inl rfl)]
  | succ n ih =>
    by_cases h : isNew w ⟨n + 1, hn⟩
    · rw [slot_new h, lead_new h]
    · have h1 : slot w ⟨n + 1, hn⟩ = slot w ⟨n, by omega⟩ := by unfold slot; rw [cnt_old h]
      rw [h1, ih (by omega)]
      unfold isNew at h
      push Not at h
      exact h.2.symm

/-- The words `newi` of the wave. -/
theorem fresh_ln [Facts] (w vp : IVec S16 32) (hp : ∀ l, vp (ln l) = rblk w (ln (prev l))) (l : Fin 16) :
    fresh v3c (rblk w) vp (ln l) = BitVec.ofNat 32 (if isNew w l then 1 else 0) := by
  show Scalar.select (IntOp.cmpi .ne (rblk w (ln l)) (vp (ln l)) ||| IntOp.cmpi .eq (v3c (ln l)) 0#32) 1#32 0#32 = _
  rw [hp, v3c_ln]
  have e1 : (rblk w (ln l) = rblk w (ln (prev l))) ↔ blkOf w l = blkOf w (prev l) := by
    rw [← BitVec.toNat_inj, rblk_toNat, rblk_toNat]; exact Iff.rfl
  have e2 : ∀ l : Fin 16, (BitVec.ofNat 32 l.val = 0#32) ↔ l = 0 := by decide
  have hs : ∀ a b : Bool, Scalar.select (BitVec.ofBool a ||| BitVec.ofBool b) 1#32 0#32 = BitVec.ofNat 32 (if a = true ∨ b = true then 1 else 0) := by decide
  refine (hs _ _).trans (congrArg _ (if_congr ?_ rfl rfl))
  rw [bne_iff_ne, beq_iff_eq, e2 l, Ne, e1]
  exact Or.comm

theorem foldl_ofNat (g : Fin 16 → ℕ) (ls : List (Fin 16)) (a : ℕ) :
    ls.foldl (fun r k => r + BitVec.ofNat 32 (g k)) (BitVec.ofNat 32 a) = BitVec.ofNat 32 (a + (ls.map g).sum) := by
  induction ls generalizing a with
  | nil => simp
  | cons k ls ih =>
    rw [List.foldl_cons, ← BitVec.ofNat_add, ih, List.map_cons, List.sum_cons, Nat.add_assoc]

theorem cnt_sum (w : IVec S16 32) (l : Fin 16) :
    (if isNew w 0 then 1 else 0) + (((List.finRange 16).filter fun k => decide (0 < k.val ∧ k.val ≤ l.val)).map fun k => if isNew w k then 1 else 0).sum
      = cnt w (l.val + 1) := by
  have hstep : ∀ n : Fin 15, ((List.finRange 16).filter fun k => decide (0 < k.val ∧ k.val ≤ n.val + 1))
      = ((List.finRange 16).filter fun k => decide (0 < k.val ∧ k.val ≤ n.val)) ++ [⟨n.val + 1, by omega⟩] := by decide
  have h0 : ((List.finRange 16).filter fun k => decide (0 < k.val ∧ k.val ≤ 0)) = [] := by decide
  obtain ⟨n, hn⟩ := l
  induction n with
  | zero => simp only [h0]; exact Eq.trans (by simp [cnt]) (cnt_succ w 0).symm
  | succ n ih =>
    have hs := hstep ⟨n, by omega⟩
    simp only at hs ih ⊢
    rw [hs, List.map_append, List.sum_append, ← Nat.add_assoc, ih (by omega), cnt_succ w ⟨n + 1, hn⟩]
    simp

theorem scan_ln [Facts] (v : IVec S16 32) (w : IVec S16 32) (hv : ∀ l, v (ln l) = BitVec.ofNat 32 (if isNew w l then 1 else 0)) (l : Fin 16) :
    scan .sum v (ln l) = BitVec.ofNat 32 (cnt w (l.val + 1)) := by
  have hk : ∀ k : Fin 16, v (Shape.ofLane k) = BitVec.ofNat 32 (if isNew w k then 1 else 0) := fun k => by
    rw [← hv]; exact congrArg v (funext fun a => by fin_cases a; rfl)
  have hfold : ∀ ls : List (Fin 16), ls.foldl (fun r k => r + v (Shape.ofLane k)) (v (Shape.ofLane (0 : Fin 16)))
      = BitVec.ofNat 32 ((if isNew w 0 then 1 else 0) + (ls.map fun k => if isNew w k then 1 else 0).sum) := fun ls => by
    rw [← foldl_ofNat, hk 0]
    exact congrArg (fun f => List.foldl f _ ls) (funext fun r => funext fun k => congrArg (r + ·) (hk k))
  rw [← cnt_sum]
  exact hfold _

theorem slotOf_ln [Facts] (v : IVec S16 32) (w : IVec S16 32) (hv : ∀ l, v (ln l) = BitVec.ofNat 32 (if isNew w l then 1 else 0)) (l : Fin 16) :
    slotOf v (ln l) = BitVec.ofNat 32 (slot w l) := by
  show scan .sum v (ln l) - 1#32 = _
  rw [scan_ln v w hv]
  have h1 := cnt_pos w l
  have h2 := cnt_le w (l.val + 1)
  unfold slot
  rw [show (1#32 : BitVec 32) = BitVec.ofNat 32 1 from rfl, BitVec.ofNat_sub_ofNat_of_le _ _ (by omega) h1]

theorem slotOf_toNat [Facts] (v : IVec S16 32) (w : IVec S16 32) (hv : ∀ l, v (ln l) = BitVec.ofNat 32 (if isNew w l then 1 else 0)) (l : Fin 16) :
    (slotOf v (ln l)).toNat = slot w l := by
  rw [slotOf_ln v w hv, BitVec.toNat_ofNat]
  have := slot_lt16 w l
  omega

theorem cond1_iff (w : IVec S16 32) (l : Fin 16) : k0_cond1 (BitVec.ofNat 32 (if isNew w l then 1 else 0)) = 1#1 ↔ isNew w l := by
  by_cases h : isNew w l
  · rw [if_pos h]; simp only [h, iff_true]; decide
  · rw [if_neg h]; simp only [h, iff_false]; decide

theorem cond34_iff (w : IVec S16 32) (l : Fin 16) : k0_cond34 (BitVec.ofNat 32 (if isNew w l then 1 else 0)) = 1#1 ↔ isNew w l :=
  cond1_iff w l

/-! The offsets and the checks, of words in range. -/

theorem off4_eq (r : BitVec 32) : k0_off4 r = ![0, 0, r.toNat / 128 * 128] := by
  show ![0, 0, (r &&& 4294967168#32).toNat] = _
  rw [and_mask]

theorem off36_eq (r : BitVec 32) : k0_off36 r = ![4, 0, r.toNat / 128 * 128] := by
  show ![4, 0, (r &&& 4294967168#32).toNat] = _
  rw [and_mask]

theorem chk2_of (nv r : BitVec 32) (hr : r.toNat < 1000000) : k0_chk2 nv r := by
  refine ⟨fun _ => ?_, fun _ a => ?_⟩
  · show 128 ∣ (r &&& 4294967168#32).toNat
    rw [and_mask]; exact Dvd.intro_left _ rfl
  · rw [off4_eq]
    have h := Nat.div_mul_le_self r.toNat 128
    fin_cases a
    · exact (by decide : 0 + 4 ≤ 8)
    · show 0 + 8 ≤ 8; decide
    · show r.toNat / 128 * 128 + 128 ≤ 1000064
      omega

theorem chk66_of (nv r : BitVec 32) (hr : r.toNat < 1000000) : k0_chk66 nv r := by
  refine ⟨fun _ => ?_, fun _ a => ?_⟩
  · show 128 ∣ (r &&& 4294967168#32).toNat
    rw [and_mask]; exact Dvd.intro_left _ rfl
  · rw [off36_eq]
    have h := Nat.div_mul_le_self r.toNat 128
    fin_cases a
    · exact (by decide : 4 + 4 ≤ 8)
    · show 0 + 8 ≤ 8; decide
    · show r.toNat / 128 * 128 + 128 ≤ 1000064
      omega

theorem chk3_of (nv sv : BitVec 32) (h : sv.toNat < 16) : k0_chk3 nv sv := fun _ a => by
  fin_cases a
  · show sv.toNat + 1 ≤ 16; omega
  · exact (by decide : 0 + 4 ≤ 4)
  · exact (by decide : 0 + 8 ≤ 8)
  · exact (by decide : 0 + 128 ≤ 128)

theorem chk67_of (nv sv : BitVec 32) (h : sv.toNat < 16) : k0_chk67 nv sv := fun _ a => by
  fin_cases a
  · show sv.toNat + 1 ≤ 16; omega
  · exact (by decide : 0 + 4 ≤ 4)
  · exact (by decide : 0 + 8 ≤ 8)
  · exact (by decide : 0 + 128 ≤ 128)

theorem chk130_of (p : BitVec 32) (h : p.toNat < 16384) : k0_chk130 p := fun a => by
  fin_cases a
  · show p.toNat + 1 ≤ 16384; omega
  · exact (by decide : 0 + 64 ≤ 64)

theorem chk1_v7c [Facts] : k0_chk1 v7c := fun a x => by
  fin_cases a
  show (v7c x).toNat < 16
  rw [← ln_lane x, v7c_ln, BitVec.toNat_ofNat]
  have := (prev (laneOf x)).isLt
  omega

/-- The gather's index vectors at lane `e`: slot, sublane block `q + e / 8`, sublane `e % 8`, column. -/
theorem gi0_v8c (sl : BitVec 32) (x : S16.Idx) : gi0 v8c sl x = sl := by
  show 0#32 + sl = sl
  simp

theorem gi1_v3c [Facts] (q : Fin 2) (x : Fin 16) : (gi1 v3c (BitVec.ofNat 32 (2 * q.val)) (ln x)).toNat = 2 * q.val + x.val / 8 := by
  show (IntOp.addi (BitVec.ofNat 32 (2 * q.val)) (IntOp.shrsi .vector (v3c (ln x)) 3#32)).toNat = _
  rw [v3c_ln]
  revert q x; decide

theorem gi2_v3c [Facts] (x : Fin 16) : (gi2 v3c (ln x)).toNat = x.val % 8 := by
  show (IntOp.andi (v3c (ln x)) 7#32).toNat = _
  rw [v3c_ln]
  revert x; decide

theorem chk34_of [Facts] (q : Fin 2) (sl cl : BitVec 32) (hs : sl.toNat < 16) (hc : cl.toNat < 128) :
    k0_chk34 (gi0 v8c sl) (gi1 v3c (BitVec.ofNat 32 (2 * q.val))) (gi2 v3c) (gi0 v8c cl) := fun a x => by
  fin_cases a
  · show (gi0 v8c sl x).toNat < 16; rw [gi0_v8c]; exact hs
  · show (gi1 v3c (BitVec.ofNat 32 (2 * q.val)) x).toNat < 4
    rw [← ln_lane x, gi1_v3c]
    have h1 := (laneOf x).isLt
    have h2 := q.isLt
    omega
  · show (gi2 v3c x).toNat < 8
    rw [← ln_lane x, gi2_v3c]; omega
  · show (gi0 v8c cl x).toNat < 128; rw [gi0_v8c]; exact hc

theorem later_iff (t : Fin k0_t1_loop.trips) : later t = 1#1 ↔ 0 < t.val := by
  have ht : k0_t1_loop.trips = 32 := by decide
  have h : ∀ n : Fin 32, IntOp.cmpi .ne (BitVec.setWidth 32 (IntOp.cmpi .sgt (Scf.iv 0#32 1#32 n.val) 0#32)) 0#32 = 1#1 ↔ 0 < n.val := by decide
  exact h ⟨t.val, lt_of_lt_of_eq t.isLt ht⟩

end Cert.KernelIdeal.Wave
-- ==== Proof.Geom.lean ====
/- Where the kernel's slices lie, and what they read and write: the table's blocks, the slots, the rows. -/
module

public import proofs.«01_k».proof.Proof.Words

@[expose] public section

noncomputable section

namespace Cert.KernelIdeal.Wave

open Idealize.ShloMosaic Idealize.SL.Sem Cert.KernelIdeal
open Cert.KernelIdeal.Facts₀ Cert.KernelIdeal.Facts

variable {F : FTy → Type} [FloatOps F] [Facts]

abbrev tabM : Memref sig .scVector .hbm S8x8x1000064 .f32 := Memref.whole main_v2_scv
abbrev sidxM : Memref sig .scVector .hbm S16384 .i32 := Memref.whole main_v4_0_scv
abbrev sposM : Memref sig .scVector .hbm S16384 .i32 := Memref.whole main_v4_1_scv
abbrev outM : Memref sig .scVector .hbm S16384x64 .f32 := Memref.whole main_v5_scv
abbrev idxvM : Memref sig .scVector .vmem S512 .i32 := Memref.whole cc0_scratch0
abbrev posvM : Memref sig .scVector .vmem S512 .i32 := Memref.whole cc0_scratch1
abbrev blkvM : Memref sig .scVector .vmem S16 .i32 := Memref.whole cc0_scratch2
abbrev bufM : Memref sig .scVector .vmem S16x4x8x128 .f32 := Memref.whole cc0_scratch3
abbrev rowvM : Memref sig .scVector .vmem S16x64 .f32 := Memref.whole cc0_scratch4

/-- The table at three numbers. -/
def tIx (a b c : ℕ) : S8x8x1000064.Idx
  | 0 => ⟨a % 8, Nat.mod_lt _ (by decide)⟩
  | 1 => ⟨b % 8, Nat.mod_lt _ (by decide)⟩
  | 2 => ⟨c % 1000064, Nat.mod_lt _ (by decide)⟩
  | ⟨_ + 3, h⟩ => absurd h (Nat.not_lt.2 (Nat.le_add_left _ _))

def Tn (T : S8x8x1000064.Idx → F .f32) (a b c : ℕ) : F .f32 := T (tIx a b c)

theorem tIx_self (x : S8x8x1000064.Idx) : tIx (x 0).val (x 1).val (x 2).val = x := by
  funext a
  match a with
  | 0 => exact Fin.ext (Nat.mod_eq_of_lt (x 0).isLt)
  | 1 => exact Fin.ext (Nat.mod_eq_of_lt (x 1).isLt)
  | 2 => exact Fin.ext (Nat.mod_eq_of_lt (x 2).isLt)

/-- A slot of the block buffer, a row of the row buffer, a row of the output. -/
def slotSet (k : ℕ) : Finset S16x4x8x128.Idx := Finset.univ.filter fun x => (x 0).val = k
def rrow (k : ℕ) : Finset S16x64.Idx := Finset.univ.filter fun x => (x 0).val = k
def orow (k : ℕ) : Finset S16384x64.Idx := Finset.univ.filter fun x => (x 0).val = k

theorem mem_slotSet {k : ℕ} {x : S16x4x8x128.Idx} : x ∈ slotSet k ↔ (x 0).val = k := by simp [slotSet]
theorem mem_rrow {k : ℕ} {x : S16x64.Idx} : x ∈ rrow k ↔ (x 0).val = k := by simp [rrow]
theorem mem_orow {k : ℕ} {x : S16384x64.Idx} : x ∈ orow k ↔ (x 0).val = k := by simp [orow]

/-- A slot as a view: the slice at the slot, its leading axis of one dropped. -/
abbrev slotV (off : Fin 4 → ℕ) (inb : ∀ a, off a + S1x4x8x128.size a ≤ S16x4x8x128.size a) : Memref sig .scVector .vmem S4x8x128 .f32 :=
  (bufM.slice (Rect.unit (s := S16x4x8x128) off S1x4x8x128.size inb) (fun _ => rfl)).squeeze S4x8x128 squeezes_S1x4x8x128_S4x8x128

abbrev orowV (off : Fin 2 → ℕ) (inb : ∀ a, off a + S1x64.size a ≤ S16384x64.size a) : Memref sig .scVector .hbm S64 .f32 :=
  (outM.slice (Rect.unit (s := S16384x64) off S1x64.size inb) (fun _ => rfl)).squeeze S64 squeezes_S1x64_S64

theorem slot_set (k : ℕ) (off : Fin 4 → ℕ) (inb) (h : off = ![k, 0, 0, 0]) : (slotV off inb).view.set = slotSet k := by
  subst h
  refine (View.set_reshape _ _).trans ((View.set_slice_whole _ _).trans ?_)
  ext x
  refine Rect.mem_set_unit.trans (Iff.trans ?_ mem_slotSet.symm)
  constructor
  · intro h
    have h0 := h 0
    have e : (![k, 0, 0, 0] : Fin 4 → ℕ) 0 = k := rfl
    have e' : S1x4x8x128.size 0 = 1 := rfl
    rw [e, e'] at h0; omega
  · intro h a
    match a with
    | 0 => exact ⟨h.ge, Nat.lt_succ_of_le h.le⟩
    | 1 => exact ⟨Nat.zero_le _, Nat.lt_of_lt_of_eq (x 1).isLt (Nat.zero_add _).symm⟩
    | 2 => exact ⟨Nat.zero_le _, Nat.lt_of_lt_of_eq (x 2).isLt (Nat.zero_add _).symm⟩
    | 3 => exact ⟨Nat.zero_le _, Nat.lt_of_lt_of_eq (x 3).isLt (Nat.zero_add _).symm⟩

theorem orow_set (k : ℕ) (off : Fin 2 → ℕ) (inb) (h : off = ![k, 0]) : (orowV off inb).view.set = orow k := by
  subst h
  refine (View.set_reshape _ _).trans ((View.set_slice_whole _ _).trans ?_)
  ext x
  refine Rect.mem_set_unit.trans (Iff.trans ?_ mem_orow.symm)
  constructor
  · intro h
    have h0 := h 0
    have e : (![k, 0] : Fin 2 → ℕ) 0 = k := rfl
    have e' : S1x64.size 0 = 1 := rfl
    rw [e, e'] at h0; omega
  · intro h a
    match a with
    | 0 => exact ⟨h.ge, Nat.lt_succ_of_le h.le⟩
    | 1 => exact ⟨Nat.zero_le _, Nat.lt_of_lt_of_eq (x 1).isLt (Nat.zero_add _).symm⟩

theorem rrow_set (l : Fin 16) : (rowM rowvM l).view.set = rrow l.val := by
  refine (View.set_reshape _ _).trans ((View.set_slice_whole _ _).trans ?_)
  ext x
  refine Rect.mem_set_unit.trans (Iff.trans ?_ mem_rrow.symm)
  constructor
  · intro h
    have h0 := h 0
    have e : (![l.val, 0] : Fin 2 → ℕ) 0 = l.val := rfl
    have e' : S1x64.size 0 = 1 := rfl
    rw [e, e'] at h0; omega
  · intro h a
    match a with
    | 0 => exact ⟨h.ge, Nat.lt_succ_of_le h.le⟩
    | 1 => exact ⟨Nat.zero_le _, Nat.lt_of_lt_of_eq (x 1).isLt (Nat.zero_add _).symm⟩

theorem slot_emb (k : ℕ) (off : Fin 4 → ℕ) (inb) (h : off = ![k, 0, 0, 0]) (y : S4x8x128.Idx) (x : S16x4x8x128.Idx)
    (h0 : (x 0).val = k) (hy : ∀ a : Fin 3, (x a.succ).val = (y a).val) : (slotV off inb).view.emb y = x := by
  subst h
  have e1 : (slotV _ inb).view.emb y = (Rect.unit (s := S16x4x8x128) ![k, 0, 0, 0] S1x4x8x128.size inb).emb
      (Shape.reshapeEquiv (s := S1x4x8x128) (s' := S4x8x128) rfl y) := rfl
  have e2 : Shape.reshapeEquiv (s := S1x4x8x128) (s' := S4x8x128) rfl y = Fin.cons ⟨0, Nat.one_pos⟩ y := Shape.reshapeEquiv_cons_one rfl y
  rw [e1, e2]
  refine funext fun a => Fin.ext ((Rect.emb_apply _ _ a).trans (Eq.symm ?_))
  match a with
  | 0 => exact h0
  | 1 => exact (hy 0).trans ((Nat.zero_add _).trans (Nat.one_mul _)).symm
  | 2 => exact (hy 1).trans ((Nat.zero_add _).trans (Nat.one_mul _)).symm
  | 3 => exact (hy 2).trans ((Nat.zero_add _).trans (Nat.one_mul _)).symm

theorem orow_emb (k : ℕ) (off : Fin 2 → ℕ) (inb) (h : off = ![k, 0]) (y : S64.Idx) (x : S16384x64.Idx)
    (h0 : (x 0).val = k) (hy : (x 1).val = (y 0).val) : (orowV off inb).view.emb y = x := by
  subst h
  have e1 : (orowV _ inb).view.emb y = (Rect.unit (s := S16384x64) ![k, 0] S1x64.size inb).emb
      (Shape.reshapeEquiv (s := S1x64) (s' := S64) rfl y) := rfl
  have e2 : Shape.reshapeEquiv (s := S1x64) (s' := S64) rfl y = Fin.cons ⟨0, Nat.one_pos⟩ y := Shape.reshapeEquiv_cons_one rfl y
  rw [e1, e2]
  refine funext fun a => Fin.ext ((Rect.emb_apply _ _ a).trans (Eq.symm ?_))
  match a with
  | 0 => exact h0
  | 1 => exact hy.trans ((Nat.zero_add _).trans (Nat.one_mul _)).symm

theorem rrow_emb (l : Fin 16) (y : S64.Idx) (x : S16x64.Idx)
    (h0 : (x 0).val = l.val) (hy : (x 1).val = (y 0).val) : (rowM rowvM l).view.emb y = x := by
  have e1 : (rowM rowvM l).view.emb y = (Rect.unit (s := S16x64) ![l.val, 0] S1x64.size (inb_orow l)).emb
      (Shape.reshapeEquiv (s := S1x64) (s' := S64) rfl y) := rfl
  have e2 : Shape.reshapeEquiv (s := S1x64) (s' := S64) rfl y = Fin.cons ⟨0, Nat.one_pos⟩ y := Shape.reshapeEquiv_cons_one rfl y
  rw [e1, e2]
  refine funext fun a => Fin.ext ((Rect.emb_apply _ _ a).trans (Eq.symm ?_))
  match a with
  | 0 => exact h0
  | 1 => exact hy.trans ((Nat.zero_add _).trans (Nat.one_mul _)).symm

/-- A block of the table as a view. -/
abbrev tabV (off : Fin 3 → ℕ) (inb : ∀ a, off a + S4x8x128.size a ≤ S8x8x1000064.size a) : Memref sig .scVector .hbm S4x8x128 .f32 :=
  tabM.slice (Rect.unit (s := S8x8x1000064) off S4x8x128.size inb) (fun _ => rfl)

theorem tab_read (a c : ℕ) (off : Fin 3 → ℕ) (inb) (h : off = ![a, 0, c]) (T : S8x8x1000064.Idx → F .f32) (y : S4x8x128.Idx) :
    (tabV off inb).view.read (Elt F) T y = Tn T (a + (y 0).val) (y 1).val (c + (y 2).val) := by
  subst h
  have e1 : (tabV _ inb).view.read (Elt F) T y = T ((Rect.unit (s := S8x8x1000064) ![a, 0, c] S4x8x128.size inb).emb y) := rfl
  have h0 : (((Rect.unit (s := S8x8x1000064) ![a, 0, c] S4x8x128.size inb).emb y) 0).val = a + (y 0).val :=
    (Rect.emb_apply _ _ 0).trans (congrArg (a + ·) (Nat.one_mul _))
  have h1 : (((Rect.unit (s := S8x8x1000064) ![a, 0, c] S4x8x128.size inb).emb y) 1).val = (y 1).val :=
    (Rect.emb_apply _ _ 1).trans ((Nat.zero_add _).trans (Nat.one_mul _))
  have h2 : (((Rect.unit (s := S8x8x1000064) ![a, 0, c] S4x8x128.size inb).emb y) 2).val = c + (y 2).val :=
    (Rect.emb_apply _ _ 2).trans (congrArg (c + ·) (Nat.one_mul _))
  exact e1.trans (congrArg T ((tIx_self _).symm.trans (congr (congr (congrArg tIx h0) h1) h2)))

/-- What a slot's write leaves at an element of the slot. -/
theorem slot_write (k : ℕ) (off : Fin 4 → ℕ) (inb) (h : off = ![k, 0, 0, 0]) (f : S16x4x8x128.Idx → F .f32) (w : S4x8x128.Idx → F .f32)
    (x : S16x4x8x128.Idx) (hx : x ∈ slotSet k) :
    (slotV off inb).view.write (Elt F) f w Finset.univ x = w (fun a => x a.succ) := by
  have e := slot_emb k off inb h (fun a => x a.succ) x (mem_slotSet.mp hx) (fun _ => rfl)
  conv_lhs => rw [← e]
  exact View.write_emb_of_mem _ _ (Finset.mem_univ _)

theorem orow_write (k : ℕ) (off : Fin 2 → ℕ) (inb) (h : off = ![k, 0]) (f : S16384x64.Idx → F .f32) (w : S64.Idx → F .f32)
    (x : S16384x64.Idx) (hx : x ∈ orow k) :
    (orowV off inb).view.write (Elt F) f w Finset.univ x = w (fun | 0 => x 1) := by
  have e := orow_emb k off inb h (fun | 0 => x 1) x (mem_orow.mp hx) rfl
  conv_lhs => rw [← e]
  exact View.write_emb_of_mem _ _ (Finset.mem_univ _)

/-- An element of the row buffer. -/
def rIx (l : Fin 16) (e : Fin 64) : S16x64.Idx
  | 0 => l
  | 1 => e
  | ⟨_ + 2, h⟩ => absurd h (Nat.not_lt.2 (Nat.le_add_left _ _))

theorem rrow_read (l : Fin 16) (f : S16x64.Idx → F .f32) (y : S64.Idx) : (rowM rowvM l).view.read (Elt F) f y = f (rIx l (y 0)) := by
  exact congrArg f (rrow_emb l y (rIx l (y 0)) rfl rfl)

/-- The sixteen elements of a row a store writes. -/
abbrev rcut (l : Fin 16) (e : Fin 4) : Rect S16x64 := Rect.unit (s := S16x64) ![l.val, 16 * e.val] S1x16.size (inb_row l e)

theorem rst_in (l : Fin 16) (e : Fin 4) (f : S16x64.Idx → F .f32) (v : Vec F S16 .f32) (x : S16x64.Idx) (y : Fin 16)
    (h0 : (x 0).val = l.val) (h1 : (x 1).val = 16 * e.val + y.val) :
    (rowvM.access (rcut l e)).write (Elt F) f (shapeCast S1x16 v shapeCasts_S16_S1x16) Finset.univ x = v (ln y) := by
  have hj : (rowvM.access (rcut l e)).emb (Fin.cons (⟨0, Nat.one_pos⟩ : Fin 1) (ln y) : S1x16.Idx) = x := by
    refine funext fun a => Fin.ext ((Rect.emb_apply _ _ a).trans (Eq.symm ?_))
    match a with
    | 0 => exact h0
    | 1 => exact h1.trans (congrArg (16 * e.val + ·) (Nat.one_mul _).symm)
  have e0 : shapeCast S1x16 v shapeCasts_S16_S1x16 (Fin.cons (⟨0, Nat.one_pos⟩ : Fin 1) (ln y) : S1x16.Idx) = v (ln y) := by
    have e2 : Shape.reshapeEquiv (s := S1x16) (s' := S16) rfl (ln y) = Fin.cons ⟨0, Nat.one_pos⟩ (ln y) := Shape.reshapeEquiv_cons_one rfl (ln y)
    have e3 : Shape.reshapeEquiv (s := S16) (s' := S1x16) rfl (Fin.cons (⟨0, Nat.one_pos⟩ : Fin 1) (ln y) : S1x16.Idx) = ln y := by
      have := Shape.reshapeEquiv_reshapeEquiv (s := S16) (s' := S1x16) (s'' := S16) rfl rfl (ln y)
      rw [Shape.reshapeEquiv_self] at this
      exact (congrArg (Shape.reshapeEquiv (s := S16) (s' := S1x16) rfl) e2.symm).trans this
    exact congrArg v e3
  conv_lhs => rw [← hj]
  exact (View.write_emb_of_mem _ _ (Finset.mem_univ _)).trans e0

theorem rst_out (l : Fin 16) (e : Fin 4) (f : S16x64.Idx → F .f32) (v : Vec F S16 .f32) (x : S16x64.Idx)
    (h : (x 0).val = l.val → (x 1).val < 16 * e.val ∨ 16 * e.val + 16 ≤ (x 1).val) :
    (rowvM.access (rcut l e)).write (Elt F) f (shapeCast S1x16 v shapeCasts_S16_S1x16) Finset.univ x = f x := by
  refine View.write_of_not_mem _ _ _ ?_
  rw [View.setOn_univ]
  intro hx
  have hx' := Rect.mem_set_unit.mp ((View.set_slice_whole cc0_scratch4 (rcut l e)) ▸ hx)
  have h0 := hx' 0
  have h1 := hx' 1
  have a0 : (![l.val, 16 * e.val] : Fin 2 → ℕ) 0 = l.val := rfl
  have a1 : (![l.val, 16 * e.val] : Fin 2 → ℕ) 1 = 16 * e.val := rfl
  have b0 : S1x16.size 0 = 1 := rfl
  have b1 : S1x16.size 1 = 16 := rfl
  rw [a0, b0] at h0
  rw [a1, b1] at h1
  have := h (by omega)
  omega

end Cert.KernelIdeal.Wave
-- ==== Proof.Moves.lean ====
/- The rules the kernel's steps are taken by: a batch's next copy off a larger part, a step at every lane. -/
module

public import proofs.«01_k».proof.Proof.Geom
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

variable [FloatOps F]

section
variable {d : Dev nD} {c : Fin τ.nSC} {s : Fin τ.nSub} {α : Type}

/-- A program's run on a vector subcore. -/
abbrev W1 (d : Dev nD) (c : Fin τ.nSC) (s : Fin τ.nSub) {α : Type} (p : TP F c s α) (Q : α → sProp 𝕄) : sProp 𝕄 :=
  wp frame (wpE (defs₀ (F := F)) 𝒱₀ (V d c s) none) Set.univ p Q

/-- A batch's next copy, the source held at a larger part, all of which the copy's record keeps. -/
theorem issue {sp sp' : Space} {s₀ : Shape} {e₀ : EltTy} {n : ℕ}
    {src : Memref sig .scVector sp s₀ e₀} {dst : Memref sig .scVector sp' s₀ e₀} {sm : SemLoc sig}
    {hsrc : src.view.WordExact} {hdst : dst.view.WordExact}
    {hsem : DmaTarget.Typed (nD := nD) (τ := τ) (p := .scVector c s) sp sm (.here dst)}
    {k : PUnit → TP F c s α} {Q : α → sProp 𝕄} {q : PosShare TreeShare} {fs : Buf (Elt F) (src.view.loc (V d c s))}
    {Ss : Finset (Idx (src.view.loc (V d c s)))} {Sd : Finset (Idx (dst.view.loc (V d c s)))} {fd : Buf (Elt F) (dst.view.loc (V d c s))}
    {D : Fin n → sProp 𝕄} {j : ℕ} (N : ℕ) (hN : dst.view.amount sm = N) (hSs : src.view.set ⊆ Ss) (hSd : dst.view.set ⊆ Sd) (hj : j < n)
    (hD : iprop((dst.view.loc (V d c s) ↦[Sd]{fullShare} (dst.view.write (Elt F) fd (src.view.read (Elt F) fs) Finset.univ))
              ∗ (src.view.loc (V d c s) ↦[Ss]{q} fs)) ⊢ D ⟨j, hj⟩) :
    iprop((src.view.loc (V d c s) ↦[Ss]{q} fs) ∗ (dst.view.loc (V d c s) ↦[Sd]{fullShare} fd) ∗ Batch EC (V d c s) sm none N D j 0)
      ⊢ iprop((Batch EC (V d c s) sm none N D (j + 1) 0 -∗ W1 d c s (k ⟨⟩) Q)
          -∗ W1 d c s (.op (.enqueueDma src (.here dst) sm hsrc hdst hsem) k) Q) := by
  unfold Batch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := (pointsTo_split_subset hSs).1 $$ Hs
  icases Hs' with ⟨Hs, Hrest⟩
  iapply (wp_enqueueDmaAs 𝒱₀ (V d c s) none Set.univ none N hN) $$ [Hs Hd] [Ht Hrest]
  · isplitl [Hs]; · iexact Hs
    iapply (pointsTo_writeUpdate (V d c s) hSd) $$ Hd
  · iapply (batch_creditUpdate_with EC (D := D) (γ := γ) (γ₀ := γ₀) ⟨j, hj⟩ (put := (src.view.loc (V d c s) ↦[Ss \ src.view.set]{q} fs)) (by
      refine BIBase.Entails.trans ?_ hD
      iintro ⟨Hr, Hw, Hs⟩
      isplitl [Hw]; · iexact Hw
      iapply (pointsTo_split_subset hSs).2
      isplitl [Hs] <;> iassumption))
    isplitr; · iexact Hinv
    isplitl [Ht] <;> iassumption
  iintro Hcred'
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-- A step at every lane: what holds before a lane's step and after it, from the first to the last. -/
theorem forL_wp (I : ℕ → sProp 𝕄) (f : Fin 16 → TP F c s PUnit) {Q : α → sProp 𝕄} {k : PUnit → TP F c s α}
    (step : ∀ (l : Fin 16) (k' : PUnit → TP F c s α), I l.val ⊢ iprop((I (l.val + 1) -∗ W1 d c s (k' ⟨⟩) Q) -∗ W1 d c s (f l >>= k') Q)) :
    I 0 ⊢ iprop((I 16 -∗ W1 d c s (k ⟨⟩) Q) -∗ W1 d c s (forL lanes f >>= k) Q) := by
  have cons : ∀ (l : Fin 16) (ls : List (Fin 16)), (I (l.val + 1) ⊢ iprop((I 16 -∗ W1 d c s (k ⟨⟩) Q) -∗ W1 d c s (forL ls f >>= k) Q)) →
      (I l.val ⊢ iprop((I 16 -∗ W1 d c s (k ⟨⟩) Q) -∗ W1 d c s (forL (l :: ls) f >>= k) Q)) := by
    intro l ls h
    rw [forL_cons]
    iintro HI Hk
    iapply (step l) $$ HI
    iintro HI
    iapply h $$ HI Hk
  have nil : I 16 ⊢ iprop((I 16 -∗ W1 d c s (k ⟨⟩) Q) -∗ W1 d c s (forL [] f >>= k) Q) := by
    rw [forL_nil]
    iintro HI Hk
    iapply Hk $$ HI
  unfold lanes
  exact cons 0 _ <| cons 1 _ <| cons 2 _ <| cons 3 _ <| cons 4 _ <| cons 5 _ <| cons 6 _ <| cons 7 _ <| cons 8 _ <| cons 9 _ <| cons 10 _ <|
    cons 11 _ <| cons 12 _ <| cons 13 _ <| cons 14 _ <| cons 15 _ nil

end

end Cert.KernelIdeal.Wave
-- ==== Proof.Blocks.lean ====
/- The copies of a wave's blocks: a lane that is the first of its block starts one, and as many are waited for. -/
module

public import proofs.«01_k».proof.Proof.Moves

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

section
variable {d : Dev nD} {c : Fin τ.nSC} {s : Fin τ.nSub} {α : Type}

abbrev tabL (d : Dev nD) (c : Fin τ.nSC) (s : Fin τ.nSub) : Loc nD τ sig := tabM.view.loc (V d c s)
abbrev outL (d : Dev nD) (c : Fin τ.nSC) (s : Fin τ.nSub) : Loc nD τ sig := outM.view.loc (V d c s)
abbrev bufL (d : Dev nD) (c : Fin τ.nSC) (s : Fin τ.nSub) : Loc nD τ sig := bufM.view.loc (V d c s)
abbrev rowL (d : Dev nD) (c : Fin τ.nSC) (s : Fin τ.nSub) : Loc nD τ sig := rowvM.view.loc (V d c s)

/-- What a copy of a block credits, and a copy of a row. -/
def NT : ℕ := (slotV ![0, 0, 0, 0] inb_S16x4x8x128_S1x4x8x128_0_0_0_0).view.dmaCredit
def NO : ℕ := (orowV ![0, 0] inb_S16384x64_S1x64_0_0).view.dmaCredit
theorem NT_pos : 0 < NT := View.dmaCredit_pos _ (by decide)
theorem NO_pos : 0 < NO := View.dmaCredit_pos _ (by decide)

/-- What the slots hold once the blocks have come: half `h` of the block of the slot's first lane. -/
def Gbuf (T : S8x8x1000064.Idx → F .f32) (w : IVec S16 32) (h : ℕ) : S16x4x8x128.Idx → F .f32 := fun x =>
  Tn T (4 * h + (x 1).val) (x 2).val ((w (ln (lead w (x 0).val))).toNat / 128 * 128 + (x 3).val)

/-- What the copy to slot `i` delivers. -/
def DT (d : Dev nD) (c : Fin τ.nSC) (s : Fin τ.nSub) (q : PosShare TreeShare) (T : S8x8x1000064.Idx → F .f32) (w : IVec S16 32) (h : ℕ)
    (i : Fin (cnt w 16)) : sProp 𝕄 :=
  iprop((bufL d c s ↦[slotSet i.val]{fullShare} Gbuf T w h) ∗ (tabL d c s ↦{shareTok q (cnt w 16) i} T))

instance (q : PosShare TreeShare) (T : S8x8x1000064.Idx → F .f32) (w : IVec S16 32) (h : ℕ) (i : Fin (cnt w 16)) :
    BI.Storable (upEmb : UEmb _ 𝕄) (DT (F := F) d c s q T w h i) := by unfold DT; infer_instance

/-- The slots from `k` on. -/
def slotsFrom (k : ℕ) : Finset S16x4x8x128.Idx := Finset.univ.filter fun x => k ≤ (x 0).val

theorem slotsFrom_zero : slotsFrom 0 = Finset.univ := Finset.filter_true_of_mem fun _ _ => Nat.zero_le _
theorem slotSet_sub (k : ℕ) : slotSet k ⊆ slotsFrom k := fun x hx => by
  simp only [slotsFrom, Finset.mem_filter, Finset.mem_univ, true_and]; exact (mem_slotSet.mp hx).ge
theorem slotsFrom_sdiff (k : ℕ) : slotsFrom k \ slotSet k = slotsFrom (k + 1) := by
  ext x; simp only [slotsFrom, slotSet, Finset.mem_sdiff, Finset.mem_filter, Finset.mem_univ, true_and]; omega

/-- Before lane `j`'s start: the copies of the blocks begun so far, the slots and the table's shares still to be used. -/
def IS (d : Dev nD) (c : Fin τ.nSC) (s : Fin τ.nSub) (q : PosShare TreeShare) (T : S8x8x1000064.Idx → F .f32) (w : IVec S16 32) (h : ℕ)
    (f : S16x4x8x128.Idx → F .f32) (j : ℕ) : sProp 𝕄 :=
  iprop(Batch EC (V d c s) (.dma cc0_scratch5.sem) none NT (DT d c s q T w h) (cnt w j) 0
    ∗ (bufL d c s ↦[slotsFrom (cnt w j)]{fullShare} f)
    ∗ bigSep (pending (cnt w j)) fun i : Fin (cnt w 16) => tabL d c s ↦{shareTok q (cnt w 16) i} T)

theorem put_slot {q : PosShare TreeShare} {T : S8x8x1000064.Idx → F .f32} {w : IVec S16 32} {h : ℕ} {f : S16x4x8x128.Idx → F .f32}
    {l : Fin 16} (hn : isNew w l) {off4 : Fin 3 → ℕ} {inb4} (ho4 : off4 = ![4 * h, 0, (w (ln l)).toNat / 128 * 128])
    {off3 : Fin 4 → ℕ} {inb3} (ho3 : off3 = ![cnt w l.val, 0, 0, 0]) {hsrc : (tabV off4 inb4).view.WordExact} {hdst : (slotV off3 inb3).view.WordExact}
    {hsem} {Q : α → sProp 𝕄} {k : PUnit → TP F c s α} :
    IS d c s q T w h f l.val ⊢ iprop((IS d c s q T w h f (l.val + 1) -∗ W1 d c s (k ⟨⟩) Q)
      -∗ W1 d c s (.op (.enqueueDma (tabV off4 inb4) (.here (slotV off3 inb3)) (.dma cc0_scratch5.sem) hsrc hdst hsem) k) Q) := by
  have hlt : cnt w l.val < cnt w 16 := by
    have h1 := cnt_new hn
    have h2 := cnt_mono w (show l.val + 1 ≤ 16 by omega)
    omega
  unfold IS
  rw [cnt_new hn]
  iintro ⟨HB, Hbuf, Hts⟩ Hk
  ihave Hts' := (show bigSep (pending (cnt w l.val)) (fun i : Fin (cnt w 16) => tabL d c s ↦{shareTok q (cnt w 16) i} T)
      ⊢ (iprop((tabL d c s ↦{shareTok q (cnt w 16) ⟨cnt w l.val, hlt⟩} T)
        ∗ bigSep (pending (cnt w l.val + 1)) (fun i : Fin (cnt w 16) => tabL d c s ↦{shareTok q (cnt w 16) i} T)) : sProp 𝕄)
    from Entails.of_eq (by rw [pending_succ hlt, bigSep_insert (not_mem_pending_succ hlt)]; rfl)) $$ Hts
  icases Hts' with ⟨Ht, Hts⟩
  ihave Hb' := (pointsTo_split_subset (slotSet_sub (cnt w l.val))).1 $$ Hbuf
  icases Hb' with ⟨Hs, Hbuf⟩
  iapply (issue (src := tabV off4 inb4) (dst := slotV off3 inb3) (n := cnt w 16) (D := DT d c s q T w h) (j := cnt w l.val)
    (Ss := Finset.univ) (Sd := slotSet (cnt w l.val)) (q := shareTok q (cnt w 16) ⟨cnt w l.val, hlt⟩) (fs := T) (fd := f)
    NT rfl (Finset.subset_univ _) (slot_set _ _ _ ho3).le hlt ?_) $$ [HB Hs Ht]
  · unfold DT
    refine sep_mono (Entails.of_eq (pointsTo_congr fun x hx => ?_)) .rfl
    refine (slot_write _ _ _ ho3 _ _ x hx).trans ((tab_read _ _ _ _ ho4 _ _).trans ?_)
    unfold Gbuf
    rw [show (x 0).val = cnt w l.val from mem_slotSet.mp hx, lead_new hn]
    rfl
  · isplitl [Ht]; · iexact Ht
    isplitl [Hs]; · iexact Hs
    iexact HB
  iintro HB
  iapply Hk
  isplitl [HB]; · iexact HB
  rw [← slotsFrom_sdiff]
  isplitl [Hbuf] <;> iassumption

/-- The words a wave starts by: its indices in range, and which lanes are the first of their blocks. -/
structure Ok (w v : IVec S16 32) : Prop where
  lt : ∀ l, (w (ln l)).toNat < 1000000
  new : ∀ l, v (ln l) = BitVec.ofNat 32 (if isNew w l then 1 else 0)

theorem start0_wp {q : PosShare TreeShare} {T : S8x8x1000064.Idx → F .f32} {w v : IVec S16 32} (hok : Ok w v) {f : S16x4x8x128.Idx → F .f32}
    {Q : α → sProp 𝕄} (l : Fin 16) (k : PUnit → TP F c s α) :
    IS d c s q T w 0 f l.val ⊢ iprop((IS d c s q T w 0 f (l.val + 1) -∗ W1 d c s (k ⟨⟩) Q)
      -∗ W1 d c s (start0 tabM bufM cc0_scratch5 (ext v l) (ext w l) (ext (slotOf v) l) >>= k) Q) := by
  rw [ext_eq, ext_eq, ext_eq, hok.new]
  unfold start0
  have hs := slotOf_toNat v w hok.new l
  by_cases hn : isNew w l
  · rw [dif_pos ((cond1_iff w l).mpr hn)]
    iintro HI Hk
    iapply (wp_assume 𝒱₀ (V d c s) none Set.univ (chk2_of _ _ (hok.lt l)))
    iapply (wp_assume 𝒱₀ (V d c s) none Set.univ (chk3_of _ _ (hs.trans_lt (slot_lt16 w l))))
    iapply (put_slot hn (off4_eq _) (show k0_off3 _ = _ from by rw [show k0_off3 (slotOf v (ln l)) = ![(slotOf v (ln l)).toNat, 0, 0, 0] from rfl, hs, slot_new hn])) $$ HI Hk
  · rw [dif_neg (mt (cond1_iff w l).mp hn)]
    unfold IS
    rw [cnt_old hn]
    iintro HI Hk
    iapply Hk $$ HI

theorem start1_wp {q : PosShare TreeShare} {T : S8x8x1000064.Idx → F .f32} {w v : IVec S16 32} (hok : Ok w v) {f : S16x4x8x128.Idx → F .f32}
    {Q : α → sProp 𝕄} (l : Fin 16) (k : PUnit → TP F c s α) :
    IS d c s q T w 1 f l.val ⊢ iprop((IS d c s q T w 1 f (l.val + 1) -∗ W1 d c s (k ⟨⟩) Q)
      -∗ W1 d c s (start1 tabM bufM cc0_scratch5 (ext v l) (ext w l) (ext (slotOf v) l) >>= k) Q) := by
  rw [ext_eq, ext_eq, ext_eq, hok.new]
  unfold start1
  have hs := slotOf_toNat v w hok.new l
  by_cases hn : isNew w l
  · rw [dif_pos ((cond34_iff w l).mpr hn)]
    iintro HI Hk
    iapply (wp_assume 𝒱₀ (V d c s) none Set.univ (chk66_of _ _ (hok.lt l)))
    iapply (wp_assume 𝒱₀ (V d c s) none Set.univ (chk67_of _ _ (hs.trans_lt (slot_lt16 w l))))
    iapply (put_slot hn (off36_eq _) (show k0_off35 _ = _ from by rw [show k0_off35 (slotOf v (ln l)) = ![(slotOf v (ln l)).toNat, 0, 0, 0] from rfl, hs, slot_new hn])) $$ HI Hk
  · rw [dif_neg (mt (cond34_iff w l).mp hn)]
    unfold IS
    rw [cnt_old hn]
    iintro HI Hk
    iapply Hk $$ HI

/-- What the thread owes, with waits added that no handshake counts. -/
def owesUp (d : Dev nD) (c : Fin τ.nSC) (s : Fin τ.nSub) (O : CellTallies nD τ sig (HIx 1)) (W : Waits sig (HIx 1)) : sProp 𝕄 :=
  iprop(∃ W', ⌜∀ p ∈ W', p ∈ W ∨ p.2 = none⌝ ∗ owes (V d c s) O W')

/-- The blocks' copies all begun, none waited for. -/
def Mid (d : Dev nD) (c : Fin τ.nSC) (s : Fin τ.nSub) (q : PosShare TreeShare) (T : S8x8x1000064.Idx → F .f32) (w : IVec S16 32) (h : ℕ) : sProp 𝕄 :=
  iprop(Batch EC (V d c s) (.dma cc0_scratch5.sem) none NT (DT d c s q T w h) (cnt w 16) 0
    ∗ (∃ f, bufL d c s ↦[slotsFrom (cnt w 16)]{fullShare} f) ∗ (tabL d c s ↦{shareDrop q (cnt w 16)} T))

theorem start_of {q : PosShare TreeShare} {T : S8x8x1000064.Idx → F .f32} {w : IVec S16 32} {h : ℕ} {f : S16x4x8x128.Idx → F .f32}
    {f0 : Fin 16 → TP F c s PUnit} {Q : α → sProp 𝕄}
    (step : ∀ (l : Fin 16) (k' : PUnit → TP F c s α), IS d c s q T w h f l.val ⊢ iprop((IS d c s q T w h f (l.val + 1) -∗ W1 d c s (k' ⟨⟩) Q) -∗ W1 d c s (f0 l >>= k') Q))
    (k : PUnit → TP F c s α) :
    iprop((tabL d c s ↦{q} T) ∗ semVal (V d c s, SemLoc.dma cc0_scratch5.sem) 0 ∗ (bufL d c s ↦{fullShare} f))
      ⊢ iprop((Mid d c s q T w h -∗ W1 d c s (k ⟨⟩) Q) -∗ W1 d c s (forL lanes f0 >>= k) Q) := by
  iintro ⟨Ht, Hsem, Hb⟩ Hk
  imod (batch_alloc' EC (V d c s) none NT (DT d c s q T w h) (E := Set.univ)) $$ Hsem with HB
  ihave Ht' := (pointsTo_toks q (cnt w 16)).1 $$ Ht
  icases Ht' with ⟨Hdrop, Ht⟩
  iapply (forL_wp (IS d c s q T w h f) f0 step) $$ [HB Hb Ht]
  · unfold IS
    rw [show cnt w 0 = 0 from rfl, slotsFrom_zero, pending_zero]
    isplitl [HB]; · iexact HB
    isplitl [Hb] <;> iassumption
  iintro HI
  iapply Hk
  unfold IS Mid
  icases HI with ⟨HB, Hb, -⟩
  isplitl [HB]; · iexact HB
  isplitl [Hb]; · iexists f; iexact Hb
  iexact Hdrop

theorem wait0_wp {q : PosShare TreeShare} {T : S8x8x1000064.Idx → F .f32} {w v : IVec S16 32} (hok : Ok w v) {h : ℕ}
    {O : CellTallies nD τ sig (HIx 1)} {W : Waits sig (HIx 1)} {Q : α → sProp 𝕄} (l : Fin 16) (k : PUnit → TP F c s α) :
    iprop(Batch EC (V d c s) (.dma cc0_scratch5.sem) none NT (DT (F := F) d c s q T w h) (cnt w 16) (NT * cnt w l.val) ∗ owesUp d c s O W ∗ MayWaits (V d c s) none O)
      ⊢ iprop((iprop(Batch EC (V d c s) (.dma cc0_scratch5.sem) none NT (DT (F := F) d c s q T w h) (cnt w 16) (NT * cnt w (l.val + 1)) ∗ owesUp d c s O W ∗ MayWaits (V d c s) none O)
          -∗ W1 d c s (k ⟨⟩) Q)
      -∗ W1 d c s (wait0 tabM bufM cc0_scratch5 (ext v l) >>= k) Q) := by
  rw [ext_eq, hok.new]
  unfold wait0
  by_cases hn : isNew w l
  · rw [if_pos ((cond1_iff w l).mpr hn), cnt_new hn]
    unfold owesUp
    iintro ⟨HB, ⟨%W', %hW', HO⟩, #HM⟩ Hk
    have hle : NT * cnt w l.val + 1 * NT ≤ NT * cnt w 16 := by
      have h1 := cnt_new hn
      have h2 := cnt_mono w (show l.val + 1 ≤ 16 by omega)
      rw [Nat.one_mul, ← Nat.mul_succ]
      exact Nat.mul_le_mul_left _ (by omega)
    iapply (wp_waitBatchMulO EC 𝒱₀ (V d c s) none none 1 (D := DT d c s q T w h) (N := NT) (Nat.one_mul _).symm hle (O := O) (W := W')) $$ [HB HO]
    · isplitl [HB]; · iexact HB
      isplitl [HO]; · iexact HO
      iapply (MayWaits.elim (.dma cc0_scratch5.sem)); iexact HM
    iintro ⟨HB, HO⟩
    iapply Hk
    rw [show NT * cnt w l.val + 1 * NT = NT * (cnt w l.val + 1) by rw [Nat.one_mul, Nat.mul_succ]]
    isplitl [HB]; · iexact HB
    isplitl [HO]
    · iexists insert (SemLoc.dma cc0_scratch5.sem, none) W'
      isplitr
      · ipureintro
        intro p hp
        rcases Finset.mem_insert.mp hp with h | hp
        · exact .inr (by rw [h])
        · exact hW' p hp
      · iexact HO
    · iexact HM
  · rw [if_neg (mt (cond1_iff w l).mp hn), cnt_old hn]
    iintro HI Hk
    iapply Hk $$ HI

/-- The slots in use hold their blocks' half `h`. -/
def bufOK (T : S8x8x1000064.Idx → F .f32) (w : IVec S16 32) (h : ℕ) (f : S16x4x8x128.Idx → F .f32) : Prop :=
  ∀ x : S16x4x8x128.Idx, (x 0).val < cnt w 16 → f x = Gbuf T w h x

/-- Parts of one array at contents `G`, and the rest of it at any contents. -/
theorem parts_join {ℓ : Loc nD τ sig} {n : ℕ} (K : Fin n → Finset (Idx ℓ)) (R : Finset (Idx ℓ)) (G f : Buf (Elt F) ℓ)
    (hd : ∀ i j, i ≠ j → Disjoint (K i) (K j)) (hR : ∀ i, Disjoint (K i) R) (hu : ∀ x, (∃ i, x ∈ K i) ∨ x ∈ R) :
    iprop((bigSep Finset.univ fun i => ℓ ↦[K i]{fullShare} G) ∗ (ℓ ↦[R]{fullShare} f))
      ⊢ (iprop(∃ f', ⌜∀ i, ∀ x ∈ K i, f' x = G x⌝ ∗ (ℓ ↦{fullShare} f')) : sProp 𝕄) := by
  have hdj : Disjoint (Finset.univ.biUnion K) R := Finset.disjoint_left.mpr fun x hx hx' => by
    obtain ⟨i, -, hi⟩ := Finset.mem_biUnion.mp hx
    exact Finset.disjoint_left.mp (hR i) hi hx'
  have hun : Finset.univ.biUnion K ∪ R = Finset.univ := Finset.eq_univ_of_forall fun x => by
    rcases hu x with ⟨i, hi⟩ | hx
    · exact Finset.mem_union_left _ (Finset.mem_biUnion.mpr ⟨i, Finset.mem_univ _, hi⟩)
    · exact Finset.mem_union_right _ hx
  rw [← pointsTo_biUnion (ℓ := ℓ) (q := fullShare) (f := G) Finset.univ K (fun t _ t' _ hne => hd t t' hne)]
  refine (pointsTo_join hdj).trans ?_
  rw [hun]
  iintro H
  iexists R.piecewise f G
  isplitr
  · ipureintro
    intro i x hx
    exact Finset.piecewise_eq_of_notMem _ _ _ (Finset.disjoint_left.mp (hR i) hx)
  · iexact H

theorem slots_join (d : Dev nD) (c : Fin τ.nSC) (s : Fin τ.nSub) (T : S8x8x1000064.Idx → F .f32) (w : IVec S16 32) (h : ℕ) (f : S16x4x8x128.Idx → F .f32) :
    iprop((bigSep Finset.univ fun i : Fin (cnt w 16) => bufL d c s ↦[slotSet i.val]{fullShare} Gbuf T w h) ∗ (bufL d c s ↦[slotsFrom (cnt w 16)]{fullShare} f))
      ⊢ (iprop(∃ f', ⌜bufOK T w h f'⌝ ∗ (bufL d c s ↦{fullShare} f')) : sProp 𝕄) := by
  refine (parts_join (ℓ := bufL d c s) (fun i : Fin (cnt w 16) => slotSet i.val) (slotsFrom (cnt w 16)) (Gbuf T w h) f ?_ ?_ ?_).trans ?_
  · intro t t' hne
    rw [Finset.disjoint_left]
    intro x hx hx'
    exact hne (Fin.ext ((mem_slotSet.mp hx).symm.trans (mem_slotSet.mp hx')))
  · intro i
    rw [Finset.disjoint_left]
    intro x hx hx'
    have h1 := mem_slotSet.mp hx
    have h2 : cnt w 16 ≤ (x 0).val := (Finset.mem_filter.mp hx').2
    have := i.isLt
    omega
  · intro x
    by_cases hx : (x 0).val < cnt w 16
    · exact .inl ⟨⟨_, hx⟩, mem_slotSet.mpr rfl⟩
    · exact .inr (Finset.mem_filter.mpr ⟨Finset.mem_univ _, Nat.le_of_not_lt hx⟩)
  · iintro ⟨%f', %hf, H⟩
    iexists f'
    isplitr
    · ipureintro
      intro x hx
      exact hf ⟨_, hx⟩ x (mem_slotSet.mpr rfl)
    · iexact H

theorem waits_wp {q : PosShare TreeShare} {T : S8x8x1000064.Idx → F .f32} {w v : IVec S16 32} (hok : Ok w v) {h : ℕ}
    {O : CellTallies nD τ sig (HIx 1)} {W : Waits sig (HIx 1)} {Q : α → sProp 𝕄} (k : PUnit → TP F c s α) :
    iprop(Mid (F := F) d c s q T w h ∗ owesUp d c s O W ∗ MayWaits (V d c s) none O)
      ⊢ iprop((iprop((tabL d c s ↦{q} T) ∗ semVal (V d c s, SemLoc.dma cc0_scratch5.sem) 0 ∗ (∃ f, ⌜bufOK T w h f⌝ ∗ (bufL d c s ↦{fullShare} f)) ∗ owesUp d c s O W)
          -∗ W1 d c s (k ⟨⟩) Q)
      -∗ W1 d c s (forL lanes (fun l => wait0 tabM bufM cc0_scratch5 (ext v l)) >>= k) Q) := by
  unfold Mid
  iintro ⟨⟨HB, ⟨%f, Hb⟩, Hdrop⟩, HO, #HM⟩ Hk
  iapply (forL_wp (fun j => iprop(Batch EC (V d c s) (.dma cc0_scratch5.sem) none NT (DT (F := F) d c s q T w h) (cnt w 16) (NT * cnt w j) ∗ owesUp d c s O W ∗ MayWaits (V d c s) none O))
    _ (fun l k' => wait0_wp hok l k')) $$ [HB HO]
  · rw [show cnt w 0 = 0 from rfl, Nat.mul_zero]
    isplitl [HB]; · iexact HB
    isplitl [HO]; · iexact HO
    iexact HM
  iintro ⟨HB, HO, -⟩
  imod (batch_collect' EC (V d c s) NT_pos) $$ HB with ⟨HD, Hsem⟩
  iapply Hk
  unfold DT
  ihave HD := (Entails.of_eq (bigSep_sep' _ _ _)) $$ HD
  icases HD with ⟨Hs, Ht⟩
  isplitl [Hdrop Ht]
  · iapply (pointsTo_toks q (cnt w 16)).2
    isplitl [Hdrop] <;> iassumption
  isplitl [Hsem]; · iexact Hsem
  isplitl [Hs Hb]
  · iapply (slots_join d c s T w h f)
    isplitl [Hs] <;> iassumption
  iexact HO

end

end Cert.KernelIdeal.Wave
-- ==== Proof.Rows.lean ====
/- The wave's rows: gathered from the slots sixteen elements at a time, then copied to their rows of the output. -/
module

public import proofs.«01_k».proof.Proof.Blocks

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

section
variable {d : Dev nD} {c : Fin τ.nSC} {s : Fin τ.nSub} {α : Type}

/-- What the row buffer is to hold: at lane `l` and column `e`, the element of the table at the lane's index. -/
def Rv (T : S8x8x1000064.Idx → F .f32) (w : IVec S16 32) : S16x64.Idx → F .f32 := fun x =>
  Tn T ((x 1).val / 8) ((x 1).val % 8) (w (ln ⟨(x 0).val, (x 0).isLt⟩)).toNat

/-- The quarters before `e` are gathered, and of quarter `e` the lanes before `j`. -/
def rowDone (T : S8x8x1000064.Idx → F .f32) (w : IVec S16 32) (e j : ℕ) (fr : S16x64.Idx → F .f32) : Prop :=
  ∀ x : S16x64.Idx, ((x 1).val < 16 * e ∨ ((x 1).val < 16 * e + 16 ∧ (x 0).val < j)) → fr x = Rv T w x

theorem gath_val {T : S8x8x1000064.Idx → F .f32} {w v : IVec S16 32} (hok : Ok w v) {h : ℕ} {fb : S16x4x8x128.Idx → F .f32} (hb : bufOK T w h fb)
    (q : Fin 2) (e : Fin 4) (he : e.val = 2 * h + q.val) (l y : Fin 16)
    (hh : ∀ (a : Fin S16x4x8x128.rank) (x : S16.Idx), (![gi0 v8c (slotOf v (ln l)), gi1 v3c (BitVec.ofNat 32 (2 * q.val)), gi2 v3c, gi0 v8c (rcol w (ln l))] a x).toNat < S16x4x8x128.size a)
    (x : S16x64.Idx) (h0 : (x 0).val = l.val) (h1 : (x 1).val = 16 * e.val + y.val) :
    loadIdx (s := S16x4x8x128) (t := S16) ((bufM.access (.whole S16x4x8x128)).read (Elt F) fb)
      ![gi0 v8c (slotOf v (ln l)), gi1 v3c (BitVec.ofNat 32 (2 * q.val)), gi2 v3c, gi0 v8c (rcol w (ln l))] hh (ln y) = Rv T w x := by
  have hr : (bufM.access (.whole S16x4x8x128)).read (Elt F) fb = fb := by
    funext z
    exact congrArg fb (funext fun a => Fin.ext ((Rect.emb_apply _ _ a).trans ((Nat.zero_add _).trans (Nat.one_mul _))))
  rw [hr]
  unfold loadIdx
  generalize hz : idxAt (s := S16x4x8x128) (t := S16) ![gi0 v8c (slotOf v (ln l)), gi1 v3c (BitVec.ofNat 32 (2 * q.val)), gi2 v3c, gi0 v8c (rcol w (ln l))] hh (ln y) = z
  have z0 : (z 0).val = slot w l := by
    rw [← hz]
    show (gi0 v8c (slotOf v (ln l)) (ln y)).toNat = _
    rw [gi0_v8c, slotOf_toNat v w hok.new]
  have z1 : (z 1).val = 2 * q.val + y.val / 8 := by rw [← hz]; exact gi1_v3c q y
  have z2 : (z 2).val = y.val % 8 := by rw [← hz]; exact gi2_v3c y
  have z3 : (z 3).val = (w (ln l)).toNat % 128 := by
    rw [← hz]
    show (gi0 v8c (rcol w (ln l)) (ln y)).toNat = _
    rw [gi0_v8c, rcol_toNat]
  rw [hb z (by rw [z0]; exact slot_lt w l)]
  unfold Gbuf Rv
  have hl : (⟨(x 0).val, (x 0).isLt⟩ : Fin 16) = l := Fin.ext h0
  have hblk : (w (ln (lead w (slot w l)))).toNat / 128 = (w (ln l)).toNat / 128 := lead_slot w l
  rw [z0, z1, z2, z3, h1, hl, hblk]
  have e1 : 4 * h + (2 * q.val + y.val / 8) = (16 * e.val + y.val) / 8 := by omega
  have e2 : y.val % 8 = (16 * e.val + y.val) % 8 := by omega
  have e3 : (w (ln l)).toNat / 128 * 128 + (w (ln l)).toNat % 128 = (w (ln l)).toNat := by omega
  rw [e1, e3, ← e2]

theorem gstep_bind (v3 v8 v145 v160 : IVec S16 32) (q : BitVec 32) (e : Fin 4) (l : Fin 16) (k : PUnit → TP F c s α) :
    gstep bufM rowvM v3 v8 v145 v160 q e l >>= k =
      Prog.lift (TpuEff.assume (k0_chk34 (gi0 v8 (ext v160 l)) (gi1 v3 q) (gi2 v3) (gi0 v8 (ext v145 l))) (k0_chk34.dec _ _ _ _)) >>= fun hw =>
        SparseCore.vectorLoadIdx bufM ![gi0 v8 (ext v160 l), gi1 v3 q, gi2 v3, gi0 v8 (ext v145 l)] (k0_idx2_inb _ _ _ _ hw.down) (View.loads_vmem h_S16x4x8x128) >>= fun x =>
          rload rowvM l e >>= fun _ => rstore rowvM l e x >>= k := by
  unfold gstep gath
  simp only [bindA]

theorem gstep_wp {T : S8x8x1000064.Idx → F .f32} {w v : IVec S16 32} (hok : Ok w v) {h : ℕ} {fb : S16x4x8x128.Idx → F .f32} (hb : bufOK T w h fb)
    (q : Fin 2) (e : Fin 4) (he : e.val = 2 * h + q.val) {Q : α → sProp 𝕄} (l : Fin 16) (k : PUnit → TP F c s α) :
    iprop((bufL d c s ↦{fullShare} fb) ∗ ∃ fr, ⌜rowDone T w e.val l.val fr⌝ ∗ (rowL d c s ↦{fullShare} fr))
      ⊢ iprop((iprop((bufL d c s ↦{fullShare} fb) ∗ ∃ fr, ⌜rowDone T w e.val (l.val + 1) fr⌝ ∗ (rowL d c s ↦{fullShare} fr)) -∗ W1 d c s (k ⟨⟩) Q)
      -∗ W1 d c s (gstep bufM rowvM v3c v8c (rcol w) (slotOf v) (BitVec.ofNat 32 (2 * q.val)) e l >>= k) Q) := by
  have hs := slotOf_toNat v w hok.new l
  rw [gstep_bind]
  rw [ext_eq, ext_eq]
  iintro ⟨Hb, ⟨%fr, %hfr, Hr⟩⟩ Hk
  iapply (wp_assume 𝒱₀ (V d c s) none Set.univ (chk34_of q (slotOf v (ln l)) (rcol w (ln l)) (hs.trans_lt (slot_lt16 w l)) (by rw [rcol_toNat]; exact Nat.mod_lt _ (by decide))))
  iapply (SparseCore.wp_vectorLoadIdx 𝒱₀ (V d c s) none Set.univ (base := bufM) (hl := View.loads_vmem h_S16x4x8x128) (f := fb) (q := fullShare) (S := Finset.univ) (Finset.subset_univ _)) $$ Hb
  iintro Hb
  iapply (wp_load 𝒱₀ (V d c s) none Set.univ (m := rowvM) (r := (rcut l e).toLoadRect) (f := fr) (q := fullShare) (S := Finset.univ) (Finset.subset_univ _)) $$ Hr
  iintro Hr
  iapply (wp_store 𝒱₀ (V d c s) none Set.univ (m := rowvM) (r := rcut l e) (f := fr) (S := Finset.univ) (Finset.subset_univ _)) $$ Hr
  iintro Hr
  iapply Hk
  isplitl [Hb]; · iexact Hb
  iexists _
  isplitr
  swap
  · iexact Hr
  · ipureintro
    intro x hx
    by_cases hc : (x 0).val = l.val ∧ 16 * e.val ≤ (x 1).val
    · have hy : (x 1).val - 16 * e.val < 16 := by omega
      have h1 : (x 1).val = 16 * e.val + (⟨(x 1).val - 16 * e.val, hy⟩ : Fin 16).val := by show _ = 16 * e.val + ((x 1).val - 16 * e.val); omega
      exact (rst_in l e fr _ x ⟨_, hy⟩ hc.1 h1).trans (gath_val hok hb q e he l _ _ x hc.1 h1)
    · refine (rst_out l e fr _ x (fun hx0 => .inl (by omega))).trans (hfr x ?_)
      omega

theorem gsteps_wp {T : S8x8x1000064.Idx → F .f32} {w v : IVec S16 32} (hok : Ok w v) {h : ℕ} {fb : S16x4x8x128.Idx → F .f32} (hb : bufOK T w h fb)
    (q : Fin 2) (e : Fin 4) (he : e.val = 2 * h + q.val) (e0 e1 : ℕ) (he0 : e0 = e.val) (he1 : e1 = e.val + 1) {Q : α → sProp 𝕄} (k : PUnit → TP F c s α) :
    iprop((bufL d c s ↦{fullShare} fb) ∗ ∃ fr, ⌜rowDone T w e0 0 fr⌝ ∗ (rowL d c s ↦{fullShare} fr))
      ⊢ iprop((iprop((bufL d c s ↦{fullShare} fb) ∗ ∃ fr, ⌜rowDone T w e1 0 fr⌝ ∗ (rowL d c s ↦{fullShare} fr)) -∗ W1 d c s (k ⟨⟩) Q)
      -∗ W1 d c s (forL lanes (gstep bufM rowvM v3c v8c (rcol w) (slotOf v) (BitVec.ofNat 32 (2 * q.val)) e) >>= k) Q) := by
  subst he0 he1
  iintro H Hk
  iapply (forL_wp (fun j => iprop((bufL d c s ↦{fullShare} fb) ∗ ∃ fr, ⌜rowDone T w e.val j fr⌝ ∗ (rowL d c s ↦{fullShare} fr)))
    _ (fun l k' => gstep_wp hok hb q e he l k')) $$ H
  iintro ⟨Hb, ⟨%fr, %hfr, Hr⟩⟩
  iapply Hk
  isplitl [Hb]; · iexact Hb
  iexists fr
  isplitr
  · ipureintro
    intro x hx
    refine hfr x ?_
    have := (x 0).isLt
    have h16 : S16x64.size 0 = 16 := rfl
    omega
  · iexact Hr

/-! The rows' copies out. -/

/-- What the copy of lane `l`'s row delivers: the row of the output, at `G`, and its share of the row buffer. -/
def DO (d : Dev nD) (c : Fin τ.nSC) (s : Fin τ.nSub) (G : S16384x64.Idx → F .f32) (fr : S16x64.Idx → F .f32) (p : IVec S16 32) (l : Fin 16) : sProp 𝕄 :=
  iprop((outL d c s ↦[orow (p (ln l)).toNat]{fullShare} G) ∗ (rowL d c s ↦{shareTok fullShare 16 l} fr))

instance (G : S16384x64.Idx → F .f32) (fr : S16x64.Idx → F .f32) (p : IVec S16 32) (l : Fin 16) :
    BI.Storable (upEmb : UEmb _ 𝕄) (DO (F := F) d c s G fr p l) := by unfold DO; infer_instance

/-- A wave's rows of the output, each at `g`. -/
def outRows (d : Dev nD) (c : Fin τ.nSC) (s : Fin τ.nSub) (p : IVec S16 32) (g : S16384x64.Idx → F .f32) : sProp 𝕄 :=
  bigSep Finset.univ fun l : Fin 16 => outL d c s ↦[orow (p (ln l)).toNat]{fullShare} g

/-- The rows' copies all begun, none waited for. -/
def Outst (d : Dev nD) (c : Fin τ.nSC) (s : Fin τ.nSub) (G : S16384x64.Idx → F .f32) (p : IVec S16 32) : sProp 𝕄 :=
  iprop(∃ fr, Batch EC (V d c s) (.dma cc0_scratch6.sem) none NO (DO d c s G fr p) 16 0 ∗ (rowL d c s ↦{shareDrop fullShare 16} fr))

/-- Before lane `j`'s copy out. -/
def OS (d : Dev nD) (c : Fin τ.nSC) (s : Fin τ.nSub) (G g : S16384x64.Idx → F .f32) (fr : S16x64.Idx → F .f32) (p : IVec S16 32) (j : ℕ) : sProp 𝕄 :=
  iprop(Batch EC (V d c s) (.dma cc0_scratch6.sem) none NO (DO d c s G fr p) j 0
    ∗ (bigSep (pending j) fun l : Fin 16 => outL d c s ↦[orow (p (ln l)).toNat]{fullShare} g)
    ∗ bigSep (pending j) fun l : Fin 16 => rowL d c s ↦{shareTok fullShare 16 l} fr)

theorem pend {n : ℕ} (Φ : Fin n → sProp 𝕄) (j : ℕ) (hj : j < n) :
    bigSep (pending j) Φ ⊢ iprop(Φ ⟨j, hj⟩ ∗ bigSep (pending (j + 1)) Φ) :=
  Entails.of_eq (by rw [pending_succ hj, bigSep_insert (not_mem_pending_succ hj)]; rfl)

theorem ostep_wp {G g : S16384x64.Idx → F .f32} {fr : S16x64.Idx → F .f32} {p : IVec S16 32} (hp : ∀ l, (p (ln l)).toNat < 16384)
    (hG : ∀ l, ∀ x ∈ orow (p (ln l)).toNat, G x = fr (rIx l (x 1))) {Q : α → sProp 𝕄} (l : Fin 16) (k : PUnit → TP F c s α) :
    OS d c s G g fr p l.val ⊢ iprop((OS d c s G g fr p (l.val + 1) -∗ W1 d c s (k ⟨⟩) Q)
      -∗ W1 d c s (ostep outM rowvM cc0_scratch6 p l >>= k) Q) := by
  suffices h : ∀ e : BitVec 32, e = p (ln l) → (OS d c s G g fr p l.val ⊢ iprop((OS d c s G g fr p (l.val + 1) -∗ W1 d c s (k ⟨⟩) Q)
      -∗ W1 d c s ((ochk e >>= fun h => oput outM rowvM cc0_scratch6 l e h.down) >>= k) Q)) from h _ (ext_eq p l)
  rintro _ rfl
  unfold ochk oput OS
  iintro ⟨HB, Ho, Ht⟩ Hk
  ihave Ho := (pend _ l.val l.isLt) $$ Ho
  icases Ho with ⟨Hol, Ho⟩
  ihave Ht := (pend _ l.val l.isLt) $$ Ht
  icases Ht with ⟨Htl, Ht⟩
  iapply (wp_assume 𝒱₀ (V d c s) none Set.univ (chk130_of _ (hp l)))
  iapply (issue (src := rowM rowvM l) (dst := orowV (k0_off67 (p (ln l))) (k0_off67_inb _ (chk130_of _ (hp l)))) (n := 16) (D := DO d c s G fr p) (j := l.val)
    (Ss := Finset.univ) (Sd := orow (p (ln l)).toNat) (q := shareTok fullShare 16 l) (fs := fr) (fd := g)
    NO rfl (Finset.subset_univ _) (orow_set _ _ _ rfl).le l.isLt ?_) $$ [HB Hol Htl]
  · unfold DO
    refine sep_mono (Entails.of_eq (pointsTo_congr fun x hx => ?_)) .rfl
    exact (orow_write _ _ _ rfl _ _ x hx).trans ((rrow_read l fr _).trans (hG l x hx).symm)
  · isplitl [Htl]; · iexact Htl
    isplitl [Hol]; · iexact Hol
    iexact HB
  iintro HB
  iapply Hk
  isplitl [HB]; · iexact HB
  isplitl [Ho] <;> iassumption

theorem osteps_wp {G g : S16384x64.Idx → F .f32} {fr : S16x64.Idx → F .f32} {p : IVec S16 32} (hp : ∀ l, (p (ln l)).toNat < 16384)
    (hG : ∀ l, ∀ x ∈ orow (p (ln l)).toNat, G x = fr (rIx l (x 1))) {Q : α → sProp 𝕄} (k : PUnit → TP F c s α) :
    iprop(semVal (V d c s, SemLoc.dma cc0_scratch6.sem) 0 ∗ outRows d c s p g ∗ (rowL d c s ↦{fullShare} fr))
      ⊢ iprop((Outst d c s G p -∗ W1 d c s (k ⟨⟩) Q) -∗ W1 d c s (forL lanes (ostep outM rowvM cc0_scratch6 p) >>= k) Q) := by
  iintro ⟨Hsem, Ho, Hr⟩ Hk
  imod (batch_alloc' EC (V d c s) none NO (DO d c s G fr p) (E := Set.univ)) $$ Hsem with HB
  ihave Hr := (pointsTo_toks fullShare 16).1 $$ Hr
  icases Hr with ⟨Hdrop, Hr⟩
  iapply (forL_wp (OS d c s G g fr p) _ (fun l k' => ostep_wp hp hG l k')) $$ [HB Ho Hr]
  · unfold OS outRows
    rw [pending_zero]
    isplitl [HB]; · iexact HB
    isplitl [Ho] <;> iassumption
  iintro HI
  iapply Hk
  unfold OS Outst
  icases HI with ⟨HB, -, -⟩
  iexists fr
  isplitl [HB] <;> iassumption

theorem owait_wp {G : S16384x64.Idx → F .f32} {fr : S16x64.Idx → F .f32} {p : IVec S16 32}
    {O : CellTallies nD τ sig (HIx 1)} {W : Waits sig (HIx 1)} {Q : α → sProp 𝕄} (l : Fin 16) (k : PUnit → TP F c s α) :
    iprop(Batch EC (V d c s) (.dma cc0_scratch6.sem) none NO (DO (F := F) d c s G fr p) 16 (NO * l.val) ∗ owesUp d c s O W ∗ MayWaits (V d c s) none O)
      ⊢ iprop((iprop(Batch EC (V d c s) (.dma cc0_scratch6.sem) none NO (DO (F := F) d c s G fr p) 16 (NO * (l.val + 1)) ∗ owesUp d c s O W ∗ MayWaits (V d c s) none O)
          -∗ W1 d c s (k ⟨⟩) Q)
      -∗ W1 d c s (owait outM rowvM cc0_scratch6 l >>= k) Q) := by
  unfold owait owesUp
  iintro ⟨HB, ⟨%W', %hW', HO⟩, #HM⟩ Hk
  have hle : NO * l.val + 1 * NO ≤ NO * 16 := by
    rw [Nat.one_mul, ← Nat.mul_succ]
    exact Nat.mul_le_mul_left _ (by omega)
  iapply (wp_waitBatchMulO EC 𝒱₀ (V d c s) none none 1 (D := DO d c s G fr p) (N := NO) (Nat.one_mul _).symm hle (O := O) (W := W')) $$ [HB HO]
  · isplitl [HB]; · iexact HB
    isplitl [HO]; · iexact HO
    iapply (MayWaits.elim (.dma cc0_scratch6.sem)); iexact HM
  iintro ⟨HB, HO⟩
  iapply Hk
  rw [show NO * l.val + 1 * NO = NO * (l.val + 1) by rw [Nat.one_mul, Nat.mul_succ]]
  isplitl [HB]; · iexact HB
  isplitl [HO]
  · iexists insert (SemLoc.dma cc0_scratch6.sem, none) W'
    isplitr
    · ipureintro
      intro p hp
      rcases Finset.mem_insert.mp hp with h | hp
      · exact .inr (by rw [h])
      · exact hW' p hp
    · iexact HO
  · iexact HM

theorem owaits_wp {G : S16384x64.Idx → F .f32} {p : IVec S16 32}
    {O : CellTallies nD τ sig (HIx 1)} {W : Waits sig (HIx 1)} {Q : α → sProp 𝕄} (k : PUnit → TP F c s α) :
    iprop(Outst d c s G p ∗ owesUp d c s O W ∗ MayWaits (V d c s) none O)
      ⊢ iprop((iprop(semVal (V d c s, SemLoc.dma cc0_scratch6.sem) 0 ∗ outRows d c s p G ∗ (∃ fr, rowL d c s ↦{fullShare} fr) ∗ owesUp d c s O W)
          -∗ W1 d c s (k ⟨⟩) Q)
      -∗ W1 d c s (forL lanes (owait outM rowvM cc0_scratch6) >>= k) Q) := by
  unfold Outst
  iintro ⟨⟨%fr, HB, Hdrop⟩, HO, #HM⟩ Hk
  iapply (forL_wp (fun j => iprop(Batch EC (V d c s) (.dma cc0_scratch6.sem) none NO (DO (F := F) d c s G fr p) 16 (NO * j) ∗ owesUp d c s O W ∗ MayWaits (V d c s) none O))
    _ (fun l k' => owait_wp l k')) $$ [HB HO]
  · rw [Nat.mul_zero]
    isplitl [HB]; · iexact HB
    isplitl [HO]; · iexact HO
    iexact HM
  iintro ⟨HB, HO, -⟩
  imod (batch_collect' EC (V d c s) NO_pos) $$ HB with ⟨HD, Hsem⟩
  iapply Hk
  unfold DO outRows
  ihave HD := (Entails.of_eq (bigSep_sep' _ _ _)) $$ HD
  icases HD with ⟨Ho, Ht⟩
  isplitl [Hsem]; · iexact Hsem
  isplitl [Ho]; · iexact Ho
  isplitl [Hdrop Ht]
  · iexists fr
    iapply (pointsTo_toks fullShare 16).2
    isplitl [Hdrop] <;> iassumption
  iexact HO

end

end Cert.KernelIdeal.Wave
-- ==== Proof.Trip.lean ====
/- A trip of the kernel's loop: the wave's words, its blocks, its rows. -/
module

public import proofs.«01_k».proof.Proof.Rows

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

abbrev cI (i : grid0.Coords) : Fin τ.nSC := (i 0).castLE hcore0
abbrev sI (i : grid0.Coords) : Fin τ.nSub := (i 1).castLE hsub0

/-- An element of a subcore's own index lists. -/
def ix512 (k : ℕ) : S512.Idx := fun a => ⟨k % 512, by fin_cases a; exact Nat.mod_lt _ (by decide)⟩

/-- The sixteen words of wave `n`. -/
def chunk (f : S512.Idx → BitVec 32) (n : ℕ) : IVec S16 32 := fun x => f (ix512 (16 * n + (laneOf x).val))

theorem off2_eq (t : Fin k0_t1_loop.trips) : k0_off2 t = ![16 * t.val] := by
  have ht : k0_t1_loop.trips = 32 := by decide
  have h : ∀ n : Fin 32, (IntOp.muli (Scf.iv 0#32 1#32 n.val) 16#32).toNat = 16 * n.val := by decide
  exact congrArg (fun k => ![k]) (h ⟨t.val, lt_of_lt_of_eq t.isLt ht⟩)

theorem chunk_read0 (t : Fin k0_t1_loop.trips) (f : S512.Idx → BitVec 32) :
    idxvM.view.readAt (Elt F) (Rect.unit (s := S512) (k0_off2 t) S16.size (k0_off2_inb t)).toLoadRect f = chunk f t.val := by
  have ht : k0_t1_loop.trips = 32 := by decide
  have h2 := t.isLt
  funext x
  refine congrArg f (funext fun a => Fin.ext ?_)
  refine (Rect.emb_apply (Rect.unit (s := S512) (k0_off2 t) S16.size (k0_off2_inb t)) x a).trans ?_
  fin_cases a
  show k0_off2 t 0 + 1 * (x 0).val = (16 * t.val + (x 0).val) % 512
  have ho : k0_off2 t 0 = 16 * t.val := congrFun (off2_eq t) 0
  have hx : (x 0).val < 16 := (x 0).isLt
  omega

theorem blk_write (f u : S16.Idx → BitVec 32) :
    (blkvM.access (Rect.unit (s := S16) ![0] S16.size inb_S16_S16_0)).write (Elt F) f u Finset.univ = u := by
  funext x
  have e : (blkvM.access (Rect.unit (s := S16) ![0] S16.size inb_S16_S16_0)).emb x = x := by
    refine funext fun a => Fin.ext ((Rect.emb_apply (Rect.unit (s := S16) ![0] S16.size inb_S16_S16_0) x a).trans ?_)
    fin_cases a
    exact (Nat.zero_add _).trans (Nat.one_mul _)
  conv_lhs => rw [← e]
  exact View.write_emb_of_mem _ _ (Finset.mem_univ _)

theorem blk_gather (u : S16.Idx → BitVec 32) (h) (l : Fin 16) :
    loadIdx (F := F) (s := S16) (t := S16) (e := .i32) ((blkvM.access (.whole S16)).read (Elt F) u) ![v7c] h (ln l) = u (ln (prev l)) := by
  refine congrArg u (funext fun a => Fin.ext ?_)
  refine (Rect.emb_apply (Rect.whole S16) _ a).trans ?_
  fin_cases a
  refine (Nat.zero_add _).trans ((Nat.one_mul _).trans ?_)
  show (v7c (ln l)).toNat = (prev l).val
  rw [v7c_ln, BitVec.toNat_ofNat]
  have := (prev l).isLt
  exact Nat.mod_eq_of_lt (by omega)

section
variable {d : Dev nD} {α : Type}

abbrev ixL (d : Dev nD) (c : Fin τ.nSC) (s : Fin τ.nSub) : Loc nD τ sig := idxvM.view.loc (V d c s)
abbrev psL (d : Dev nD) (c : Fin τ.nSC) (s : Fin τ.nSub) : Loc nD τ sig := posvM.view.loc (V d c s)
abbrev bkL (d : Dev nD) (c : Fin τ.nSC) (s : Fin τ.nSub) : Loc nD τ sig := blkvM.view.loc (V d c s)

theorem head_wp {i : grid0.Coords} (t : Fin k0_t1_loop.trips) {xi xp : S512.Idx → BitVec 32} (hlt : ∀ l, (chunk xi t.val (ln l)).toNat < 1000000) {Q : α → sProp 𝕄}
    (k : Vec F S16 .i32 → Vec F S16 .i32 → IVec S16 32 → TI (F := F) i α) :
    iprop((ixL d (cI i) (sI i) ↦{fullShare} xi) ∗ (psL d (cI i) (sI i) ↦{fullShare} xp) ∗ (∃ fk, bkL d (cI i) (sI i) ↦{fullShare} fk))
      ⊢ iprop((∀ v, ⌜Ok (chunk xi t.val) v⌝ -∗ iprop((ixL d (cI i) (sI i) ↦{fullShare} xi) ∗ (psL d (cI i) (sI i) ↦{fullShare} xp) ∗ (∃ fk, bkL d (cI i) (sI i) ↦{fullShare} fk))
          -∗ W1 d (cI i) (sI i) (k (chunk xi t.val) (chunk xp t.val) v) Q)
      -∗ W1 d (cI i) (sI i) (headK i idxvM posvM blkvM v3c v7c chk1_v7c t k) Q) := by
  unfold headK
  iintro ⟨Hi, Hp, ⟨%fk, Hk⟩⟩ HK
  iapply (wp_load 𝒱₀ (V d (cI i) (sI i)) none Set.univ (m := idxvM) (f := xi) (q := fullShare) (S := Finset.univ) (Finset.subset_univ _)) $$ Hi
  iintro Hi
  rw [chunk_read0]
  iapply (wp_load 𝒱₀ (V d (cI i) (sI i)) none Set.univ (m := posvM) (f := xp) (q := fullShare) (S := Finset.univ) (Finset.subset_univ _)) $$ Hp
  iintro Hp
  rw [show posvM.view.readAt (Elt F) (Rect.unit (s := S512) (k0_off2 t) S16.size (k0_off2_inb t)).toLoadRect xp = chunk xp t.val from chunk_read0 t xp]
  iapply (wp_load 𝒱₀ (V d (cI i) (sI i)) none Set.univ (m := blkvM) (f := fk) (q := fullShare) (S := Finset.univ) (Finset.subset_univ _)) $$ Hk
  iintro Hk
  iapply (wp_store 𝒱₀ (V d (cI i) (sI i)) none Set.univ (m := blkvM) (r := Rect.unit (s := S16) ![0] S16.size inb_S16_S16_0) (f := fk) (S := Finset.univ) (Finset.subset_univ _)) $$ Hk
  rw [blk_write]
  iintro Hk
  iapply (SparseCore.wp_vectorLoadIdx 𝒱₀ (V d (cI i) (sI i)) none Set.univ (base := blkvM) (hl := View.loads_vmem h_S16) (f := rblk (chunk xi t.val)) (q := fullShare) (S := Finset.univ) (Finset.subset_univ _)) $$ Hk
  iintro Hk
  iapply HK
  · ipureintro
    exact ⟨hlt, fresh_ln _ _ fun l => blk_gather _ _ l⟩
  · isplitl [Hi]; · iexact Hi
    isplitl [Hp]; · iexact Hp
    iexists _
    iexact Hk

/-- What a trip holds throughout: the subcore's lists, its words, the table, the slots, the blocks' cell, what is owed. -/
def Core (d : Dev nD) (c : Fin τ.nSC) (s : Fin τ.nSub) (q : PosShare TreeShare) (T : S8x8x1000064.Idx → F .f32) (xi xp : S512.Idx → BitVec 32)
    (O : CellTallies nD τ sig (HIx 1)) (W : Waits sig (HIx 1)) : sProp 𝕄 :=
  iprop((iprop((ixL d c s ↦{fullShare} xi) ∗ (psL d c s ↦{fullShare} xp) ∗ (∃ fk, bkL d c s ↦{fullShare} fk)))
    ∗ (tabL d c s ↦{q} T) ∗ (∃ fb, bufL d c s ↦{fullShare} fb) ∗ semVal (V d c s, SemLoc.dma cc0_scratch5.sem) 0 ∗ owesUp d c s O W)

/-- The rows' copies that wave `n - 1` began; before the first wave, the row buffer. -/
def Prev (d : Dev nD) (c : Fin τ.nSC) (s : Fin τ.nSub) (G : S16384x64.Idx → F .f32) (xp : S512.Idx → BitVec 32) : ℕ → sProp 𝕄
  | 0 => iprop((∃ fr, rowL d c s ↦{fullShare} fr) ∗ semVal (V d c s, SemLoc.dma cc0_scratch6.sem) 0)
  | n + 1 => Outst d c s G (chunk xp n)

/-- Wave `n - 1`'s rows of the output. -/
def Done (d : Dev nD) (c : Fin τ.nSC) (s : Fin τ.nSub) (G : S16384x64.Idx → F .f32) (xp : S512.Idx → BitVec 32) : ℕ → sProp 𝕄
  | 0 => iprop(emp)
  | n + 1 => outRows d c s (chunk xp n) G

theorem owaitIf_wp {c : Fin τ.nSC} {s : Fin τ.nSub} {G : S16384x64.Idx → F .f32} {xp : S512.Idx → BitVec 32}
    {O : CellTallies nD τ sig (HIx 1)} {W : Waits sig (HIx 1)} (t : Fin k0_t1_loop.trips) {Q : α → sProp 𝕄} (k : PUnit → TP F c s α) :
    iprop(Prev (F := F) d c s G xp t.val ∗ owesUp d c s O W ∗ MayWaits (V d c s) none O)
      ⊢ iprop((iprop(((∃ fr, rowL d c s ↦{fullShare} fr) ∗ semVal (V d c s, SemLoc.dma cc0_scratch6.sem) 0) ∗ Done d c s G xp t.val ∗ owesUp d c s O W)
          -∗ W1 d c s (k ⟨⟩) Q)
      -∗ W1 d c s (owaitIf outM rowvM cc0_scratch6 t >>= k) Q) := by
  unfold owaitIf
  by_cases h : 0 < t.val
  · rw [if_pos ((later_iff t).mpr h)]
    obtain ⟨n, hn⟩ : ∃ n, t.val = n + 1 := ⟨t.val - 1, by omega⟩
    rw [hn]
    unfold Prev Done
    iintro H Hk
    iapply (owaits_wp k) $$ H
    iintro ⟨Hsem, Ho, Hr, HO⟩
    iapply Hk
    isplitl [Hsem Hr]
    · isplitl [Hr] <;> iassumption
    isplitl [Ho] <;> iassumption
  · rw [if_neg (mt (later_iff t).mp h)]
    have hn : t.val = 0 := by omega
    rw [hn]
    unfold Prev Done
    iintro ⟨H, HO, -⟩ Hk
    iapply Hk
    isplitl [H]; · iexact H
    isplitr; · iempintro
    iexact HO

theorem fin_wp {c : Fin τ.nSC} {s : Fin τ.nSub} {Q : PUnit → sProp 𝕄} : Q ⟨⟩ ⊢ W1 d c s (pure ⟨⟩ : TP F c s PUnit) Q := by
  unfold W1
  rw [wp_pure]
  iintro H
  imodintro
  iexact H

/-- What a wave needs of its words: its indices and output rows in range, and each output row what the table holds at its index. -/
structure WaveOk (T : S8x8x1000064.Idx → F .f32) (G : S16384x64.Idx → F .f32) (w p : IVec S16 32) : Prop where
  lt : ∀ l, (w (ln l)).toNat < 1000000
  row : ∀ l, (p (ln l)).toNat < 16384
  val : ∀ l, ∀ x ∈ orow (p (ln l)).toNat, G x = Rv T w (rIx l (x 1))

theorem wave_wp {i : grid0.Coords} (t : Fin k0_t1_loop.trips) {q : PosShare TreeShare} {T : S8x8x1000064.Idx → F .f32} {G g : S16384x64.Idx → F .f32}
    {xi xp : S512.Idx → BitVec 32} (hw : WaveOk T G (chunk xi t.val) (chunk xp t.val)) {O : CellTallies nD τ sig (HIx 1)} {W : Waits sig (HIx 1)} :
    iprop(Core d (cI i) (sI i) q T xi xp O W ∗ Prev d (cI i) (sI i) G xp t.val ∗ outRows d (cI i) (sI i) (chunk xp t.val) g ∗ MayWaits (V d (cI i) (sI i)) none O)
      ⊢ W1 d (cI i) (sI i) (wave i tabM outM idxvM posvM blkvM bufM rowvM cc0_scratch5 cc0_scratch6 v3c v7c v8c chk1_v7c t)
        fun _ => iprop(Core d (cI i) (sI i) q T xi xp O W ∗ Done d (cI i) (sI i) G xp t.val ∗ Outst d (cI i) (sI i) G (chunk xp t.val)) := by
  rw [← Prog.bind_pure (wave i tabM outM idxvM posvM blkvM bufM rowvM cc0_scratch5 cc0_scratch6 v3c v7c v8c chk1_v7c t)]
  unfold wave
  rw [headK_bind]
  unfold Core
  iintro ⟨⟨Hwords, Ht, ⟨%fb, Hb⟩, Hsem, HO⟩, Hprev, Ho, #HM⟩
  iapply (head_wp t hw.lt) $$ Hwords
  iintro %v %hok Hwords
  unfold waveA waveB
  simp only [bindA]
  iapply (start_of (start0_wp hok)) $$ [Ht Hb Hsem]
  · isplitl [Ht]; · iexact Ht
    isplitl [Hsem] <;> iassumption
  iintro Hmid
  iapply (owaitIf_wp t) $$ [Hprev HO]
  · isplitl [Hprev]; · iexact Hprev
    isplitl [HO]; · iexact HO
    iexact HM
  iintro ⟨⟨⟨%fr, Hr⟩, Hsem2⟩, Hdone, HO⟩
  iapply (waits_wp hok) $$ [Hmid HO]
  · isplitl [Hmid]; · iexact Hmid
    isplitl [HO]; · iexact HO
    iexact HM
  iintro ⟨Ht, Hsem, ⟨%fb0, %hb0, Hb⟩, HO⟩
  iapply (gsteps_wp hok hb0 0 0 rfl 0 1 rfl rfl) $$ [Hb Hr]
  · isplitl [Hb]; · iexact Hb
    iexists fr
    isplitr
    · ipureintro
      intro x hx
      exfalso
      have : (0 : Fin 4).val = 0 := rfl
      omega
    · iexact Hr
  iintro Hbr
  iapply (gsteps_wp hok hb0 1 1 rfl 1 2 rfl rfl) $$ Hbr
  iintro ⟨Hb, Hr⟩
  iapply (start_of (start1_wp hok)) $$ [Ht Hb Hsem]
  · isplitl [Ht]; · iexact Ht
    isplitl [Hsem] <;> iassumption
  iintro Hmid
  iapply (waits_wp hok) $$ [Hmid HO]
  · isplitl [Hmid]; · iexact Hmid
    isplitl [HO]; · iexact HO
    iexact HM
  iintro ⟨Ht, Hsem, ⟨%fb1, %hb1, Hb⟩, HO⟩
  iapply (gsteps_wp hok hb1 0 2 rfl 2 3 rfl rfl) $$ [Hb Hr]
  · isplitl [Hb] <;> iassumption
  iintro Hbr
  iapply (gsteps_wp hok hb1 1 3 rfl 3 4 rfl rfl) $$ Hbr
  iintro ⟨Hb, ⟨%fr', %hfr, Hr⟩⟩
  have hG : ∀ l, ∀ x ∈ orow ((chunk xp t.val) (ln l)).toNat, G x = fr' (rIx l (x 1)) := fun l x hx =>
    (hw.val l x hx).trans (hfr _ (.inl (by
      have h64 : (x 1).val < 64 := (x 1).isLt
      show (x 1).val < 16 * 4
      omega))).symm
  iapply (osteps_wp hw.row hG) $$ [Ho Hsem2 Hr]
  · isplitl [Hsem2]; · iexact Hsem2
    isplitl [Ho] <;> iassumption
  iintro Hout
  iapply (fin_wp (Q := fun _ => _))
  isplitl [Hwords Ht Hb Hsem HO]
  · isplitl [Hwords]; · iexact Hwords
    isplitl [Ht]; · iexact Ht
    isplitl [Hb]; · iexists _; iexact Hb
    isplitl [Hsem] <;> iassumption
  isplitl [Hdone] <;> iassumption

end

end Cert.KernelIdeal.Wave
-- ==== Proof.Tile.lean ====
/- A subcore's run of the kernel: its lists in, the waves, the last rows' copies. -/
module

public import proofs.«01_k».proof.Proof.Trip

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

/-- An element of an index list. -/
def ix16384 (k : ℕ) : S16384.Idx := fun a => ⟨k % 16384, by fin_cases a; exact Nat.mod_lt _ (by decide)⟩

/-- Where a subcore's part of the index lists begins, and that part. -/
def base (i : grid0.Coords) : ℕ := ((i 1).val * 2 + (i 0).val) * 512
def own (i : grid0.Coords) (X : S16384.Idx → BitVec 32) : S512.Idx → BitVec 32 := fun y => X (ix16384 (base i + (y 0).val))

theorem off1_eq (i : grid0.Coords) : k0_off1 i = ![base i] := by
  have h : ∀ (c : Fin 2) (s : Fin 16), (IntOp.muli (IntOp.addi (IntOp.muli (BitVec.ofNat 32 s.val) 2#32) (BitVec.ofNat 32 c.val)) 512#32).toNat = (s.val * 2 + c.val) * 512 := by decide
  exact congrArg (fun k => ![k]) (h (i 0) (i 1))

section
variable {d : Dev nD} {α : Type}

theorem copyIn_wp {i : grid0.Coords} {src : Memref sig .scVector .hbm S16384 .i32} {dst : Memref sig .scVector .vmem S512 .i32} {hdst : dst.IsWhole}
    {sem : DmaSems sig S_} {q : PosShare TreeShare} {fs : Buf (Elt F) (src.view.loc (V d (cI i) (sI i)))} {fd u : Buf (Elt F) (dst.view.loc (V d (cI i) (sI i)))}
    (hu : dst.view.write (Elt F) fd ((src.slice (Rect.unit (s := S16384) (k0_off1 i) S512.size (k0_off1_inb i)) (fun _ => rfl)).view.read (Elt F) fs) Finset.univ = u)
    {O : CellTallies nD τ sig (HIx 1)} {W : Waits sig (HIx 1)} {Q : α → sProp 𝕄} (k : PUnit → TI (F := F) i α) :
    iprop((src.view.loc (V d (cI i) (sI i)) ↦{q} fs) ∗ (dst.view.loc (V d (cI i) (sI i)) ↦{fullShare} fd) ∗ semVal (V d (cI i) (sI i), SemLoc.dma sem.sem) 0
        ∗ owesUp d (cI i) (sI i) O W ∗ MayWaits (V d (cI i) (sI i)) none O)
      ⊢ iprop((iprop((src.view.loc (V d (cI i) (sI i)) ↦{q} fs) ∗ (dst.view.loc (V d (cI i) (sI i)) ↦{fullShare} u) ∗ semVal (V d (cI i) (sI i), SemLoc.dma sem.sem) 0
          ∗ owesUp d (cI i) (sI i) O W) -∗ W1 d (cI i) (sI i) (k ⟨⟩) Q)
        -∗ W1 d (cI i) (sI i) (copyIn i src dst hdst sem >>= k) Q) := by
  unfold copyIn
  rw [bindA]
  unfold owesUp
  iintro ⟨Hs, Hd, Hsem, ⟨%W', %hW', HO⟩, #HM⟩ Hk
  have hN : 0 < dst.view.dmaCredit := View.dmaCredit_pos _ (by decide)
  imod (batch_alloc' EC (V d (cI i) (sI i)) none dst.view.dmaCredit
    (fun _ : Fin 1 => iprop((dst.view.loc (V d (cI i) (sI i)) ↦{fullShare} u) ∗ (src.view.loc (V d (cI i) (sI i)) ↦{q} fs))) (E := Set.univ)) $$ Hsem with HB
  iapply (issue (src := src.slice (Rect.unit (s := S16384) (k0_off1 i) S512.size (k0_off1_inb i)) (fun _ => rfl)) (dst := dst) (n := 1)
    (D := fun _ : Fin 1 => iprop((dst.view.loc (V d (cI i) (sI i)) ↦{fullShare} u) ∗ (src.view.loc (V d (cI i) (sI i)) ↦{q} fs))) (j := 0)
    (Ss := Finset.univ) (Sd := Finset.univ) (q := q) (fs := fs) (fd := fd) dst.view.dmaCredit rfl (Finset.subset_univ _) (Finset.subset_univ _) Nat.one_pos
    (by rw [hu])) $$ [Hs Hd HB]
  · isplitl [Hs]; · iexact Hs
    isplitl [Hd] <;> iassumption
  iintro HB
  iapply (wp_waitBatchMulO EC 𝒱₀ (V d (cI i) (sI i)) none none 1
    (D := fun _ : Fin 1 => iprop((dst.view.loc (V d (cI i) (sI i)) ↦{fullShare} u) ∗ (src.view.loc (V d (cI i) (sI i)) ↦{q} fs)))
    (N := dst.view.dmaCredit) (j := 1) (u := 0) (Nat.one_mul _).symm (by rw [Nat.zero_add, Nat.one_mul, Nat.mul_one]) (O := O) (W := W')) $$ [HB HO]
  · isplitl [HB]; · iexact HB
    isplitl [HO]; · iexact HO
    iapply (MayWaits.elim (.dma sem.sem)); iexact HM
  iintro ⟨HB, HO⟩
  rw [show 0 + 1 * dst.view.dmaCredit = dst.view.dmaCredit * 1 by rw [Nat.zero_add, Nat.one_mul, Nat.mul_one]]
  imod (batch_collect' EC (V d (cI i) (sI i)) hN) $$ HB with ⟨HD, Hsem⟩
  ihave HD := (Entails.of_eq (show bigSep (Finset.univ : Finset (Fin 1)) (fun _ : Fin 1 => iprop((dst.view.loc (V d (cI i) (sI i)) ↦{fullShare} u) ∗ (src.view.loc (V d (cI i) (sI i)) ↦{q} fs)))
      = (iprop((dst.view.loc (V d (cI i) (sI i)) ↦{fullShare} u) ∗ (src.view.loc (V d (cI i) (sI i)) ↦{q} fs)) : sProp 𝕄) from by
    rw [Finset.univ_unique, bigSep_singleton])) $$ HD
  icases HD with ⟨Hd, Hs⟩
  iapply Hk
  isplitl [Hs]; · iexact Hs
  isplitl [Hd]; · iexact Hd
  isplitl [Hsem]; · iexact Hsem
  iexists insert (SemLoc.dma sem.sem, none) W'
  isplitr
  · ipureintro
    intro p hp
    rcases Finset.mem_insert.mp hp with h | hp
    · exact .inr (by rw [h])
    · exact hW' p hp
  · iexact HO

theorem own_read (i : grid0.Coords) (X : S16384.Idx → BitVec 32) (f : S512.Idx → BitVec 32) :
    idxvM.view.write (Elt F) f ((sidxM.slice (Rect.unit (s := S16384) (k0_off1 i) S512.size (k0_off1_inb i)) (fun _ => rfl)).view.read (Elt F) X) Finset.univ = own i X := by
  have e : ∀ y : S512.Idx, (sidxM.slice (Rect.unit (s := S16384) (k0_off1 i) S512.size (k0_off1_inb i)) (fun _ => rfl)).view.emb y = ix16384 (base i + (y 0).val) := by
    intro y
    refine funext fun a => Fin.ext ((Rect.emb_apply (Rect.unit (s := S16384) (k0_off1 i) S512.size (k0_off1_inb i)) y a).trans ?_)
    fin_cases a
    show k0_off1 i 0 + 1 * (y 0).val = (base i + (y 0).val) % 16384
    have ho : k0_off1 i 0 = base i := congrFun (off1_eq i) 0
    have hy : (y 0).val < 512 := (y 0).isLt
    have h0 : (i 0).val < 2 := (i 0).isLt
    have h1 : (i 1).val < 16 := (i 1).isLt
    unfold base at *
    omega
  funext y
  refine (View.write_emb_of_mem (v := idxvM.view) (x := y) _ _ (Finset.mem_univ _)).trans ?_
  exact congrArg X (e y)

/-- The rows of the output of a subcore's waves `n` to `m - 1`. -/
def rowsOf (d : Dev nD) (c : Fin τ.nSC) (s : Fin τ.nSub) (xp : S512.Idx → BitVec 32) (g : S16384x64.Idx → F .f32) (S : Finset ℕ) : sProp 𝕄 :=
  bigSep S fun n => outRows d c s (chunk xp n) g

/-- Before wave `n`. -/
def Inv (d : Dev nD) (c : Fin τ.nSC) (s : Fin τ.nSub) (q : PosShare TreeShare) (T : S8x8x1000064.Idx → F .f32) (G g : S16384x64.Idx → F .f32) (xi xp : S512.Idx → BitVec 32)
    (O : CellTallies nD τ sig (HIx 1)) (W : Waits sig (HIx 1)) (n : ℕ) : sProp 𝕄 :=
  iprop(Core d c s q T xi xp O W ∗ Prev d c s G xp n ∗ rowsOf d c s xp G (Finset.range (n - 1)) ∗ rowsOf d c s xp g (Finset.Ico n 32) ∗ MayWaits (V d c s) none O)

theorem rows_done {c : Fin τ.nSC} {s : Fin τ.nSub} (xp : S512.Idx → BitVec 32) (G : S16384x64.Idx → F .f32) (n : ℕ) :
    iprop(rowsOf d c s xp G (Finset.range (n - 1)) ∗ Done d c s G xp n) ⊢ (rowsOf d c s xp G (Finset.range n) : sProp 𝕄) := by
  cases n with
  | zero => unfold Done; iintro ⟨H, -⟩; iexact H
  | succ n =>
    unfold Done rowsOf
    rw [Nat.add_sub_cancel, Finset.range_add_one, bigSep_insert Finset.notMem_range_self]
    exact BI.sep_comm

theorem trip_wp {i : grid0.Coords} (t : Fin k0_t1_loop.trips) {q : PosShare TreeShare} {T : S8x8x1000064.Idx → F .f32} {G g : S16384x64.Idx → F .f32}
    {xi xp : S512.Idx → BitVec 32} (hw : WaveOk T G (chunk xi t.val) (chunk xp t.val)) {O : CellTallies nD τ sig (HIx 1)} {W : Waits sig (HIx 1)} :
    Inv d (cI i) (sI i) q T G g xi xp O W t.val
      ⊢ W1 d (cI i) (sI i) (wave i tabM outM idxvM posvM blkvM bufM rowvM cc0_scratch5 cc0_scratch6 v3c v7c v8c chk1_v7c t)
        fun _ => Inv d (cI i) (sI i) q T G g xi xp O W (t.val + 1) := by
  have ht : t.val < 32 := lt_of_lt_of_eq t.isLt (by decide)
  unfold Inv
  iintro ⟨HC, HP, HD, HR, #HM⟩
  ihave HR := (Entails.of_eq (show rowsOf d (cI i) (sI i) xp g (Finset.Ico t.val 32)
      = (iprop(outRows d (cI i) (sI i) (chunk xp t.val) g ∗ rowsOf d (cI i) (sI i) xp g (Finset.Ico (t.val + 1) 32)) : sProp 𝕄) from by
    unfold rowsOf
    rw [show Finset.Ico t.val 32 = insert t.val (Finset.Ico (t.val + 1) 32) from by ext x; simp only [Finset.mem_Ico, Finset.mem_insert]; omega,
      bigSep_insert (by simp)]; rfl)) $$ HR
  icases HR with ⟨Ho, HR⟩
  ihave Hw := (wave_wp t (d := d) (O := O) (W := W) (q := q) (g := g) hw) $$ [HC HP Ho]
  · isplitl [HC]; · iexact HC
    isplitl [HP]; · iexact HP
    isplitl [Ho]; · iexact Ho
    iexact HM
  iapply (wp_wand frame (wpE defs₀ 𝒱₀ (V d (cI i) (sI i)) none)) $$ Hw
  iintro %a ⟨HC, HD', HP⟩
  isplitl [HC]; · iexact HC
  isplitl [HP]; · unfold Prev; iexact HP
  isplitl [HD HD']
  · iapply (rows_done xp G t.val)
    isplitl [HD] <;> iassumption
  isplitl [HR]; · iexact HR
  iexact HM

/-- What a subcore is given of the table, of the index lists and of the output, the output at `g`. -/
def Dealt (d : Dev nD) (i : grid0.Coords) (q : PosShare TreeShare) (T : S8x8x1000064.Idx → F .f32) (X Y : S16384.Idx → BitVec 32) (g : S16384x64.Idx → F .f32) : sProp 𝕄 :=
  iprop((tabL d (cI i) (sI i) ↦{q} T) ∗ (sidxM.view.loc (V d (cI i) (sI i)) ↦{q} X) ∗ (sposM.view.loc (V d (cI i) (sI i)) ↦{q} Y)
    ∗ rowsOf d (cI i) (sI i) (own i Y) g (Finset.range 32))

/-- A subcore's scratch buffers and its semaphores at 0. -/
def Scratch (d : Dev nD) (c : Fin τ.nSC) (s : Fin τ.nSub) : sProp 𝕄 :=
  iprop((∃ f, ixL d c s ↦{fullShare} f) ∗ (∃ f, psL d c s ↦{fullShare} f) ∗ (∃ f, bkL d c s ↦{fullShare} f) ∗ (∃ f, bufL d c s ↦{fullShare} f) ∗ (∃ f, rowL d c s ↦{fullShare} f))
def Sems (d : Dev nD) (c : Fin τ.nSC) (s : Fin τ.nSub) : sProp 𝕄 :=
  iprop(semVal (V d c s, SemLoc.dma cc0_scratch5.sem) 0 ∗ semVal (V d c s, SemLoc.dma cc0_scratch6.sem) 0
    ∗ semVal (V d c s, SemLoc.dma cc0_scoped0.sem) 0 ∗ semVal (V d c s, SemLoc.dma cc0_scoped1.sem) 0)

theorem kern_wp {i : grid0.Coords} {q : PosShare TreeShare} {T : S8x8x1000064.Idx → F .f32} {G g : S16384x64.Idx → F .f32}
    {X Y : S16384.Idx → BitVec 32} (hw : ∀ t < 32, WaveOk T G (chunk (own i X) t) (chunk (own i Y) t))
    {O : CellTallies nD τ sig (HIx 1)} {W : Waits sig (HIx 1)} :
    iprop(Dealt d i q T X Y g ∗ Scratch d (cI i) (sI i) ∗ Sems d (cI i) (sI i) ∗ owesUp d (cI i) (sI i) O W ∗ MayWaits (V d (cI i) (sI i)) none O)
      ⊢ W1 d (cI i) (sI i) (kern i tabM sidxM sposM outM idxvM (Memref.isWhole_whole _) posvM (Memref.isWhole_whole _) blkvM bufM rowvM cc0_scratch5 cc0_scratch6 cc0_scoped0 cc0_scoped1)
        fun _ => iprop(Dealt d i q T X Y G ∗ Scratch d (cI i) (sI i) ∗ Sems d (cI i) (sI i) ∗ owesUp d (cI i) (sI i) O W) := by
  unfold kern Dealt Scratch Sems
  iintro ⟨⟨HT, HX, HY, HR⟩, ⟨⟨%fi, Hi⟩, ⟨%fp, Hp⟩, Hk, Hb, Hr⟩, ⟨Hs5, Hs6, Ha, Hc⟩, HO, #HM⟩
  iapply (copyIn_wp (src := sidxM) (dst := idxvM) (sem := cc0_scoped0) (q := q) (fs := X) (fd := fi) (u := own i X) (own_read i X fi) (O := O) (W := W)) $$ [HX Hi Ha HO]
  · isplitl [HX]; · iexact HX
    isplitl [Hi]; · iexact Hi
    isplitl [Ha]; · iexact Ha
    isplitl [HO]; · iexact HO
    iexact HM
  iintro ⟨HX, Hi, Ha, HO⟩
  iapply (copyIn_wp (src := sposM) (dst := posvM) (sem := cc0_scoped1) (q := q) (fs := Y) (fd := fp) (u := own i Y) (own_read i Y fp) (O := O) (W := W)) $$ [HY Hp Hc HO]
  · isplitl [HY]; · iexact HY
    isplitl [Hp]; · iexact Hp
    isplitl [Hc]; · iexact Hc
    isplitl [HO]; · iexact HO
    iexact HM
  iintro ⟨HY, Hp, Hc, HO⟩
  iapply (wp_assume 𝒱₀ (V d (cI i) (sI i)) none Set.univ chk1_v7c)
  iapply (Scf.wp_for_bind frame (wpE defs₀ 𝒱₀ (V d (cI i) (sI i)) none) Set.univ _ _ _ _ _ _
    (fun n _ => Inv d (cI i) (sI i) q T G g (own i X) (own i Y) O W n) (fun t _ => trip_wp t (hw t.val (lt_of_lt_of_eq t.isLt (by decide))))) $$ [HT Hi Hp Hk Hb Hr Hs5 Hs6 HO HR]
  · unfold Inv Core Prev
    isplitl [HT Hi Hp Hk Hb Hs5 HO]
    · isplitl [Hi Hp Hk]
      · isplitl [Hi]; · iexact Hi
        isplitl [Hp] <;> iassumption
      isplitl [HT]; · iexact HT
      isplitl [Hb]; · iexact Hb
      isplitl [Hs5] <;> iassumption
    isplitl [Hr Hs6]
    · isplitl [Hr] <;> iassumption
    isplitr
    · unfold rowsOf; rw [Nat.zero_sub, Finset.range_zero, bigSep_empty]; iempintro
    isplitl [HR]
    · rw [← Finset.range_eq_Ico]; iexact HR
    iexact HM
  iintro %acc HI
  rw [show Scf.trips k0_t1_loop.lb k0_t1_loop.ub k0_t1_loop.st = 32 by decide]
  unfold Inv Core Prev
  icases HI with ⟨⟨⟨Hi, Hp, Hk⟩, HT, Hb, Hs5, HO⟩, HP, HD, -, -⟩
  rw [← Prog.bind_pure (forL _ _)]
  iapply (owaits_wp (O := O) (W := W)) $$ [HP HO]
  · isplitl [HP]; · iexact HP
    isplitl [HO]; · iexact HO
    iexact HM
  iintro ⟨Hs6, HD', Hr, HO⟩
  iapply fin_wp
  isplitl [HT HX HY HD HD']
  · isplitl [HT]; · iexact HT
    isplitl [HX]; · iexact HX
    isplitl [HY]; · iexact HY
    iapply (rows_done (own i Y) G 32)
    unfold Done
    isplitl [HD] <;> iassumption
  isplitl [Hi Hp Hk Hb Hr]
  · isplitl [Hi]; · iexists _; iexact Hi
    isplitl [Hp]; · iexists _; iexact Hp
    isplitl [Hk]; · iexact Hk
    isplitl [Hb] <;> iassumption
  isplitl [Hs5 Hs6 Ha Hc]
  · isplitl [Hs5]; · iexact Hs5
    isplitl [Hs6]; · iexact Hs6
    isplitl [Ha] <;> iassumption
  iexact HO

end

end Cert.KernelIdeal.Wave
-- ==== Proof.Deal.lean ====
/- The output's rows dealt to the subcores by the sorted positions, and the read arrays dealt by shares. -/
module

public import proofs.«01_k».proof.Proof.Tile

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

section
variable {d : Dev nD}

theorem sep_range_add (Φ : ℕ → sProp 𝕄) (n : ℕ) :
    ∀ b : ℕ, bigSep (Finset.range (n + b)) Φ = iprop(bigSep (Finset.range n) Φ ∗ bigSep (Finset.range b) fun j => Φ (n + j))
  | 0 => by
    rw [Nat.add_zero, Finset.range_zero, bigSep_empty]
    refine BI.equiv_iff.mp ⟨?_, ?_⟩
    · show bigSep (Finset.range n) Φ ⊢ iprop(bigSep (Finset.range n) Φ ∗ emp)
      iintro H; isplitl [H]; · iexact H
      iempintro
    · show iprop(bigSep (Finset.range n) Φ ∗ emp) ⊢ bigSep (Finset.range n) Φ
      iintro ⟨H, -⟩; iexact H
  | b + 1 => by
    have e : Finset.range (n + (b + 1)) = insert (n + b) (Finset.range (n + b)) := Finset.range_add_one
    rw [e, Finset.range_add_one, bigSep_insert Finset.notMem_range_self, bigSep_insert Finset.notMem_range_self, sep_range_add Φ n b]
    refine BI.equiv_iff.mp ⟨?_, ?_⟩
    · show iprop(Φ (n + b) ∗ bigSep (Finset.range n) Φ ∗ bigSep (Finset.range b) fun j => Φ (n + j)) ⊢ iprop(bigSep (Finset.range n) Φ ∗ Φ (n + b) ∗ bigSep (Finset.range b) fun j => Φ (n + j))
      iintro ⟨H1, H, H2⟩
      isplitl [H]; · iexact H
      isplitl [H1] <;> iassumption
    · show iprop(bigSep (Finset.range n) Φ ∗ Φ (n + b) ∗ bigSep (Finset.range b) fun j => Φ (n + j)) ⊢ iprop(Φ (n + b) ∗ bigSep (Finset.range n) Φ ∗ bigSep (Finset.range b) fun j => Φ (n + j))
      iintro ⟨H, H1, H2⟩
      isplitl [H1]; · iexact H1
      isplitl [H] <;> iassumption

theorem sep_range_mul (Φ : ℕ → sProp 𝕄) (b : ℕ) :
    ∀ a : ℕ, bigSep (Finset.range (a * b)) Φ = bigSep (Finset.range a) fun i => bigSep (Finset.range b) fun j => Φ (i * b + j)
  | 0 => by rw [Nat.zero_mul, Finset.range_zero, bigSep_empty, bigSep_empty]
  | a + 1 => by
    rw [Nat.succ_mul, sep_range_add Φ (a * b) b, sep_range_mul Φ b a, Finset.range_add_one, bigSep_insert Finset.notMem_range_self]
    exact BI.equiv_iff.mp ⟨BI.sep_comm, BI.sep_comm⟩

theorem sep_univ (Φ : ℕ → sProp 𝕄) (n : ℕ) : (bigSep Finset.univ fun i : Fin n => Φ i.val) = bigSep (Finset.range n) Φ := by
  rw [← Nat.Iio_eq_range, ← Fin.map_valEmbedding_univ, bigSep_map]; rfl

theorem sep_two (Φ : ℕ → ℕ → sProp 𝕄) (S : Finset ℕ) :
    (bigSep S fun s => bigSep (Finset.range 2) fun c => Φ s c) = bigSep (Finset.range 2) fun c => bigSep S fun s => Φ s c := by
  have h : ∀ Ψ : ℕ → sProp 𝕄, bigSep (Finset.range 2) Ψ = iprop(Ψ 1 ∗ Ψ 0) := fun Ψ => by
    rw [show Finset.range 2 = insert 1 {0} by decide, bigSep_insert (by decide), bigSep_singleton]; rfl
  rw [h]
  rw [bigSep_congr fun s _ => h (fun c => Φ s c)]
  exact bigSep_sep' ..

/-- The coordinates of a subcore. -/
def coords (c : Fin 2) (s : Fin 16) : grid0.Coords :=
  fun | 0 => c | 1 => s | ⟨_ + 2, h⟩ => absurd h (Nat.not_lt.2 (Nat.le_add_left _ _))

/-- The output of a device, of which each subcore has its rows. -/
abbrev oL (d : Dev nD) : Loc nD τ sig := (SparseCore.T d).loc main_v5

theorem chunk_own (c : Fin 2) (s : Fin 16) (Y : S16384.Idx → BitVec 32) {n : ℕ} (hn : n < 32) (l : Fin 16) :
    chunk (own (coords c s) Y) n (ln l) = Y (ix16384 ((((s.val * 2 + c.val) * 32) + n) * 16 + l.val)) := by
  show Y (ix16384 (base (coords c s) + (ix512 (16 * n + (laneOf (ln l)).val) 0).val)) = _
  have h : ((ix512 (16 * n + (laneOf (ln l)).val)) 0).val = (16 * n + l.val) % 512 := rfl
  rw [h]
  have hb : base (coords c s) = (s.val * 2 + c.val) * 512 := rfl
  have hl : l.val < 16 := l.isLt
  rw [hb]
  congr 2
  omega

theorem onto_of_inj {N : ℕ} (f : ℕ → ℕ) (hlt : ∀ k < N, f k < N) (hinj : ∀ k k' : ℕ, k < N → k' < N → f k = f k' → k = k') :
    ∀ y < N, ∃ k < N, f k = y := by
  intro y hy
  have hs : Function.Surjective (fun k : Fin N => (⟨f k.val, hlt _ k.isLt⟩ : Fin N)) :=
    Finite.surjective_of_injective fun k k' h => Fin.ext (hinj k.val k'.val k.isLt k'.isLt (congrArg Fin.val h))
  obtain ⟨k, hk⟩ := hs ⟨y, hy⟩
  exact ⟨k.val, k.isLt, congrArg Fin.val hk⟩

theorem cover {A : Type} [Fintype A] [DecidableEq A] (R : Finset ℕ) (K : ℕ → Finset A) (h : ∀ x, ∃ k ∈ R, x ∈ K k) : R.biUnion K = Finset.univ :=
  Finset.eq_univ_iff_forall.mpr fun x => Finset.mem_biUnion.mpr (h x)

theorem rows_all {Y : S16384.Idx → BitVec 32} (hlt : ∀ k, (Y k).toNat < 16384)
    (hinj : ∀ k k' : ℕ, k < 16384 → k' < 16384 → (Y (ix16384 k)).toNat = (Y (ix16384 k')).toNat → k = k') (g : S16384x64.Idx → F .f32) :
    (oL d ↦{fullShare} g : sProp 𝕄) = bigSep Finset.univ fun c : Fin 2 => bigSep Finset.univ fun s : Fin 16 =>
      rowsOf d (cI (coords c s)) (sI (coords c s)) (own (coords c s) Y) g (Finset.range 32) := by
  have e1 : (oL d ↦{fullShare} g : sProp 𝕄) = bigSep (Finset.range 16384) fun k => oL d ↦[orow (Y (ix16384 k)).toNat]{fullShare} g := by
    have hc : (Finset.range 16384).biUnion (fun k => orow (Y (ix16384 k)).toNat) = (Finset.univ : Finset S16384x64.Idx) := by
      refine cover _ _ fun x => ?_
      have hx : (x 0).val < 16384 := (x 0).isLt
      have h := onto_of_inj (N := 16384) (fun k => (Y (ix16384 k)).toNat) (fun k _ => hlt _) hinj (x 0).val hx
      simp only [Finset.mem_range, mem_orow]
      exact h.elim fun k h => ⟨k, h.1, h.2.symm⟩
    rw [← pointsTo_biUnion (ℓ := oL d) (Finset.range 16384) (fun k => orow (Y (ix16384 k)).toNat), hc]
    intro k hk k' hk' hne
    refine Finset.disjoint_left.mpr fun x hx hx' => hne (hinj k k' (Finset.mem_range.mp hk) (Finset.mem_range.mp hk') ?_)
    exact (mem_orow.mp hx).symm.trans (mem_orow.mp hx')
  rw [e1, show 16384 = 16 * 2 * 32 * 16 from rfl, sep_range_mul _ 16 (16 * 2 * 32), sep_range_mul _ 32 (16 * 2), sep_range_mul _ 2 16, sep_two, ← sep_univ _ 2]
  refine bigSep_congr fun c _ => ?_
  rw [← sep_univ _ 16]
  refine bigSep_congr fun s _ => ?_
  unfold rowsOf
  refine bigSep_congr fun n hn => ?_
  rw [← sep_univ _ 16]
  unfold outRows
  refine bigSep_congr fun l _ => ?_
  rw [chunk_own c s Y (Finset.mem_range.mp hn) l]

theorem toks_of {ℓ : Loc nD τ sig} {q : PosShare TreeShare} {f : Buf (Elt F) ℓ} (n : ℕ) :
    (ℓ ↦{q} f : sProp 𝕄) ⊢ bigSep Finset.univ fun i : Fin n => ℓ ↦{shareTok q n i} f := by
  iintro H
  ihave H := (pointsTo_toks_split q n) $$ H
  icases H with ⟨-, H⟩
  iexact H

end

end Cert.KernelIdeal.Wave
-- ==== Proof.Launch.lean ====
/- The launch's set-up: what the call carries to the subcores and back, a subcore's obligation, the split. -/
module

public import proofs.«01_k».proof.Proof.Deal

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩
omit [FloatOps F] in
theorem nCore_zero : (K (F := F)).nCore 0 = 2 := rfl

/-! ## A subcore's own semaphores and buffers -/

section
variable (d : Dev nD) (c : Fin τ.nSC) (s : Fin τ.nSub)

abbrev cell (c : Fin τ.nSC) (s : Fin τ.nSub) (a : DmaSem sig) : GSem nD τ sig := (V d c s, SemLoc.dma a)

/-- The kernel's four semaphores, and the set of them. -/
def semList : Finset (DmaSem sig) := {cc0_scratch5.sem, cc0_scratch6.sem, cc0_scoped0.sem, cc0_scoped1.sem}

omit [FloatOps F] in
theorem cell_inj : Function.Injective (cell d c s) := fun a b h => by
  have h2 := congrArg Prod.snd h
  exact SemLoc.dma.inj h2

omit [FloatOps F] in
theorem sems_own : ∃ R : sProp 𝕄, (ownSems0 (V d c s) : sProp 𝕄) = iprop(Sems d c s ∗ R) := by
  have hs : semList.map ⟨cell d c s, cell_inj d c s⟩ ⊆ ownCells (V d c s) := by
    intro g hg
    obtain ⟨a, ha, rfl⟩ := Finset.mem_map.mp hg
    refine mem_ownCells.mpr ⟨rfl, ?_⟩
    show (SemLoc.dma a : SemLoc sig).isScoped .scVector = true
    revert a
    have h : ∀ a ∈ semList, (SemLoc.dma a : SemLoc sig).isScoped .scVector = true := by decide
    exact fun a ha _ => h a ha
  refine ⟨bigSep (ownCells (V d c s) \ semList.map ⟨cell d c s, cell_inj d c s⟩) fun g => semVal g 0, ?_⟩
  unfold SparseCore.Cfg.ownSems0
  conv_lhs => rw [← Finset.union_sdiff_of_subset hs]
  rw [bigSep_union Finset.disjoint_sdiff, bigSep_map]
  congr 1
  unfold semList Sems
  rw [bigSep_insert (by decide), bigSep_insert (by decide), bigSep_insert (by decide), bigSep_singleton]
  rfl

theorem refs : cc0_scratch0 ∉ ({cc0_scratch1, cc0_scratch2, cc0_scratch3, cc0_scratch4} : Finset (Ref sig .scVector))
    ∧ cc0_scratch1 ∉ ({cc0_scratch2, cc0_scratch3, cc0_scratch4} : Finset (Ref sig .scVector))
    ∧ cc0_scratch2 ∉ ({cc0_scratch3, cc0_scratch4} : Finset (Ref sig .scVector)) ∧ cc0_scratch3 ∉ ({cc0_scratch4} : Finset (Ref sig .scVector)) := by decide

/-- The kernel's five scratch buffers. -/
def refList : Finset (Ref sig .scVector) := {cc0_scratch0, cc0_scratch1, cc0_scratch2, cc0_scratch3, cc0_scratch4}

omit [FloatOps F] in
theorem bufs_own : ∃ R : sProp 𝕄, (ownBufs (V d c s) : sProp 𝕄) = iprop(Scratch d c s ∗ R) := by
  have hs : refList.map ⟨(Proc.scVector c s).devRef, Proc.devRef_injective _⟩ ⊆ ownRefs (τ := τ) (.scVector c s) := by
    intro g hg
    obtain ⟨a, ha, rfl⟩ := Finset.mem_map.mp hg
    refine SparseCore.Cfg.mem_ownRefs_of_owner (p := Proc.scVector c s) ?_
    unfold refList at ha
    simp only [Finset.mem_insert, Finset.mem_singleton] at ha
    rcases ha with h | h | h | h | h <;> rw [h] <;> rfl
  refine ⟨bigSep (ownRefs (τ := τ) (.scVector c s) \ refList.map ⟨(Proc.scVector c s).devRef, Proc.devRef_injective _⟩) fun b => iprop(∃ f, ((d, b) : Loc nD τ sig) ↦{fullShare} f), ?_⟩
  unfold SparseCore.Cfg.ownBufs
  conv_lhs => rw [← Finset.union_sdiff_of_subset hs]
  rw [bigSep_union Finset.disjoint_sdiff, bigSep_map]
  congr 1
  unfold refList Scratch
  rw [bigSep_insert refs.1, bigSep_insert refs.2.1, bigSep_insert refs.2.2.1, bigSep_insert refs.2.2.2, bigSep_singleton]
  rfl

end

/-! ## What the call carries -/

section
variable (T : Dev nD → S8x8x1000064.Idx → F .f32) (X Y : Dev nD → S16384.Idx → BitVec 32) (g G : Dev nD → S16384x64.Idx → F .f32)

/-- A core's and a subcore's share of the arrays that are only read. -/
abbrev qC (c : Fin 2) : PosShare TreeShare := shareTok fullShare 2 c
abbrev qT (c : Fin 2) (s : Fin 16) : PosShare TreeShare := shareTok (qC c) 16 s

def Rows (d : Dev nD) (Y : S16384.Idx → BitVec 32) (g : S16384x64.Idx → F .f32) (c : Fin 2) (s : Fin 16) : sProp 𝕄 :=
  rowsOf d (cI (coords c s)) (sI (coords c s)) (own (coords c s) Y) g (Finset.range 32)

abbrev tL (d : Dev nD) : Loc nD τ sig := (SparseCore.T d).loc main_v2
abbrev xL (d : Dev nD) : Loc nD τ sig := (SparseCore.T d).loc main_v4_0
abbrev yL (d : Dev nD) : Loc nD τ sig := (SparseCore.T d).loc main_v4_1

def St (d : Dev nD) (c : Fin 2) : sProp 𝕄 :=
  iprop((tL d ↦{qC c} T d) ∗ (xL d ↦{qC c} X d) ∗ (yL d ↦{qC c} Y d) ∗ bigSep Finset.univ fun s : Fin 16 => Rows d (Y d) (g d) c s)
def Go (d : Dev nD) (c : Fin 2) (s : Fin 16) : sProp 𝕄 :=
  iprop((tL d ↦{qT c s} T d) ∗ (xL d ↦{qT c s} X d) ∗ (yL d ↦{qT c s} Y d) ∗ Rows d (Y d) (g d) c s)
def Dn (d : Dev nD) (c : Fin 2) : sProp 𝕄 := bigSep Finset.univ fun s : Fin 16 => Rows d (Y d) (G d) c s

instance rows_storable (d : Dev nD) (Y : S16384.Idx → BitVec 32) (g : S16384x64.Idx → F .f32) (c : Fin 2) (s : Fin 16) :
    BI.Storable (upEmb : UEmb _ 𝕄) (Rows d Y g c s) := by unfold Rows rowsOf outRows; infer_instance
instance st_storable (d : Dev nD) (c : Fin 2) : BI.Storable (upEmb : UEmb _ 𝕄) (St T X Y g d c) := by unfold St; infer_instance
instance go_storable (d : Dev nD) (c : Fin 2) (s : Fin 16) : BI.Storable (upEmb : UEmb _ 𝕄) (Go T X Y g d c s) := by unfold Go; infer_instance
instance dn_storable (d : Dev nD) (c : Fin 2) : BI.Storable (upEmb : UEmb _ 𝕄) (Dn Y G d c) := by unfold Dn; infer_instance

attribute [irreducible] St Go Dn Rows

def P : (K (F := F)).Pay (nD := nD) (Val := Elt F) (Name := ℕ) (U := UU) where
  st := fun q d c => match q with | 0 => St T X Y g d (Fin.cast nCore_zero c)
  dn := fun q d c => match q with | 0 => Dn Y G d (Fin.cast nCore_zero c)
  go := fun q d c i => match q with | 0 => Go T X Y g d (Fin.cast nCore_zero c) (Fin.cast nSub_zero i)
  td := fun q d c i => match q with | 0 => Rows d (Y d) (G d) (Fin.cast nCore_zero c) (Fin.cast nSub_zero i)
  x := fun _ _ => iprop(emp)

instance P_storable : (P T X Y g G).IsStorable where
  st q d c := match q with | 0 => st_storable T X Y g d _
  dn q d c := match q with | 0 => dn_storable Y G d _
  go q d c i := match q with | 0 => go_storable T X Y g d _ _
  td q d c i := match q with | 0 => rows_storable d (Y d) (G d) _ _

/-! ## A subcore's obligation -/

/-- What the waves' values need: at every subcore and wave. -/
def AllOk (d : Dev nD) : Prop := ∀ (c : Fin 2) (s : Fin 16), ∀ t < 32, WaveOk (T d) (G d) (chunk (own (coords c s) (X d)) t) (chunk (own (coords c s) (Y d)) t)

theorem tile_body (hF : (K (F := F)).Facts) (d : Dev nD) (c : Fin 2) (s : Fin 16) (hok : AllOk T X Y G d)
    (O : CellTallies nD τ sig (HIx 1)) (W : Waits sig (HIx 1)) (hO : ∀ g, O g none = 0) :
    iprop(levAts (K (F := F)).L (K (F := F)).lev ∗ emp ∗ Go T X Y g d c s
        ∗ scopedBufs (V d (cI (coords c s)) (sI (coords c s))) ∗ scopedSems0 (V d (cI (coords c s)) (sI (coords c s))) ∗ owes (V d (cI (coords c s)) (sI (coords c s))) O W)
      ⊢ W1 d (cI (coords c s)) (sI (coords c s)) (cc0__gather_kernel (coords c s) tabM (Memref.isWhole_whole _) sidxM (Memref.isWhole_whole _) sposM (Memref.isWhole_whole _)
            outM (Memref.isWhole_whole _) idxvM (Memref.isWhole_whole _) posvM (Memref.isWhole_whole _) blkvM (Memref.isWhole_whole _) bufM (Memref.isWhole_whole _)
            rowvM (Memref.isWhole_whole _) cc0_scratch5 cc0_scratch6 cc0_scoped0 cc0_scoped1)
          fun _ => iprop(Rows d (Y d) (G d) c s
            ∗ scopedBufs (V d (cI (coords c s)) (sI (coords c s))) ∗ scopedSems0 (V d (cI (coords c s)) (sI (coords c s)))
            ∗ ∃ W', ⌜∀ p ∈ W', p ∈ W ∨ p.2 = none ∨ p.2 = some (0 : Fin 1)⌝ ∗ owes (V d (cI (coords c s)) (sI (coords c s))) O W') := by
  obtain ⟨RS, hRS⟩ := sems_own (F := F) d (cI (coords c s)) (sI (coords c s))
  obtain ⟨RB, hRB⟩ := bufs_own (F := F) d (cI (coords c s)) (sI (coords c s))
  rw [(K (F := F)).scopedBufs_V hF d (cI (coords c s)) (sI (coords c s)), SparseCore.Cfg.scopedSems0_V (Val := Elt F) d (cI (coords c s)) (sI (coords c s)), hRS, hRB, kernel_eq]
  iintro ⟨#Hlv, -, Hgo, ⟨Hb, HRB⟩, ⟨Hs, HRS⟩, HO⟩
  ihave #HM := (show levAts (K (F := F)).L (K (F := F)).lev ⊢ MayWaits (V d (cI (coords c s)) (sI (coords c s))) (none : HIx 1) O from
    (K (F := F)).mayWaits_none (thr := V d (cI (coords c s)) (sI (coords c s))) hO) $$ Hlv
  ihave Hw := (kern_wp (d := d) (i := coords c s) (q := qT c s) (T := T d) (G := G d) (g := g d) (X := X d) (Y := Y d) (hok c s) (O := O) (W := W)) $$ [Hgo Hb Hs HO]
  · isplitl [Hgo]; · unfold Go Rows Dealt; iexact Hgo
    isplitl [Hb]; · iexact Hb
    isplitl [Hs]; · iexact Hs
    isplitl [HO]
    · unfold owesUp; iexists W; isplitr
      · ipureintro; exact fun p hp => .inl hp
      · iexact HO
    iexact HM
  iapply (wp_wand frame (wpE defs₀ 𝒱₀ (V d (cI (coords c s)) (sI (coords c s))) none)) $$ Hw
  iintro %a ⟨HD, Hb, Hs, HO⟩
  unfold Dealt owesUp
  icases HD with ⟨-, -, -, HR⟩
  icases HO with ⟨%W', %hW', HO⟩
  isplitl [HR]; · unfold Rows; iexact HR
  isplitl [Hb HRB]; · isplitl [Hb] <;> iassumption
  isplitl [Hs HRS]; · isplitl [Hs] <;> iassumption
  iexists W'
  isplitr
  · ipureintro
    intro p hp
    rcases hW' p hp with h | h
    · exact .inl h
    · exact .inr (.inl h)
  · iexact HO

theorem defs₀_vector (c : Fin τ.nSC) (s : Fin τ.nSub) :
    defs₀ (F := F) (.scVector c s) 0 ()
      = SparseCore.onTile hcore0 hsub0 (fun c s => cc0__gather_kernel (coords c s) tabM (Memref.isWhole_whole _) sidxM (Memref.isWhole_whole _) sposM (Memref.isWhole_whole _)
            outM (Memref.isWhole_whole _) idxvM (Memref.isWhole_whole _) posvM (Memref.isWhole_whole _) blkvM (Memref.isWhole_whole _) bufM (Memref.isWhole_whole _)
            rowvM (Memref.isWhole_whole _) cc0_scratch5 cc0_scratch6 cc0_scoped0 cc0_scoped1) ⟨⟩ c s := rfl

theorem tileObl (hF : (K (F := F)).Facts) (hok : ∀ d, AllOk T X Y G d) : (K (F := F)).TileObl (D (F := F)) 𝒱 (P T X Y g G) v₀ 0 := by
  intro d c i O W hO _ _
  simp only [show (P T X Y g G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body T X Y g G hF d (Fin.cast nCore_zero c) (Fin.cast nSub_zero i) (hok d) O W hO

/-! ## The split -/

omit [FloatOps F] in
theorem sep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem sep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P T X Y g G) 0 := by
  intro d c
  show St T X Y g d (Fin.cast nCore_zero c) ⊢ |={Set.univ}=> iprop(
      (bigSep Finset.univ fun i : Fin ((K (F := F)).nSub 0) => Go T X Y g d (Fin.cast nCore_zero c) (Fin.cast nSub_zero i))
      ∗ ((bigSep Finset.univ fun i : Fin ((K (F := F)).nSub 0) => Rows d (Y d) (G d) (Fin.cast nCore_zero c) (Fin.cast nSub_zero i)) -∗ Dn Y G d (Fin.cast nCore_zero c)))
  rw [sep_subs (F := F) (fun i => Go T X Y g d (Fin.cast nCore_zero c) i), sep_subs (F := F) (fun i => Rows d (Y d) (G d) (Fin.cast nCore_zero c) i)]
  generalize Fin.cast nCore_zero c = c
  unfold Go St Dn
  rw [bigSep_sep', bigSep_sep', bigSep_sep']
  iintro ⟨HT, HX, HY, HR⟩
  imodintro
  isplitl
  · isplitl [HT]; · iapply (toks_of 16); iexact HT
    isplitl [HX]; · iapply (toks_of 16); iexact HX
    isplitl [HY]; · iapply (toks_of 16); iexact HY
    iexact HR
  iintro H
  iexact H

/-- The arrays whole are what the two cores are given. -/
theorem st_all (d : Dev nD) (hlt : ∀ k, (Y d k).toNat < 16384)
    (hinj : ∀ k k' : ℕ, k < 16384 → k' < 16384 → (Y d (ix16384 k)).toNat = (Y d (ix16384 k')).toNat → k = k') :
    iprop((tL d ↦{fullShare} T d) ∗ (xL d ↦{fullShare} X d) ∗ (yL d ↦{fullShare} Y d) ∗ oL d ↦{fullShare} g d)
      ⊢ bigSep Finset.univ fun c : Fin ((K (F := F)).nCore 0) => (P T X Y g G).st 0 d c := by
  refine .trans ?_ (Entails.of_eq (sep_cores (F := F) (fun c => St T X Y g d c)).symm)
  unfold St Rows
  rw [bigSep_sep', bigSep_sep', bigSep_sep', rows_all hlt hinj]
  iintro ⟨HT, HX, HY, HR⟩
  isplitl [HT]; · iapply (toks_of 2); iexact HT
  isplitl [HX]; · iapply (toks_of 2); iexact HX
  isplitl [HY]; · iapply (toks_of 2); iexact HY
  iexact HR

theorem dn_all (d : Dev nD) (hlt : ∀ k, (Y d k).toNat < 16384)
    (hinj : ∀ k k' : ℕ, k < 16384 → k' < 16384 → (Y d (ix16384 k)).toNat = (Y d (ix16384 k')).toNat → k = k') :
    (bigSep Finset.univ fun c : Fin ((K (F := F)).nCore 0) => (P T X Y g G).dn 0 d c) = (oL d ↦{fullShare} G d : sProp 𝕄) := by
  refine (sep_cores (F := F) (fun c => Dn Y G d c)).trans ?_
  unfold Dn Rows
  exact (rows_all hlt hinj (G d)).symm

/-! ## The launch element -/

def u₀ : UU := (initOf (K (F := F)).hsCells (K (F := F)).hsToks, 1)

omit [FloatOps F] in
theorem sep_emp_const {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P T X Y g G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [sep_emp_const]; iempintro
  rw [show (bigSep Finset.univ fun thr : Thread nD τ => bigSep Finset.univ fun q : Fin 1 => (P (F := F) T X Y g G).x q thr) = bigSep Finset.univ fun _ => iprop(emp) from
    bigSep_congr fun _ _ => bigSep_univ_of_subsingleton (0 : Fin 1), sep_emp_const]
  iempintro

end

end Cert.KernelIdeal.Wave
-- ==== Proof.Sort.lean ====
/- The sort of the index list with its positions: the second list holds every position once, and the first the entries at those. -/
module

public import proofs.«01_k».proof.Proof.Launch
public import Idealize.ShloMosaic.Lib.SortFacts

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

/-- The one-coordinate index. -/
def at1 {n : ℕ} (k : Fin n) : (⟨1, ![n]⟩ : Shape).Idx := fun | 0 => k

theorem at1_self {n : ℕ} (j : (⟨1, ![n]⟩ : Shape).Idx) : at1 (j 0) = j := by
  funext a
  match a with
  | 0 => rfl

theorem along_at1 {n : ℕ} (j : (⟨1, ![n]⟩ : Shape).Idx) (k : Fin n) : j.along (0 : Fin 1) k = at1 k := by
  funext a
  match a with
  | 0 => exact Function.update_self _ _ _

/-- Two lists sorted together are permuted alike. -/
theorem sort_pair {n : ℕ} {α β : Type} (cmp : α × β → α × β → BitVec 1) (x : (⟨1, ![n]⟩ : Shape).Idx → α) (y : (⟨1, ![n]⟩ : Shape).Idx → β) :
    ∃ σ : Fin n → Fin n, Function.Injective σ ∧ (∀ j, (Host.sort2 ⟨1, ![n]⟩ 0 cmp x y).1 j = x (at1 (σ (j 0))))
      ∧ ∀ j, (Host.sort2 ⟨1, ![n]⟩ 0 cmp x y).2 j = y (at1 (σ (j 0))) := by
  refine ⟨sortedFrom fun k k' => cmp (x (at1 k), y (at1 k)) (x (at1 k'), y (at1 k')) == 1#1, sortedFrom_injective _, fun j => ?_, fun j => ?_⟩
  · unfold Host.sort2
    rw [dif_pos (show 0 < (⟨1, ![n]⟩ : Shape).rank from Nat.one_pos)]
    refine (congrArg x (along_at1 j _)).trans (congrArg x (congrArg at1 (congrArg (fun b => sortedFrom b (j 0)) ?_)))
    funext k k'
    exact congrArg₂ (fun a b => cmp (x a, y a) (x b, y b) == 1#1) (along_at1 j k) (along_at1 j k')
  · unfold Host.sort2
    rw [dif_pos (show 0 < (⟨1, ![n]⟩ : Shape).rank from Nat.one_pos)]
    refine (congrArg y (along_at1 j _)).trans (congrArg y (congrArg at1 (congrArg (fun b => sortedFrom b (j 0)) ?_)))
    funext k k'
    exact congrArg₂ (fun a b => cmp (x a, y a) (x b, y b) == 1#1) (along_at1 j k) (along_at1 j k')

/-- The positions' list holds every position once, and the entries' list the entries at those. -/
theorem sort_iota (cmp : BitVec 32 × BitVec 32 → BitVec 32 × BitVec 32 → BitVec 1) (x : S16384.Idx → BitVec 32) :
    ∃ σ : Fin 16384 → Fin 16384, Function.Injective σ
      ∧ (∀ j, (Host.sort2 S16384 0 cmp x (iotaInDim S16384 32 0)).1 j = x (at1 (σ (j 0))))
      ∧ ∀ j, ((Host.sort2 S16384 0 cmp x (iotaInDim S16384 32 0)).2 j).toNat = (σ (j 0)).val := by
  obtain ⟨σ, hσ, h1, h2⟩ := sort_pair (n := 16384) cmp x (iotaInDim S16384 32 0)
  refine ⟨σ, hσ, h1, fun j => ?_⟩
  refine (congrArg BitVec.toNat (h2 j)).trans ?_
  show (BitVec.ofNat 32 (σ (j 0)).val).toNat = _
  rw [BitVec.toNat_ofNat]
  exact Nat.mod_eq_of_lt (Nat.lt_trans (σ (j 0)).isLt (by decide))

section
variable {cmp : BitVec 32 × BitVec 32 → BitVec 32 × BitVec 32 → BitVec 1} {x : S16384.Idx → BitVec 32}

theorem sort_lt (k : S16384.Idx) : ((Host.sort2 S16384 0 cmp x (iotaInDim S16384 32 0)).2 k).toNat < 16384 := by
  obtain ⟨σ, -, -, h2⟩ := sort_iota cmp x
  rw [h2]; exact (σ (k 0)).isLt

theorem sort_inj (k k' : ℕ) (hk : k < 16384) (hk' : k' < 16384)
    (h : ((Host.sort2 S16384 0 cmp x (iotaInDim S16384 32 0)).2 (ix16384 k)).toNat
      = ((Host.sort2 S16384 0 cmp x (iotaInDim S16384 32 0)).2 (ix16384 k')).toNat) : k = k' := by
  obtain ⟨σ, hσ, -, h2⟩ := sort_iota cmp x
  rw [h2, h2] at h
  have e := congrArg Fin.val (hσ (Fin.ext h))
  have e' : k % 16384 = k' % 16384 := e
  rwa [Nat.mod_eq_of_lt hk, Nat.mod_eq_of_lt hk'] at e'

/-- The sorted entry is the entry at the position beside it. -/
theorem sort_val (j : S16384.Idx) :
    (Host.sort2 S16384 0 cmp x (iotaInDim S16384 32 0)).1 j = x (ix16384 ((Host.sort2 S16384 0 cmp x (iotaInDim S16384 32 0)).2 j).toNat) := by
  obtain ⟨σ, -, h1, h2⟩ := sort_iota cmp x
  rw [h1, h2]
  refine congrArg x (funext fun a => ?_)
  match a with
  | 0 => exact Fin.ext (Nat.mod_eq_of_lt (σ (j 0)).isLt).symm

/-- The waves' values, of a table and an index list in range: row `b` of the result is column `x b` of the table. -/
theorem sort_ok {T : S8x8x1000064.Idx → F .f32} (hx : ∀ k, (x k).toNat < 1000000) (c : Fin 2) (s : Fin 16) (t : ℕ) (ht : t < 32) :
    WaveOk T (fun e => Tn T ((e 1).val / 8) ((e 1).val % 8) (x (ix16384 (e 0).val)).toNat)
      (chunk (own (coords c s) (Host.sort2 S16384 0 cmp x (iotaInDim S16384 32 0)).1) t)
      (chunk (own (coords c s) (Host.sort2 S16384 0 cmp x (iotaInDim S16384 32 0)).2) t) where
  lt l := by rw [chunk_own c s _ ht l, sort_val]; exact hx _
  row l := by rw [chunk_own c s _ ht l]; exact sort_lt _
  val l e he := by
    rw [mem_orow, chunk_own c s _ ht l] at he
    have h := chunk_own c s (Host.sort2 S16384 0 cmp x (iotaInDim S16384 32 0)).1 ht l
    rw [sort_val, ← he] at h
    unfold Rv
    refine congrArg (fun w => Tn T ((e 1).val / 8) ((e 1).val % 8) (BitVec.toNat w)) h.symm

end

end Cert.KernelIdeal.Wave
-- ==== Proof.Host.lean ====
/- The program's run: the host's operations, the call, and what is left; from it the frames. -/
module

public import proofs.«01_k».proof.Proof.Sort
public import Idealize.ShloMosaic.Lib.SparseCore.Quiescent
public import Idealize.ShloMosaic.Lib.StableHlo.Run

@[expose] public section

noncomputable section

namespace Cert.KernelIdeal.Wave

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Idealize.ShloMosaic.StableHlo (seq after after_cons after_nil held wp_seq)

variable {F : FTy → Type}

local notation "𝕄" => MT nD τ sig (HIx 1) (Elt F) ℕ UU ℕ

variable [FloatOps F]

section
variable (m : (ℓ : Loc nD τ sig) → Buf (Elt F) ℓ) (ρ : Dev nD → PrngReg)

/-! ## The host's operations -/

abbrev opT : HloOp τ sig (Elt F) := StableHlo.unary main_arg0 main_v0 ((transpose S64x1000000 [1, 0] · transposes_S1000000x64_S64x1000000_1_0) : (⟨S1000000x64, .f32⟩ : BufTy).Contents (Elt F) → (⟨S64x1000000, .f32⟩ : BufTy).Contents (Elt F))
abbrev opR : HloOp τ sig (Elt F) := StableHlo.reshape main_v0 main_v1 (rfl : (.f32 : EltTy) = .f32) shapeCasts_S64x1000000_S8x8x1000000
abbrev opC : HloOp τ sig (Elt F) := StableHlo.nullary main_c (constantI S_ 32 0#32)
abbrev opZ : HloOp τ sig (Elt F) := StableHlo.unary main_c main_call0_v0 (sitofp .f32)
abbrev opP : HloOp τ sig (Elt F) := StableHlo.binary main_v1 main_call0_v0 main_v2 (fun x v => pad S8x8x1000064 ![0, 0, 0] ![0, 0, 64] ![0, 0, 0] x v pads_S8x8x1000000_S8x8x1000064_000_000_0640 h_S_)
abbrev opI : HloOp τ sig (Elt F) := StableHlo.nullary main_v3 (iotaInDim S16384 32 0)
abbrev opX : HloOp τ sig (Elt F) := StableHlo.binary main_arg1 main_v3 main_v4_0 ((fun x y => (Host.sort2 S16384 0 comparator_i32_i32_d0 x y).1) : (⟨S16384, .i32⟩ : BufTy).Contents (Elt F) → (⟨S16384, .i32⟩ : BufTy).Contents (Elt F) → (⟨S16384, .i32⟩ : BufTy).Contents (Elt F))
abbrev opY : HloOp τ sig (Elt F) := StableHlo.binary main_arg1 main_v3 main_v4_1 ((fun x y => (Host.sort2 S16384 0 comparator_i32_i32_d0 x y).2) : (⟨S16384, .i32⟩ : BufTy).Contents (Elt F) → (⟨S16384, .i32⟩ : BufTy).Contents (Elt F) → (⟨S16384, .i32⟩ : BufTy).Contents (Elt F))

abbrev ops : List (HloOp τ sig (Elt F)) := [opT, opR, opC, opZ, opP, opI, opX, opY]

theorem main_seq (d : Dev nD) : main (F := F) d = seq ops >>= fun _ => (sc.run d 0 >>= fun _ => pure ⟨⟩) := rfl

abbrev hb (b : Ref sig .tc) : DevRef τ sig := Proc.devRef .tc b

/-- The arrays the program holds. -/
abbrev S11 : Finset (DevRef τ sig) :=
  {hb main_arg0, hb main_arg1, hb main_v0, hb main_v1, hb main_c, hb main_call0_v0, hb main_v2, hb main_v3, hb main_v4_0, hb main_v4_1, hb main_v5}

theorem ops_in : ∀ op ∈ (ops : List (HloOp τ sig (Elt F))), op.bufs ⊆ S11 := by
  refine List.forall_iff_forall_mem.mp ?_
  exact ⟨show ({hb main_arg0, hb main_v0} : Finset _) ⊆ S11 by decide, show ({hb main_v0, hb main_v1} : Finset _) ⊆ S11 by decide,
    show ({hb main_c} : Finset _) ⊆ S11 by decide, show ({hb main_c, hb main_call0_v0} : Finset _) ⊆ S11 by decide,
    show ({hb main_v1, hb main_call0_v0, hb main_v2} : Finset _) ⊆ S11 by decide, show ({hb main_v3} : Finset _) ⊆ S11 by decide,
    show ({hb main_arg1, hb main_v3, hb main_v4_0} : Finset _) ⊆ S11 by decide, show ({hb main_arg1, hb main_v3, hb main_v4_1} : Finset _) ⊆ S11 by decide⟩

theorem ops_fresh : ∀ op ∈ (ops : List (HloOp τ sig (Elt F))), op.fresh = ∅ :=
  List.forall_iff_forall_mem.mp ⟨rfl, rfl, rfl, rfl, rfl, rfl, rfl, rfl⟩

theorem refs11 : (Finset.univ.filter fun b : Ref sig .tc => ¬ b.isScoped)
    = {main_arg0, main_arg1, main_v0, main_v1, main_c, main_call0_v0, main_v2, main_v3, main_v4_0, main_v4_1, main_v5} := by decide

/-- The valuation at the launch, and after the host's operations. -/
abbrev Vs (d : Dev nD) : Valuation τ sig (Elt F) := fun b => m (d, b)
def Ve (d : Dev nD) : Valuation τ sig (Elt F) := after ops (Vs m d)

omit [FloatOps F] in
theorem held11 (d : Dev nD) (W : Valuation τ sig (Elt F)) :
    (held (SparseCore.T d) S11 W : sProp 𝕄)
      = iprop(((SparseCore.T d).loc main_arg0 ↦{fullShare} W (hb main_arg0)) ∗ ((SparseCore.T d).loc main_arg1 ↦{fullShare} W (hb main_arg1)) ∗ ((SparseCore.T d).loc main_v0 ↦{fullShare} W (hb main_v0))
        ∗ ((SparseCore.T d).loc main_v1 ↦{fullShare} W (hb main_v1)) ∗ ((SparseCore.T d).loc main_c ↦{fullShare} W (hb main_c)) ∗ ((SparseCore.T d).loc main_call0_v0 ↦{fullShare} W (hb main_call0_v0))
        ∗ (tL d ↦{fullShare} W (hb main_v2)) ∗ ((SparseCore.T d).loc main_v3 ↦{fullShare} W (hb main_v3)) ∗ (xL d ↦{fullShare} W (hb main_v4_0)) ∗ (yL d ↦{fullShare} W (hb main_v4_1))
        ∗ oL d ↦{fullShare} W (hb main_v5)) := by
  unfold held S11
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem held_start (d : Dev nD) : (unscopedBufs d (fun b => m ((SparseCore.T d).loc b)) : sProp 𝕄) = held (SparseCore.T d) S11 (Vs m d) := by
  rw [held11]
  unfold unscopedBufs
  rw [refs11, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The arrays the call takes, and what it leaves -/

/-- The embeddings and the index list at the launch. -/
abbrev emb (d : Dev nD) : S1000000x64.Idx → F .f32 := m ((SparseCore.T d).loc main_arg0)
abbrev idx (d : Dev nD) : S16384.Idx → BitVec 32 := m ((SparseCore.T d).loc main_arg1)

/-- The padded table of an array of embeddings. -/
def table (e : S1000000x64.Idx → F .f32) : S8x8x1000064.Idx → F .f32 :=
  pad S8x8x1000064 ![0, 0, 0] ![0, 0, 64] ![0, 0, 0]
    (shapeCast S8x8x1000000 (transpose S64x1000000 [1, 0] e transposes_S1000000x64_S64x1000000_1_0) shapeCasts_S64x1000000_S8x8x1000000)
    (sitofp .f32 (constantI S_ 32 0#32)) pads_S8x8x1000000_S8x8x1000064_000_000_0640 h_S_

def Tb (d : Dev nD) : S8x8x1000064.Idx → F .f32 := table (emb m d)
def Xs (d : Dev nD) : S16384.Idx → BitVec 32 := (Host.sort2 S16384 0 comparator_i32_i32_d0 (idx m d) (iotaInDim S16384 32 0)).1
def Ys (d : Dev nD) : S16384.Idx → BitVec 32 := (Host.sort2 S16384 0 comparator_i32_i32_d0 (idx m d) (iotaInDim S16384 32 0)).2
def Os (d : Dev nD) : S16384x64.Idx → F .f32 := m (oL d)
/-- The result: row `b` is the table's column at the index list's entry `b`. -/
def Gs (d : Dev nD) : S16384x64.Idx → F .f32 := fun e => Tn (Tb m d) ((e 1).val / 8) ((e 1).val % 8) (idx m d (ix16384 (e 0).val)).toNat

theorem Ve_arg0 (d : Dev nD) : Ve m d (hb main_arg0) = m ((SparseCore.T d).loc main_arg0) := by unfold Ve; after_results <;> rfl
theorem Ve_arg1 (d : Dev nD) : Ve m d (hb main_arg1) = m ((SparseCore.T d).loc main_arg1) := by unfold Ve; after_results <;> rfl
theorem Ve_v5 (d : Dev nD) : Ve m d (hb main_v5) = Os m d := by unfold Ve; after_results <;> rfl
theorem Ve_v2 (d : Dev nD) : Ve m d (hb main_v2) = Tb m d := by unfold Ve; after_results <;> rfl
theorem Ve_x (d : Dev nD) : Ve m d (hb main_v4_0) = Xs m d := by unfold Ve; after_results <;> rfl
theorem Ve_y (d : Dev nD) : Ve m d (hb main_v4_1) = Ys m d := by unfold Ve; after_results <;> rfl

abbrev Pm : (K (F := F)).Pay (nD := nD) (Val := Elt F) (Name := ℕ) (U := UU) := P (Tb m) (Xs m) (Ys m) (Os m) (Gs m)

/-! ## The host's part of the run -/

/-- What the run leaves: the arguments as they were, and the result. -/
abbrev FIN (d : Dev nD) : sProp 𝕄 :=
  iprop(((SparseCore.T d).loc main_arg0 ↦{fullShare} emb m d) ∗ ((SparseCore.T d).loc main_arg1 ↦{fullShare} idx m d) ∗ oL d ↦{fullShare} Gs m d)

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_start, main_seq]
  iintro ⟨#Hctx, Hst, ⟨Hb, Hheld, Hts, -⟩, -⟩
  iapply (wp_seq 𝒱 none Set.univ d S11 (fun _ => (sc.run d 0 >>= fun _ => pure ⟨⟩)) ops ops_in ops_fresh (Vs m d)) $$ [Hb Hheld]
  · isplitl [Hb] <;> iassumption
  iintro ⟨Hb, Hheld⟩
  ihave Hh := (Entails.of_eq (show (held (SparseCore.T d) S11 (after ops (Vs m d)) : sProp 𝕄) = _ from held11 d (Ve m d))) $$ Hheld
  rw [Ve_arg0, Ve_arg1, Ve_v5, Ve_v2, Ve_x, Ve_y]
  icases Hh with ⟨Ha, Hi, -, -, -, -, HT, -, HX, HY, HO⟩
  simp only [wp_bind, wp_pure]
  iapply ((K (F := F)).wp_run (D (F := F)) 𝒱 (EH := EH) (P := Pm m) κ d 0) $$ [Hst HT HX HY HO Hb Ha Hi Hts]
  isplitr; · iexact Hctx
  isplitl [Hst]; · iexact Hst
  isplitl [HT HX HY HO]
  · iapply (st_all (Tb m) (Xs m) (Ys m) (Os m) (Gs m) d (fun k => sort_lt k) (fun k k' hk hk' h => sort_inj k k' hk hk' h))
    isplitl [HT]; · iexact HT
    isplitl [HX]; · iexact HX
    isplitl [HY]; · iexact HY
    iexact HO
  iintro ⟨Hst, Hdn⟩
  ihave Ho := (Entails.of_eq (dn_all (Tb m) (Xs m) (Ys m) (Os m) (Gs m) d (fun k => sort_lt k) (fun k k' hk hk' h => sort_inj k k' hk hk' h))) $$ Hdn
  imodintro
  isplitl [Hst]; · iexact Hst
  isplitr [Hb Hts]
  · isplitl [Ha]; · iexact Ha
    isplitl [Hi]; · iexact Hi
    iexact Ho
  isplitl [Hb] <;> iassumption

/-- What is read of the final state of a device. -/
def fq (d : Dev nD) (s' : Phys nD τ sig (Elt F)) : Prop :=
  s'.mem.mem (oL d) = Gs m d ∧ s'.mem.mem ((SparseCore.T d).loc main_arg0) = emb m d ∧ s'.mem.mem ((SparseCore.T d).loc main_arg1) = idx m d

theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := (SparseCore.T d).loc main_arg0) (I := Finset.univ) (q := fullShare) (f := emb m d))) $$ [HSI Ha]
  · isplitl [HSI] <;> iassumption
  icases H with ⟨%ha, HSI, -⟩
  ihave H := (persistent_entails_right (SI_pointsTo_agree (st := s') (ℓ := (SparseCore.T d).loc main_arg1) (I := Finset.univ) (q := fullShare) (f := idx m d))) $$ [HSI Hi]
  · isplitl [HSI] <;> iassumption
  icases H with ⟨%hi, HSI, -⟩
  ihave H := (SI_pointsTo_agree (st := s') (ℓ := oL d) (I := Finset.univ) (q := fullShare) (f := Gs m d)) $$ [HSI Ho]
  · isplitl [HSI] <;> iassumption
  icases H with %ho
  ipureintro
  exact ⟨funext fun i => ho i (Finset.mem_univ i), funext fun i => ha i (Finset.mem_univ i), funext fun i => hi i (Finset.mem_univ i)⟩

/-! ## The run -/

def QC : PUnit × MemSt nD τ sig (Elt F) → Prop := fun r =>
  (∀ c : Dev nD, r.2.mem (oL c) = Gs m c ∧ r.2.mem ((SparseCore.T c).loc main_arg0) = emb m c ∧ r.2.mem ((SparseCore.T c).loc main_arg1) = idx m c) ∧ r.2.sem = fun _ => 0

theorem all_ok (hx : ∀ d k, (idx m d k).toNat < 1000000) (d : Dev nD) : AllOk (Tb m) (Xs m) (Ys m) (Gs m) d :=
  fun c s t ht => sort_ok (hx d) c s t ht

/-- Every run of the program with its index list in range ends, nothing faulting, the result as said, the arguments unchanged, the counters at zero. -/
theorem run_main [∀ e, Nonempty (Elt F e)] (hx : ∀ d k, (idx m d k).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Tb m) (Xs m) (Ys m) (Os m) (Gs m) facts (all_ok m hx))
    (fun q _ => match q with | 0 => SparseCore.Cfg.VecSplit.of_plain (vecSplit (Tb m) (Xs m) (Ys m) (Os m) (Gs m)))
    m ρ main (fun _ => iprop(emp)) (FIN m) (u₀ (F := F)) (sep_elim_left.trans (hu₀ (Tb m) (Xs m) (Ys m) (Os m) (Gs m))) (hmain m ρ) (fq m) (hfin m) (QC m) (fun _ h hz => ⟨h, hz⟩)

end

end Cert.KernelIdeal.Wave
-- ==== Proof.Value.lean ====
/- The values: the padded table holds the embeddings transposed, and the reference's term is the embeddings' row at the index. -/
module

public import proofs.«01_k».proof.Proof.Host
public import proofs.«01_k».proof.Proof.Gen.ReferenceIdeal
public import Idealize.ShloMosaic.Lib.Pipeline.Value
public import Idealize.ShloMosaic.Lib.KernelVsHost
public import Idealize.ShloMosaic.Lib.ReduceAll
public import Idealize.ShloMosaic.Lib.Affine
public import Idealize.ShloMosaic.Lib.Routing.Ops
public import proofs.«01_k».proof.Proof.Gen.Pre_in_range

@[expose] public section

noncomputable section

namespace Cert.Value

open Idealize.ShloMosaic Idealize.ShloMosaic.ValueIdx
open Cert.KernelIdeal.Wave (table Tn tIx at1 ix16384)

variable {F : FTy → Type} [FloatOps F]

/-! ## The table -/

section
open Cert.KernelIdeal Cert.KernelIdeal.Gen

/-- An index of the table before it is padded, and of the embeddings transposed. -/
def uIx (a b : Fin 8) (r : Fin 1000000) : S8x8x1000000.Idx
  | 0 => a
  | 1 => b
  | 2 => r
  | ⟨_ + 3, h⟩ => absurd h (Nat.not_lt.2 (Nat.le_add_left _ _))

/-- The table at a pair of eighths and a material is the embeddings at that material and coordinate. -/
theorem table_at (x : S1000000x64.Idx → F .f32) (a b : Fin 8) (r : Fin 1000000) (e : Fin 64) (he : e.val = 8 * a.val + b.val) :
    Tn (table x) a.val b.val r.val = x (ix2 r e) := by
  unfold Tn table
  rw [pad_apply_of_inside _ _ _ _ _ _ _ (tIx a.val b.val r.val) (uIx a b r) ?_, shapeCast_apply _ _ (uIx a b r) (ix2 e r) ?_,
    transpose_apply _ _ _ (ix2 e r) (ix2 r e) ?_]
  · intro k
    match k with
    | 0 => rfl
    | 1 => rfl
  · rw [Shape.rowMajor_val_two, Shape.rowMajor_val_three]
    show e.val * 1000000 + r.val = (a.val * 8 + b.val) * 1000000 + r.val
    rw [he, Nat.mul_comm 8]
  · intro k
    match k with
    | 0 =>
      show a.val % 8 = 0 + a.val * (0 + 1)
      rw [Nat.mod_eq_of_lt a.isLt]; omega
    | 1 =>
      show b.val % 8 = 0 + b.val * (0 + 1)
      rw [Nat.mod_eq_of_lt b.isLt]; omega
    | 2 =>
      show r.val % 1000064 = 0 + r.val * (0 + 1)
      rw [Nat.mod_eq_of_lt (Nat.lt_trans r.isLt (by decide))]; omega

end

/-- The value of every result: row `b` is the row of the embeddings at the index list's entry `b`. -/
def val (x : (⟨2, ![1000000, 64]⟩ : Shape).Idx → F .f32) (i : (⟨1, ![16384]⟩ : Shape).Idx → BitVec 32) (hx : ∀ k, (i k).toNat < 1000000) :
    (⟨2, ![16384, 64]⟩ : Shape).Idx → F .f32 := fun e => x (ix2 ⟨(i (at1 (e 0))).toNat, hx _⟩ (e 1))

theorem kernel_value (m : (ℓ : Loc Cert.KernelIdeal.nD Cert.KernelIdeal.τ Cert.KernelIdeal.sig) → Buf (Elt F) ℓ) (d : Dev Cert.KernelIdeal.nD)
    (hx : ∀ k, (Cert.KernelIdeal.Wave.idx m d k).toNat < 1000000) :
    Cert.KernelIdeal.Wave.Gs m d = val (Cert.KernelIdeal.Wave.emb m d) (Cert.KernelIdeal.Wave.idx m d) hx := by
  funext e
  have h64 : (e 1).val < 64 := (e 1).isLt
  have hi : ix16384 (e 0).val = at1 (e 0) := by
    funext k
    match k with
    | 0 => exact Fin.ext (Nat.mod_eq_of_lt (e 0).isLt)
  unfold Cert.KernelIdeal.Wave.Gs Cert.KernelIdeal.Wave.Tb val
  dsimp only
  rw [hi]
  exact table_at (Cert.KernelIdeal.Wave.emb m d) ⟨(e 1).val / 8, by omega⟩ ⟨(e 1).val % 8, by omega⟩ ⟨(Cert.KernelIdeal.Wave.idx m d (at1 (e 0))).toNat, hx _⟩ (e 1)
    (Nat.div_add_mod (e 1).val 8).symm

/-! ## The precondition -/

theorem word_lt {x : BitVec 32} (h0 : (0#32 : BitVec 32).toInt ≤ x.toInt) (h1 : x.toInt < (1000000#32 : BitVec 32).toInt) : x.toNat < 1000000 := by
  rw [show (0#32 : BitVec 32).toInt = 0 from by decide] at h0
  rw [show (1000000#32 : BitVec 32).toInt = 1000000 from by decide] at h1
  rw [BitVec.toInt_eq_toNat_cond] at h0 h1
  split at h0 <;> omega

section
open Cert.Pre_in_range

theorem pre_lt [Cert.Pre_in_range.Facts] (a : FVec F S1000000x64 .f32) (i : IVec S16384 32) (h : fn a i = fun _ => 1#1) (k : S16384.Idx) : (i k).toNat < 1000000 := by
  have h0 := congrFun h (fun a => a.elim0)
  dsimp only [fn] at h0
  haveI : Subsingleton S_.Idx := ⟨fun a b => funext fun q => q.elim0⟩
  have h1 := IntOp.andi_eq_one.mp (Host.reduce_andi_all _ _ _ _ _ h0 k)
  exact word_lt (IntOp.cmpi_sge.mp h1.1) (IntOp.cmpi_slt.mp h1.2)

end

/-! ## The reference -/

section
open Cert.ReferenceIdeal Cert.ReferenceIdeal.Gen

omit [FloatOps F] in
theorem select_one {s : Shape} {α : Type} (c : s.Idx → BitVec 1) (a b : s.Idx → α) (j : s.Idx) (h : c j = 1#1) : select c a b j = a j := if_pos h

/-- The index list as the reference's gather takes it: a negative entry counted from the end, a column. -/
def starts (i : IVec S16384 32) : IVec S16384x1 32 :=
  broadcastInDim S16384x1 ![0] bcast_S16384_S16384x1_0
    (select (cmpi .slt i (broadcastInDim S16384 ![] bcast_S_S16384 (constantI S_ 32 0#32))) (addi i (broadcastInDim S16384 ![] bcast_S_S16384 (constantI S_ 32 1000000#32))) i)

/-- Where the gather's index is in range. -/
def inside (i : IVec S16384 32) : IVec S16384 1 :=
  Host.reduce IntOp.andi (andi (cmpi .sge (starts i) (broadcastInDim S16384x1 ![] bcast_S_S16384x1 (constantI S_ 32 0#32)))
    (cmpi .sle (starts i) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The reference's term. -/
def refTerm (a : FVec F S1000000x64 .f32) (i : IVec S16384 32) : FVec F S16384x64 .f32 :=
  select (broadcastInDim S16384x64 ![0] bcast_S16384_S16384x64_0 (inside i))
    (Host.gather gather_S1000000x64_S16384x1_S16384x64_1_0_n_n_0_1_164 a (starts i))
    (broadcastInDim S16384x64 ![] bcast_S_S16384x64 (constant S_ .f32 0x7FC00000#32))

variable {i : IVec S16384 32} (hx : ∀ k, (i k).toNat < 1000000)
include hx

theorem int_nonneg (k : S16384.Idx) : (0#32 : BitVec 32).toInt ≤ (i k).toInt ∧ (i k).toInt ≤ (999999#32 : BitVec 32).toInt := by
  have h := hx k
  rw [show (0#32 : BitVec 32).toInt = 0 from by decide, show (999999#32 : BitVec 32).toInt = 999999 from by decide, BitVec.toInt_eq_toNat_of_lt (by omega)]
  omega

theorem starts_at (j : S16384x1.Idx) : starts i j = i (at1 (j 0)) := by
  unfold starts
  refine (broadcastInDim_apply ![0] bcast_S16384_S16384x1_0 _ j (at1 (j 0)) ?_).trans ?_
  rotate_left
  · have hn : ¬ IntOp.cmpi .slt (i (at1 (j 0))) 0#32 = 1#1 := by
      rw [IntOp.cmpi_slt]
      exact not_lt.mpr (int_nonneg hx _).1
    exact if_neg hn
  · intro k
    match k with
    | 0 => rfl

theorem mask_at (c : S16384.Idx) : inside i c = 1#1 := by
  unfold inside
  refine Host.reduce_andi_one _ _ _ _ _ rfl fun j => ?_
  refine IntOp.andi_eq_one.mpr ⟨IntOp.cmpi_sge.mpr ?_, IntOp.cmpi_sle.mpr ?_⟩
  · rw [starts_at hx]; exact (int_nonneg hx _).1
  · rw [starts_at hx]; exact (int_nonneg hx _).2

theorem ref_value (a : FVec F S1000000x64 .f32) : refTerm a i = val a i hx := by
  funext e
  unfold refTerm
  have hm : broadcastInDim S16384x64 ![0] bcast_S16384_S16384x64_0 (inside i) e = 1#1 := by
    have hb := broadcastInDim_apply ![0] bcast_S16384_S16384x64_0 (inside i) e (at1 (n := 16384) (e 0)) (fun k => by
      match k with
      | 0 => rfl)
    rw [hb]
    exact mask_at hx _
  rw [select_one _ _ _ _ hm]
  have he : e = ix2 (e 0) (e 1) := by
    funext k
    match k with
    | 0 => rfl
    | 1 => rfl
  conv_lhs => rw [he]
  refine Routing.gather_row gather_S1000000x64_S16384x1_S16384x64_1_0_n_n_0_1_164 rfl rfl rfl rfl rfl a (starts i) (e 0) (e 1)
    ⟨(i (at1 (e 0))).toNat, hx _⟩ ?_ (by decide)
  rw [starts_at hx]
  exact (BitVec.ofNat_toNat _ _).symm ▸ (BitVec.setWidth_eq _).symm

end

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.ReferenceIdeal.Run
public import proofs.«01_k».proof.Proof.Gen.Pre_in_range
public import proofs.«01_k».proof.Proof.Host
public import proofs.«01_k».proof.Proof.Value
public import Idealize.ShloMosaic.Adequacy
public import Idealize.ShloMosaic.Init

@[expose] public section

noncomputable section

namespace Cert.Proof

open Idealize.ShloMosaic Idealize.SL.Sem

instance : ∀ e, Nonempty (Elt Bits e) := fun e => inferInstance

/-! ## The kernel -/

set_option maxHeartbeats 8000000 in
/-- The kernel's run at the machine's floats. The two programs have the same text, so the run of the one is the run of
    the other; to see that takes the comparison of their bodies, hence the limit. -/
theorem kernel_run (m : (ℓ : Loc Cert.Kernel.nD Cert.Kernel.τ Cert.Kernel.sig) → Buf (Elt Bits) ℓ) (ρ : Dev Cert.Kernel.nD → PrngReg)
    (hp : Cert.Pre_Kernel m) :
    θ_run (Cert.Kernel.defs (F := Bits)) (Cert.Kernel.threads (F := Bits)) ⟨m, fun _ => 0, ρ⟩ fun r =>
      (∀ c : Dev Cert.Kernel.nD,
        r.2.mem ((c.tc : Thread Cert.Kernel.nD Cert.Kernel.τ).loc Cert.Kernel.main_v5) = Cert.KernelIdeal.Wave.Gs (F := Bits) m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0 :=
  Cert.KernelIdeal.Wave.run_main (F := Bits) m ρ fun d => Cert.Value.pre_lt _ _ (hp d)

theorem frame_p : Cert.quiescent_Kernel := fun m ρ hp =>
  (θ_run Cert.Kernel.defs _ _).mono (fun _ h => ⟨fun c => (h.1 c).2, h.2⟩) (kernel_run m ρ hp)

theorem frame_pi : Cert.quiescent_KernelIdeal := fun m ρ hp =>
  (θ_run Cert.KernelIdeal.defs _ _).mono (fun _ h => ⟨fun c => (h.1 c).2, h.2⟩)
    (Cert.KernelIdeal.Wave.run_main (F := Ideal) m ρ fun d => Cert.Value.pre_lt _ _ (hp d))

/-! ## The reference -/

section
open Cert.ReferenceIdeal Cert.ReferenceIdeal.Gen
variable {F : FTy → Type} [FloatOps F]

/-- The reference's run, its result read as its term. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = Cert.Value.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end

theorem frame_ri : Cert.quiescent_ReferenceIdeal := fun m ρ _ =>
  (θ_run Cert.ReferenceIdeal.defs _ _).mono (fun r h => ⟨fun c => (h c).2, sem_eq_zero_of_no_sems (by decide) r.2⟩) (ref_run m ρ)

theorem frame_r : Cert.quiescent_Reference := fun m ρ _ =>
  (θ_run Cert.ReferenceIdeal.defs _ _).mono (fun r h => ⟨fun c => (h c).2, sem_eq_zero_of_no_sems (by decide) r.2⟩) (ref_run (F := Bits) m ρ)

/-! ## Their values -/

/-- At the machine's floats the two results are the same words. -/
theorem bitexact : Cert.bitexact_Kernel_Reference := by
  intro m ρ m' ρ' hp hagree
  have hx : ∀ (d : Dev Cert.KernelIdeal.nD) (k), (Cert.KernelIdeal.Wave.idx (F := Bits) m d k).toNat < 1000000 := fun d => Cert.Value.pre_lt _ _ (hp d)
  refine ⟨fun c => Cert.KernelIdeal.Wave.Gs (F := Bits) m c,
    (θ_run Cert.Kernel.defs _ _).mono (fun _ h => h.1) (kernel_run m ρ hp),
    (θ_run Cert.ReferenceIdeal.defs _ _).mono (fun _ h c => ⟨(h c).1.trans ?_, (h c).2⟩) (ref_run (F := Bits) m' ρ')⟩
  rw [(hagree c).1, (hagree c).2]
  exact (Cert.Value.ref_value (hx c) _).trans (Cert.Value.kernel_value m c (hx c)).symm

theorem algebraic : Cert.algebraic_KernelIdeal_ReferenceIdeal := by
  intro m ρ m' ρ' hp hagree
  have hx : ∀ (d : Dev Cert.KernelIdeal.nD) (k), (Cert.KernelIdeal.Wave.idx m d k).toNat < 1000000 := fun d => Cert.Value.pre_lt _ _ (hp d)
  refine ⟨fun c => Cert.KernelIdeal.Wave.Gs m c,
    (θ_run Cert.KernelIdeal.defs _ _).mono (fun _ h => h.1) (Cert.KernelIdeal.Wave.run_main (F := Ideal) m ρ hx),
    (θ_run Cert.ReferenceIdeal.defs _ _).mono (fun _ h c => ⟨(h c).1.trans ?_, (h c).2⟩) (ref_run m' ρ')⟩
  rw [(hagree c).1, (hagree c).2]
  exact (Cert.Value.ref_value (hx c) _).trans (Cert.Value.kernel_value m c (hx c)).symm

theorem claim : Cert.Claim :=
  ⟨Cert.Kernel.Gen.facts, Cert.KernelIdeal.Gen.facts, Cert.Reference.Gen.facts, Cert.ReferenceIdeal.Gen.facts, Cert.Pre_in_range.Gen.facts,
    frame_p, frame_pi, frame_r, fun m ρ _ => frame_r m ρ trivial, frame_ri, fun m ρ _ => frame_ri m ρ trivial, trivial, bitexact, algebraic⟩

end Cert.Proof
